-- ==== Defs.lean ====
def Pre_Kernel (m : (ℓ : Loc Cert.Kernel.nD Cert.Kernel.τ Cert.Kernel.sig) → Buf (Elt Bits) ℓ) : Prop :=
  True

def Pre_Reference (m : (ℓ : Loc Cert.Reference.nD Cert.Reference.τ Cert.Reference.sig) → Buf (Elt Bits) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_gains [hPre_finite_gains : Cert.Pre_finite_gains.Facts] (m : (ℓ : Loc Cert.AttnIdeal.nD Cert.AttnIdeal.τ Cert.AttnIdeal.sig) → Buf (Elt Ideal) ℓ) : Prop :=
  ∀ c : Dev Cert.AttnIdeal.nD,
    (Cert.Pre_finite_gains.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_gains [hPre_finite_gains : Cert.Pre_finite_gains.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_gains.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))) = (fun _ => 1#1)

def Pre_Outproj (m : (ℓ : Loc Cert.Outproj.nD Cert.Outproj.τ Cert.Outproj.sig) → Buf (Elt Bits) ℓ) : Prop :=
  True

def Pre_OutprojIdeal (m : (ℓ : Loc Cert.OutprojIdeal.nD Cert.OutprojIdeal.τ Cert.OutprojIdeal.sig) → Buf (Elt Ideal) ℓ) : Prop :=
  True

def Pre_OutprojRefIdeal (m : (ℓ : Loc Cert.OutprojRefIdeal.nD Cert.OutprojRefIdeal.τ Cert.OutprojRefIdeal.sig) → Buf (Elt Ideal) ℓ) : Prop :=
  True

def Pre_Query (m : (ℓ : Loc Cert.Query.nD Cert.Query.τ Cert.Query.sig) → Buf (Elt Bits) ℓ) : Prop :=
  True

def Pre_QueryIdeal (m : (ℓ : Loc Cert.QueryIdeal.nD Cert.QueryIdeal.τ Cert.QueryIdeal.sig) → Buf (Elt Ideal) ℓ) : Prop :=
  True

def Pre_QueryRefIdeal (m : (ℓ : Loc Cert.QueryRefIdeal.nD Cert.QueryRefIdeal.τ Cert.QueryRefIdeal.sig) → Buf (Elt Ideal) ℓ) : Prop :=
  True

def Pre_Combine (m : (ℓ : Loc Cert.Combine.nD Cert.Combine.τ Cert.Combine.sig) → Buf (Elt Bits) ℓ) : Prop :=
  True

def Pre_CombineIdeal (m : (ℓ : Loc Cert.CombineIdeal.nD Cert.CombineIdeal.τ Cert.CombineIdeal.sig) → Buf (Elt Ideal) ℓ) : Prop :=
  True

def Pre_CombineRefIdeal (m : (ℓ : Loc Cert.CombineRefIdeal.nD Cert.CombineRefIdeal.τ Cert.CombineRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_finite_gains [hAttnIdeal : Cert.AttnIdeal.Facts] [hPre_finite_gains : Cert.Pre_finite_gains.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_gains m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_finite_gains [hAttnRefIdeal : Cert.AttnRefIdeal.Facts] [hPre_finite_gains : Cert.Pre_finite_gains.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_gains m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_Outproj [hOutproj : Cert.Outproj.Facts] : Prop :=
  ∀ (m : (ℓ : Loc Cert.Outproj.nD Cert.Outproj.τ Cert.Outproj.sig) → Buf (Elt Bits) ℓ) (g : Dev Cert.Outproj.nD → PrngReg), Pre_Outproj m →
    θ_run (Cert.Outproj.defs (F := Bits)) (onTc (τ := Cert.Outproj.τ) (Cert.Outproj.main (F := Bits))) ⟨m, fun _ => 0, g⟩ (fun r => (∀ c : Dev Cert.Outproj.nD,
      r.2.mem ((c.tc : Thread Cert.Outproj.nD Cert.Outproj.τ).loc Cert.Outproj.main_arg0) = m ((c.tc : Thread Cert.Outproj.nD Cert.Outproj.τ).loc Cert.Outproj.main_arg0)
      ∧ r.2.mem ((c.tc : Thread Cert.Outproj.nD Cert.Outproj.τ).loc Cert.Outproj.main_arg1) = m ((c.tc : Thread Cert.Outproj.nD Cert.Outproj.τ).loc Cert.Outproj.main_arg1)
      ∧ r.2.mem ((c.tc : Thread Cert.Outproj.nD Cert.Outproj.τ).loc Cert.Outproj.main_arg2) = m ((c.tc : Thread Cert.Outproj.nD Cert.Outproj.τ).loc Cert.Outproj.main_arg2)
      ∧ r.2.mem ((c.tc : Thread Cert.Outproj.nD Cert.Outproj.τ).loc Cert.Outproj.main_arg3) = m ((c.tc : Thread Cert.Outproj.nD Cert.Outproj.τ).loc Cert.Outproj.main_arg3))
      ∧ r.2.sem = fun _ => 0)

def quiescent_OutprojIdeal [hOutprojIdeal : Cert.OutprojIdeal.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
      ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3))
      ∧ r.2.sem = fun _ => 0)

def quiescent_OutprojRefIdeal [hOutprojRefIdeal : Cert.OutprojRefIdeal.Facts] : Prop :=
  ∀ (m : (ℓ : Loc Cert.OutprojRefIdeal.nD Cert.OutprojRefIdeal.τ Cert.OutprojRefIdeal.sig) → Buf (Elt Ideal) ℓ) (g : Dev Cert.OutprojRefIdeal.nD → PrngReg), Pre_OutprojRefIdeal m →
    θ_run (Cert.OutprojRefIdeal.defs (F := Ideal)) (onTc (τ := Cert.OutprojRefIdeal.τ) (Cert.OutprojRefIdeal.main (F := Ideal))) ⟨m, fun _ => 0, g⟩ (fun r => (∀ c : Dev Cert.OutprojRefIdeal.nD,
      r.2.mem ((c.tc : Thread Cert.OutprojRefIdeal.nD Cert.OutprojRefIdeal.τ).loc Cert.OutprojRefIdeal.main_arg0) = m ((c.tc : Thread Cert.OutprojRefIdeal.nD Cert.OutprojRefIdeal.τ).loc Cert.OutprojRefIdeal.main_arg0)
      ∧ r.2.mem ((c.tc : Thread Cert.OutprojRefIdeal.nD Cert.OutprojRefIdeal.τ).loc Cert.OutprojRefIdeal.main_arg1) = m ((c.tc : Thread Cert.OutprojRefIdeal.nD Cert.OutprojRefIdeal.τ).loc Cert.OutprojRefIdeal.main_arg1)
      ∧ r.2.mem ((c.tc : Thread Cert.OutprojRefIdeal.nD Cert.OutprojRefIdeal.τ).loc Cert.OutprojRefIdeal.main_arg2) = m ((c.tc : Thread Cert.OutprojRefIdeal.nD Cert.OutprojRefIdeal.τ).loc Cert.OutprojRefIdeal.main_arg2)
      ∧ r.2.mem ((c.tc : Thread Cert.OutprojRefIdeal.nD Cert.OutprojRefIdeal.τ).loc Cert.OutprojRefIdeal.main_arg3) = m ((c.tc : Thread Cert.OutprojRefIdeal.nD Cert.OutprojRefIdeal.τ).loc Cert.OutprojRefIdeal.main_arg3))
      ∧ r.2.sem = fun _ => 0)

def quiescent_Query [hQuery : Cert.Query.Facts] : Prop :=
  ∀ (m : (ℓ : Loc Cert.Query.nD Cert.Query.τ Cert.Query.sig) → Buf (Elt Bits) ℓ) (g : Dev Cert.Query.nD → PrngReg), Pre_Query m →
    θ_run (Cert.Query.defs (F := Bits)) (onTc (τ := Cert.Query.τ) (Cert.Query.main (F := Bits))) ⟨m, fun _ => 0, g⟩ (fun r => (∀ c : Dev Cert.Query.nD,
      r.2.mem ((c.tc : Thread Cert.Query.nD Cert.Query.τ).loc Cert.Query.main_arg0) = m ((c.tc : Thread Cert.Query.nD Cert.Query.τ).loc Cert.Query.main_arg0)
      ∧ r.2.mem ((c.tc : Thread Cert.Query.nD Cert.Query.τ).loc Cert.Query.main_arg1) = m ((c.tc : Thread Cert.Query.nD Cert.Query.τ).loc Cert.Query.main_arg1)
      ∧ r.2.mem ((c.tc : Thread Cert.Query.nD Cert.Query.τ).loc Cert.Query.main_arg2) = m ((c.tc : Thread Cert.Query.nD Cert.Query.τ).loc Cert.Query.main_arg2))
      ∧ r.2.sem = fun _ => 0)

def quiescent_QueryIdeal [hQueryIdeal : Cert.QueryIdeal.Facts] : Prop :=
  ∀ (m : (ℓ : Loc Cert.QueryIdeal.nD Cert.QueryIdeal.τ Cert.QueryIdeal.sig) → Buf (Elt Ideal) ℓ) (g : Dev Cert.QueryIdeal.nD → PrngReg), Pre_QueryIdeal m →
    θ_run (Cert.QueryIdeal.defs (F := Ideal)) (onTc (τ := Cert.QueryIdeal.τ) (Cert.QueryIdeal.main (F := Ideal))) ⟨m, fun _ => 0, g⟩ (fun r => (∀ c : Dev Cert.QueryIdeal.nD,
      r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
      ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1)
      ∧ r.2.mem ((c.tc : Thread Cert.QueryIdeal.nD Cert.QueryIdeal.τ).loc Cert.QueryIdeal.main_arg2) = m ((c.tc : Thread Cert.QueryIdeal.nD Cert.QueryIdeal.τ).loc Cert.QueryIdeal.main_arg2))
      ∧ r.2.sem = fun _ => 0)

def quiescent_QueryRefIdeal [hQueryRefIdeal : Cert.QueryRefIdeal.Facts] : Prop :=
  ∀ (m : (ℓ : Loc Cert.QueryRefIdeal.nD Cert.QueryRefIdeal.τ Cert.QueryRefIdeal.sig) → Buf (Elt Ideal) ℓ) (g : Dev Cert.QueryRefIdeal.nD → PrngReg), Pre_QueryRefIdeal m →
    θ_run (Cert.QueryRefIdeal.defs (F := Ideal)) (onTc (τ := Cert.QueryRefIdeal.τ) (Cert.QueryRefIdeal.main (F := Ideal))) ⟨m, fun _ => 0, g⟩ (fun r => (∀ c : Dev Cert.QueryRefIdeal.nD,
      r.2.mem ((c.tc : Thread Cert.QueryRefIdeal.nD Cert.QueryRefIdeal.τ).loc Cert.QueryRefIdeal.main_arg0) = m ((c.tc : Thread Cert.QueryRefIdeal.nD Cert.QueryRefIdeal.τ).loc Cert.QueryRefIdeal.main_arg0)
      ∧ r.2.mem ((c.tc : Thread Cert.QueryRefIdeal.nD Cert.QueryRefIdeal.τ).loc Cert.QueryRefIdeal.main_arg1) = m ((c.tc : Thread Cert.QueryRefIdeal.nD Cert.QueryRefIdeal.τ).loc Cert.QueryRefIdeal.main_arg1)
      ∧ r.2.mem ((c.tc : Thread Cert.QueryRefIdeal.nD Cert.QueryRefIdeal.τ).loc Cert.QueryRefIdeal.main_arg2) = m ((c.tc : Thread Cert.QueryRefIdeal.nD Cert.QueryRefIdeal.τ).loc Cert.QueryRefIdeal.main_arg2))
      ∧ r.2.sem = fun _ => 0)

def quiescent_Combine [hCombine : Cert.Combine.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2))
      ∧ r.2.sem = fun _ => 0)

def quiescent_CombineIdeal [hCombineIdeal : Cert.CombineIdeal.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2))
      ∧ r.2.sem = fun _ => 0)

def quiescent_CombineRefIdeal [hCombineRefIdeal : Cert.CombineRefIdeal.Facts] : Prop :=
  ∀ (m : (ℓ : Loc Cert.CombineRefIdeal.nD Cert.CombineRefIdeal.τ Cert.CombineRefIdeal.sig) → Buf (Elt Ideal) ℓ) (g : Dev Cert.CombineRefIdeal.nD → PrngReg), Pre_CombineRefIdeal m →
    θ_run (Cert.CombineRefIdeal.defs (F := Ideal)) (onTc (τ := Cert.CombineRefIdeal.τ) (Cert.CombineRefIdeal.main (F := Ideal))) ⟨m, fun _ => 0, g⟩ (fun r => (∀ c : Dev Cert.CombineRefIdeal.nD,
      r.2.mem ((c.tc : Thread Cert.CombineRefIdeal.nD Cert.CombineRefIdeal.τ).loc Cert.CombineRefIdeal.main_arg0) = m ((c.tc : Thread Cert.CombineRefIdeal.nD Cert.CombineRefIdeal.τ).loc Cert.CombineRefIdeal.main_arg0)
      ∧ r.2.mem ((c.tc : Thread Cert.CombineRefIdeal.nD Cert.CombineRefIdeal.τ).loc Cert.CombineRefIdeal.main_arg1) = m ((c.tc : Thread Cert.CombineRefIdeal.nD Cert.CombineRefIdeal.τ).loc Cert.CombineRefIdeal.main_arg1)
      ∧ r.2.mem ((c.tc : Thread Cert.CombineRefIdeal.nD Cert.CombineRefIdeal.τ).loc Cert.CombineRefIdeal.main_arg2) = m ((c.tc : Thread Cert.CombineRefIdeal.nD Cert.CombineRefIdeal.τ).loc Cert.CombineRefIdeal.main_arg2))
      ∧ r.2.sem = fun _ => 0)

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v7) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)) →
    ∃ (v0 : (c : Dev Cert.InprojIdeal.nD) → Buf (Elt Ideal) ((c.tc : Thread Cert.InprojIdeal.nD Cert.InprojIdeal.τ).loc Cert.InprojIdeal.main_v8)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v8) = v0 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v20) = v0 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v3)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v3) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v49) = v0 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2))

def preserves_Attn_AttnIdeal : Prop :=
  True

def algebraic_AttnIdeal_AttnRefIdeal_pre_finite_gains [hAttnIdeal : Cert.AttnIdeal.Facts] [hAttnRefIdeal : Cert.AttnRefIdeal.Facts] [hPre_finite_gains : Cert.Pre_finite_gains.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_gains m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v6)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v6) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v80) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_Outproj_OutprojIdeal : Prop :=
  True

def algebraic_OutprojIdeal_OutprojRefIdeal [hOutprojIdeal : Cert.OutprojIdeal.Facts] [hOutprojRefIdeal : Cert.OutprojRefIdeal.Facts] : Prop :=
  ∀ (m : (ℓ : Loc Cert.OutprojIdeal.nD Cert.OutprojIdeal.τ Cert.OutprojIdeal.sig) → Buf (Elt Ideal) ℓ) (g : Dev Cert.OutprojIdeal.nD → PrngReg)
    (m' : (ℓ : Loc Cert.OutprojRefIdeal.nD Cert.OutprojRefIdeal.τ Cert.OutprojRefIdeal.sig) → Buf (Elt Ideal) ℓ) (g' : Dev Cert.OutprojRefIdeal.nD → PrngReg), Pre_OutprojIdeal m →
    (∀ c : Dev Cert.OutprojIdeal.nD,
      m' ((c.tc : Thread Cert.OutprojRefIdeal.nD Cert.OutprojRefIdeal.τ).loc Cert.OutprojRefIdeal.main_arg0) = m ((c.tc : Thread Cert.OutprojIdeal.nD Cert.OutprojIdeal.τ).loc Cert.OutprojIdeal.main_arg0)
      ∧ m' ((c.tc : Thread Cert.OutprojRefIdeal.nD Cert.OutprojRefIdeal.τ).loc Cert.OutprojRefIdeal.main_arg1) = m ((c.tc : Thread Cert.OutprojIdeal.nD Cert.OutprojIdeal.τ).loc Cert.OutprojIdeal.main_arg1)
      ∧ m' ((c.tc : Thread Cert.OutprojRefIdeal.nD Cert.OutprojRefIdeal.τ).loc Cert.OutprojRefIdeal.main_arg2) = m ((c.tc : Thread Cert.OutprojIdeal.nD Cert.OutprojIdeal.τ).loc Cert.OutprojIdeal.main_arg2)
      ∧ m' ((c.tc : Thread Cert.OutprojRefIdeal.nD Cert.OutprojRefIdeal.τ).loc Cert.OutprojRefIdeal.main_arg3) = m ((c.tc : Thread Cert.OutprojIdeal.nD Cert.OutprojIdeal.τ).loc Cert.OutprojIdeal.main_arg3)) →
    ∃ (v0 : (c : Dev Cert.OutprojIdeal.nD) → Buf (Elt Ideal) ((c.tc : Thread Cert.OutprojIdeal.nD Cert.OutprojIdeal.τ).loc Cert.OutprojIdeal.main_v2)),
      θ_run (Cert.OutprojIdeal.defs (F := Ideal)) (onTc (τ := Cert.OutprojIdeal.τ) (Cert.OutprojIdeal.main (F := Ideal))) ⟨m, fun _ => 0, g⟩ (fun r => ∀ c : Dev Cert.OutprojIdeal.nD,
          r.2.mem ((c.tc : Thread Cert.OutprojIdeal.nD Cert.OutprojIdeal.τ).loc Cert.OutprojIdeal.main_v2) = v0 c
          ∧ r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
          ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
          ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
          ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3))
      ∧ θ_run (Cert.OutprojRefIdeal.defs (F := Ideal)) (onTc (τ := Cert.OutprojRefIdeal.τ) (Cert.OutprojRefIdeal.main (F := Ideal))) ⟨m', fun _ => 0, g'⟩ (fun r => ∀ c : Dev Cert.OutprojRefIdeal.nD,
          r.2.mem ((c.tc : Thread Cert.OutprojRefIdeal.nD Cert.OutprojRefIdeal.τ).loc Cert.OutprojRefIdeal.main_v4) = v0 c
          ∧ r.2.mem ((c.tc : Thread Cert.OutprojRefIdeal.nD Cert.OutprojRefIdeal.τ).loc Cert.OutprojRefIdeal.main_arg0) = m' ((c.tc : Thread Cert.OutprojRefIdeal.nD Cert.OutprojRefIdeal.τ).loc Cert.OutprojRefIdeal.main_arg0)
          ∧ r.2.mem ((c.tc : Thread Cert.OutprojRefIdeal.nD Cert.OutprojRefIdeal.τ).loc Cert.OutprojRefIdeal.main_arg1) = m' ((c.tc : Thread Cert.OutprojRefIdeal.nD Cert.OutprojRefIdeal.τ).loc Cert.OutprojRefIdeal.main_arg1)
          ∧ r.2.mem ((c.tc : Thread Cert.OutprojRefIdeal.nD Cert.OutprojRefIdeal.τ).loc Cert.OutprojRefIdeal.main_arg2) = m' ((c.tc : Thread Cert.OutprojRefIdeal.nD Cert.OutprojRefIdeal.τ).loc Cert.OutprojRefIdeal.main_arg2)
          ∧ r.2.mem ((c.tc : Thread Cert.OutprojRefIdeal.nD Cert.OutprojRefIdeal.τ).loc Cert.OutprojRefIdeal.main_arg3) = m' ((c.tc : Thread Cert.OutprojRefIdeal.nD Cert.OutprojRefIdeal.τ).loc Cert.OutprojRefIdeal.main_arg3))

def preserves_Query_QueryIdeal : Prop :=
  True

def algebraic_QueryIdeal_QueryRefIdeal [hQueryIdeal : Cert.QueryIdeal.Facts] [hQueryRefIdeal : Cert.QueryRefIdeal.Facts] : Prop :=
  ∀ (m : (ℓ : Loc Cert.QueryIdeal.nD Cert.QueryIdeal.τ Cert.QueryIdeal.sig) → Buf (Elt Ideal) ℓ) (g : Dev Cert.QueryIdeal.nD → PrngReg)
    (m' : (ℓ : Loc Cert.QueryRefIdeal.nD Cert.QueryRefIdeal.τ Cert.QueryRefIdeal.sig) → Buf (Elt Ideal) ℓ) (g' : Dev Cert.QueryRefIdeal.nD → PrngReg), Pre_QueryIdeal m →
    (∀ c : Dev Cert.QueryIdeal.nD,
      m' ((c.tc : Thread Cert.QueryRefIdeal.nD Cert.QueryRefIdeal.τ).loc Cert.QueryRefIdeal.main_arg0) = m ((c.tc : Thread Cert.QueryIdeal.nD Cert.QueryIdeal.τ).loc Cert.QueryIdeal.main_arg0)
      ∧ m' ((c.tc : Thread Cert.QueryRefIdeal.nD Cert.QueryRefIdeal.τ).loc Cert.QueryRefIdeal.main_arg1) = m ((c.tc : Thread Cert.QueryIdeal.nD Cert.QueryIdeal.τ).loc Cert.QueryIdeal.main_arg1)
      ∧ m' ((c.tc : Thread Cert.QueryRefIdeal.nD Cert.QueryRefIdeal.τ).loc Cert.QueryRefIdeal.main_arg2) = m ((c.tc : Thread Cert.QueryIdeal.nD Cert.QueryIdeal.τ).loc Cert.QueryIdeal.main_arg2)) →
    ∃ (v0 : (c : Dev Cert.QueryIdeal.nD) → Buf (Elt Ideal) ((c.tc : Thread Cert.QueryIdeal.nD Cert.QueryIdeal.τ).loc Cert.QueryIdeal.main_v4_0)) (v1 : (c : Dev Cert.QueryIdeal.nD) → Buf (Elt Ideal) ((c.tc : Thread Cert.QueryIdeal.nD Cert.QueryIdeal.τ).loc Cert.QueryIdeal.main_v4_1)),
      θ_run (Cert.QueryIdeal.defs (F := Ideal)) (onTc (τ := Cert.QueryIdeal.τ) (Cert.QueryIdeal.main (F := Ideal))) ⟨m, fun _ => 0, g⟩ (fun r => ∀ c : Dev Cert.QueryIdeal.nD,
          r.2.mem ((c.tc : Thread Cert.QueryIdeal.nD Cert.QueryIdeal.τ).loc Cert.QueryIdeal.main_v4_0) = v0 c
          ∧ r.2.mem ((c.tc : Thread Cert.QueryIdeal.nD Cert.QueryIdeal.τ).loc Cert.QueryIdeal.main_v4_1) = v1 c
          ∧ r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
          ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1)
          ∧ r.2.mem ((c.tc : Thread Cert.QueryIdeal.nD Cert.QueryIdeal.τ).loc Cert.QueryIdeal.main_arg2) = m ((c.tc : Thread Cert.QueryIdeal.nD Cert.QueryIdeal.τ).loc Cert.QueryIdeal.main_arg2))
      ∧ θ_run (Cert.QueryRefIdeal.defs (F := Ideal)) (onTc (τ := Cert.QueryRefIdeal.τ) (Cert.QueryRefIdeal.main (F := Ideal))) ⟨m', fun _ => 0, g'⟩ (fun r => ∀ c : Dev Cert.QueryRefIdeal.nD,
          r.2.mem ((c.tc : Thread Cert.QueryRefIdeal.nD Cert.QueryRefIdeal.τ).loc Cert.QueryRefIdeal.main_v16) = v0 c
          ∧ r.2.mem ((c.tc : Thread Cert.QueryRefIdeal.nD Cert.QueryRefIdeal.τ).loc Cert.QueryRefIdeal.main_v17) = v1 c
          ∧ r.2.mem ((c.tc : Thread Cert.QueryRefIdeal.nD Cert.QueryRefIdeal.τ).loc Cert.QueryRefIdeal.main_arg0) = m' ((c.tc : Thread Cert.QueryRefIdeal.nD Cert.QueryRefIdeal.τ).loc Cert.QueryRefIdeal.main_arg0)
          ∧ r.2.mem ((c.tc : Thread Cert.QueryRefIdeal.nD Cert.QueryRefIdeal.τ).loc Cert.QueryRefIdeal.main_arg1) = m' ((c.tc : Thread Cert.QueryRefIdeal.nD Cert.QueryRefIdeal.τ).loc Cert.QueryRefIdeal.main_arg1)
          ∧ r.2.mem ((c.tc : Thread Cert.QueryRefIdeal.nD Cert.QueryRefIdeal.τ).loc Cert.QueryRefIdeal.main_arg2) = m' ((c.tc : Thread Cert.QueryRefIdeal.nD Cert.QueryRefIdeal.τ).loc Cert.QueryRefIdeal.main_arg2))

def preserves_Combine_CombineIdeal : Prop :=
  True

def algebraic_CombineIdeal_CombineRefIdeal [hCombineIdeal : Cert.CombineIdeal.Facts] [hCombineRefIdeal : Cert.CombineRefIdeal.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineRefIdeal.nD Cert.CombineRefIdeal.τ Cert.CombineRefIdeal.sig) → Buf (Elt Ideal) ℓ) (g' : Dev Cert.CombineRefIdeal.nD → PrngReg), Pre_CombineIdeal m →
    (∀ c : Dev Cert.CombineIdeal.nD,
      m' ((c.tc : Thread Cert.CombineRefIdeal.nD Cert.CombineRefIdeal.τ).loc Cert.CombineRefIdeal.main_arg0) = m ((c.tc : Thread Cert.CombineIdeal.nD Cert.CombineIdeal.τ).loc Cert.CombineIdeal.main_arg0)
      ∧ m' ((c.tc : Thread Cert.CombineRefIdeal.nD Cert.CombineRefIdeal.τ).loc Cert.CombineRefIdeal.main_arg1) = m ((c.tc : Thread Cert.CombineIdeal.nD Cert.CombineIdeal.τ).loc Cert.CombineIdeal.main_arg1)
      ∧ m' ((c.tc : Thread Cert.CombineRefIdeal.nD Cert.CombineRefIdeal.τ).loc Cert.CombineRefIdeal.main_arg2) = m ((c.tc : Thread Cert.CombineIdeal.nD Cert.CombineIdeal.τ).loc Cert.CombineIdeal.main_arg2)) →
    ∃ (v0 : (c : Dev Cert.CombineIdeal.nD) → Buf (Elt Ideal) ((c.tc : Thread Cert.CombineIdeal.nD Cert.CombineIdeal.τ).loc Cert.CombineIdeal.main_v3)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v3) = v0 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2))
      ∧ θ_run (Cert.CombineRefIdeal.defs (F := Ideal)) (onTc (τ := Cert.CombineRefIdeal.τ) (Cert.CombineRefIdeal.main (F := Ideal))) ⟨m', fun _ => 0, g'⟩ (fun r => ∀ c : Dev Cert.CombineRefIdeal.nD,
          r.2.mem ((c.tc : Thread Cert.CombineRefIdeal.nD Cert.CombineRefIdeal.τ).loc Cert.CombineRefIdeal.main_v9) = v0 c
          ∧ r.2.mem ((c.tc : Thread Cert.CombineRefIdeal.nD Cert.CombineRefIdeal.τ).loc Cert.CombineRefIdeal.main_arg0) = m' ((c.tc : Thread Cert.CombineRefIdeal.nD Cert.CombineRefIdeal.τ).loc Cert.CombineRefIdeal.main_arg0)
          ∧ r.2.mem ((c.tc : Thread Cert.CombineRefIdeal.nD Cert.CombineRefIdeal.τ).loc Cert.CombineRefIdeal.main_arg1) = m' ((c.tc : Thread Cert.CombineRefIdeal.nD Cert.CombineRefIdeal.τ).loc Cert.CombineRefIdeal.main_arg1)
          ∧ r.2.mem ((c.tc : Thread Cert.CombineRefIdeal.nD Cert.CombineRefIdeal.τ).loc Cert.CombineRefIdeal.main_arg2) = m' ((c.tc : Thread Cert.CombineRefIdeal.nD Cert.CombineRefIdeal.τ).loc Cert.CombineRefIdeal.main_arg2))

def Claim : Prop :=
  ∃ (hKernel : Cert.Kernel.Facts) (hReference : Cert.Reference.Facts) (hInproj : Cert.Inproj.Facts) (hInprojIdeal : Cert.InprojIdeal.Facts) (hInprojRefIdeal : Cert.InprojRefIdeal.Facts) (hConv : Cert.Conv.Facts) (hConvIdeal : Cert.ConvIdeal.Facts) (hConvRefIdeal : Cert.ConvRefIdeal.Facts) (hAttn : Cert.Attn.Facts) (hAttnIdeal : Cert.AttnIdeal.Facts) (hAttnRefIdeal : Cert.AttnRefIdeal.Facts) (hOutproj : Cert.Outproj.Facts) (hOutprojIdeal : Cert.OutprojIdeal.Facts) (hOutprojRefIdeal : Cert.OutprojRefIdeal.Facts) (hQuery : Cert.Query.Facts) (hQueryIdeal : Cert.QueryIdeal.Facts) (hQueryRefIdeal : Cert.QueryRefIdeal.Facts) (hCombine : Cert.Combine.Facts) (hCombineIdeal : Cert.CombineIdeal.Facts) (hCombineRefIdeal : Cert.CombineRefIdeal.Facts) (hPre_finite_gains : Cert.Pre_finite_gains.Facts),
    quiescent_Kernel (hKernel := hKernel)
    ∧ quiescent_Reference (hReference := hReference)
    ∧ quiescent_Inproj (hInproj := hInproj)
    ∧ quiescent_InprojIdeal (hInprojIdeal := hInprojIdeal)
    ∧ quiescent_InprojRefIdeal (hInprojRefIdeal := hInprojRefIdeal)
    ∧ quiescent_Conv (hConv := hConv)
    ∧ quiescent_ConvIdeal (hConvIdeal := hConvIdeal)
    ∧ quiescent_ConvRefIdeal (hConvRefIdeal := hConvRefIdeal)
    ∧ quiescent_Attn (hAttn := hAttn)
    ∧ quiescent_AttnIdeal (hAttnIdeal := hAttnIdeal)
    ∧ quiescent_AttnIdeal_pre_finite_gains (hAttnIdeal := hAttnIdeal) (hPre_finite_gains := hPre_finite_gains)
    ∧ quiescent_AttnRefIdeal (hAttnRefIdeal := hAttnRefIdeal)
    ∧ quiescent_AttnRefIdeal_pre_finite_gains (hAttnRefIdeal := hAttnRefIdeal) (hPre_finite_gains := hPre_finite_gains)
    ∧ quiescent_Outproj (hOutproj := hOutproj)
    ∧ quiescent_OutprojIdeal (hOutprojIdeal := hOutprojIdeal)
    ∧ quiescent_OutprojRefIdeal (hOutprojRefIdeal := hOutprojRefIdeal)
    ∧ quiescent_Query (hQuery := hQuery)
    ∧ quiescent_QueryIdeal (hQueryIdeal := hQueryIdeal)
    ∧ quiescent_QueryRefIdeal (hQueryRefIdeal := hQueryRefIdeal)
    ∧ quiescent_Combine (hCombine := hCombine)
    ∧ quiescent_CombineIdeal (hCombineIdeal := hCombineIdeal)
    ∧ quiescent_CombineRefIdeal (hCombineRefIdeal := hCombineRefIdeal)
    ∧ bitexact_Kernel_Reference (hKernel := hKernel) (hReference := hReference)
    ∧ preserves_Inproj_InprojIdeal
    ∧ algebraic_InprojIdeal_InprojRefIdeal (hInprojIdeal := hInprojIdeal) (hInprojRefIdeal := hInprojRefIdeal)
    ∧ preserves_Conv_ConvIdeal
    ∧ algebraic_ConvIdeal_ConvRefIdeal (hConvIdeal := hConvIdeal) (hConvRefIdeal := hConvRefIdeal)
    ∧ preserves_Attn_AttnIdeal
    ∧ algebraic_AttnIdeal_AttnRefIdeal_pre_finite_gains (hAttnIdeal := hAttnIdeal) (hAttnRefIdeal := hAttnRefIdeal) (hPre_finite_gains := hPre_finite_gains)
    ∧ preserves_Outproj_OutprojIdeal
    ∧ algebraic_OutprojIdeal_OutprojRefIdeal (hOutprojIdeal := hOutprojIdeal) (hOutprojRefIdeal := hOutprojRefIdeal)
    ∧ preserves_Query_QueryIdeal
    ∧ algebraic_QueryIdeal_QueryRefIdeal (hQueryIdeal := hQueryIdeal) (hQueryRefIdeal := hQueryRefIdeal)
    ∧ preserves_Combine_CombineIdeal
    ∧ algebraic_CombineIdeal_CombineRefIdeal (hCombineIdeal := hCombineIdeal) (hCombineRefIdeal := hCombineRefIdeal)
-- ==== Pre_finite_gains.lean ====
abbrev S8x2064x6144 : Shape := ⟨3, ![8, 2064, 6144]⟩
abbrev S1x128 : Shape := ⟨2, ![1, 128]⟩
abbrev S1x2048 : Shape := ⟨2, ![1, 2048]⟩
abbrev S1x256 : Shape := ⟨2, ![1, 256]⟩
abbrev S_ : Shape := ⟨0, ![]⟩

class Facts : Prop where
  concatenates_S1x128_S1x128_S1x256_d1 : Shape.Concatenates [S1x128, S1x128] S1x256 1
  bcast_S_S1x256 : S_.BroadcastsInDim S1x256 (![] : Fin 0 → Fin S1x256.rank)

variable [Facts]

def fn {F : FTy → Type} [FloatOps F] (main_arg0 : FVec F S8x2064x6144 .bf16) (main_arg1 : FVec F S1x128 .f32) (main_arg2 : FVec F S1x128 .f32) (main_arg3 : FVec F S1x2048 .f32) : IVec S1x256 1 :=
  let main_v0 : FVec F S1x256 .f32 := (fun a b => concatenate S1x256 1 [⟨S1x128, a⟩, ⟨S1x128, b⟩] concatenates_S1x128_S1x128_S1x256_d1) main_arg1 main_arg2
  let main_v1 : FVec F S1x256 .f32 := Host.absf main_v0
  let main_cst : FVec F S_ .f32 := constant S_ .f32 0x7F800000#32
  let main_v2 : FVec F S1x256 .f32 := broadcastInDim S1x256 ![] bcast_S_S1x256 main_cst
  let main_v3 : IVec S1x256 1 := cmpf .olt main_v1 main_v2
  main_v3
-- ==== Kernel.lean ====
abbrev S16384x2048 : Shape := ⟨2, ![16384, 2048]⟩
abbrev S262144x128 : Shape := ⟨2, ![262144, 128]⟩
abbrev S256x2048 : Shape := ⟨2, ![256, 2048]⟩
abbrev S4096x128 : Shape := ⟨2, ![4096, 128]⟩
abbrev S256x128 : Shape := ⟨2, ![256, 128]⟩

abbrev nBuf : Space → Nat
  | .hbm => 3
  | .vmem => 6
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S262144x128, .i32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S4096x128, .i32⟩
  | .local _ .vmem, ⟨5, _⟩ => ⟨S4096x128, .i32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [BitOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference.lean ====
abbrev S16384x2048 : Shape := ⟨2, ![16384, 2048]⟩
abbrev S16384x1x2048 : Shape := ⟨3, ![16384, 1, 2048]⟩
abbrev S16384x2x2048 : Shape := ⟨3, ![16384, 2, 2048]⟩
abbrev S16384x2x8x2x128 : Shape := ⟨5, ![16384, 2, 8, 2, 128]⟩
abbrev S16384x2x8x128x2 : Shape := ⟨5, ![16384, 2, 8, 128, 2]⟩
abbrev S16384x2x8x128 : Shape := ⟨4, ![16384, 2, 8, 128]⟩
abbrev S262144x128 : Shape := ⟨2, ![262144, 128]⟩

abbrev nBuf : Space → Nat
  | .hbm => 10
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S16384x1x2048, .f32⟩
  | .hbm, ⟨3, _⟩ => ⟨S16384x1x2048, .f32⟩
  | .hbm, ⟨4, _⟩ => ⟨S16384x2x2048, .f32⟩
  | .hbm, ⟨5, _⟩ => ⟨S16384x2x2048, .bf16⟩
  | .hbm, ⟨6, _⟩ => ⟨S16384x2x8x2x128, .bf16⟩
  | .hbm, ⟨7, _⟩ => ⟨S16384x2x8x128x2, .bf16⟩
  | .hbm, ⟨8, _⟩ => ⟨S16384x2x8x128, .i32⟩
  | .hbm, ⟨9, _⟩ => ⟨S262144x128, .i32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [BitOps F]
-- ==== Inproj.lean ====
abbrev S8x2048x2048 : Shape := ⟨3, ![8, 2048, 2048]⟩
abbrev S16x2048 : Shape := ⟨2, ![16, 2048]⟩
abbrev S1x2048 : Shape := ⟨2, ![1, 2048]⟩
abbrev S1x2048x6144 : Shape := ⟨3, ![1, 2048, 6144]⟩
abbrev S1x16x2048 : Shape := ⟨3, ![1, 16, 2048]⟩
abbrev S8x16x2048 : Shape := ⟨3, ![8, 16, 2048]⟩
abbrev S8x2064x2048 : Shape := ⟨3, ![8, 2064, 2048]⟩
abbrev S16512x2048 : Shape := ⟨2, ![16512, 2048]⟩
abbrev S2048 : Shape := ⟨1, ![2048]⟩
abbrev S2048x6144 : Shape := ⟨2, ![2048, 6144]⟩
abbrev S16512x6144 : Shape := ⟨2, ![16512, 6144]⟩
abbrev S688x2048 : Shape := ⟨2, ![688, 2048]⟩
abbrev S2048x1024 : Shape := ⟨2, ![2048, 1024]⟩
abbrev S688x1024 : Shape := ⟨2, ![688, 1024]⟩
abbrev S688 : Shape := ⟨1, ![688]⟩
abbrev S688x1 : Shape := ⟨2, ![688, 1]⟩

abbrev nBuf : Space → Nat
  | .hbm => 13
  | .vmem => 7
  | .smem => 0
  | _ => 0

abbrev bufTy : (tb : Table) → Fin (tcTables nBuf tb) → BufTy
  | .hbm, ⟨0, _⟩ => ⟨S8x2048x2048, .f32⟩
  | .hbm, ⟨1, _⟩ => ⟨S16x2048, .f32⟩
  | .hbm, ⟨2, _⟩ => ⟨S1x2048, .f32⟩
  | .hbm, ⟨3, _⟩ => ⟨S1x2048x6144, .f32⟩
  | .hbm, ⟨4, _⟩ => ⟨S1x16x2048, .f32⟩
  | .hbm, ⟨5, _⟩ => ⟨S8x16x2048, .f32⟩
  | .hbm, ⟨6, _⟩ => ⟨S8x2064x2048, .f32⟩
  | .hbm, ⟨7, _⟩ => ⟨S16512x2048, .f32⟩
  | .hbm, ⟨8, _⟩ => ⟨S2048, .f32⟩
  | .hbm, ⟨9, _⟩ => ⟨S1x2048, .f32⟩
  | .hbm, ⟨10, _⟩ => ⟨S2048x6144, .f32⟩
  | .hbm, ⟨11, _⟩ => ⟨S2048x6144, .bf16⟩
  | .hbm, ⟨12, _⟩ => ⟨S16512x6144, .bf16⟩
  | .local _ .vmem, ⟨0, _⟩ => ⟨S688x2048, .f32⟩
  | .local _ .vmem, ⟨1, _⟩ => ⟨S688x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S688x1024, .bf16⟩
  | .local _ .vmem, ⟨6, _⟩ => ⟨S688x1024, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![6, 24], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S688x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S688x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InprojRefIdeal.lean ====
abbrev S8x2048x2048 : Shape := ⟨3, ![8, 2048, 2048]⟩
abbrev S16x2048 : Shape := ⟨2, ![16, 2048]⟩
abbrev S1x2048 : Shape := ⟨2, ![1, 2048]⟩
abbrev S1x2048x6144 : Shape := ⟨3, ![1, 2048, 6144]⟩
abbrev S1x16x2048 : Shape := ⟨3, ![1, 16, 2048]⟩
abbrev S8x16x2048 : Shape := ⟨3, ![8, 16, 2048]⟩
abbrev S8x2064x2048 : Shape := ⟨3, ![8, 2064, 2048]⟩
abbrev S2048 : Shape := ⟨1, ![2048]⟩
abbrev S_ : Shape := ⟨0, ![]⟩
abbrev S8x2064 : Shape := ⟨2, ![8, 2064]⟩
abbrev S8x2064x1 : Shape := ⟨3, ![8, 2064, 1]⟩
abbrev S1x1x2048 : Shape := ⟨3, ![1, 1, 2048]⟩
abbrev S2048x6144 : Shape := ⟨2, ![2048, 6144]⟩
abbrev S8x2064x6144 : Shape := ⟨3, ![8, 2064, 6144]⟩
abbrev S16512x6144 : Shape := ⟨2, ![16512, 6144]⟩

abbrev nBuf : Space → Nat
  | .hbm => 28
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S16x2048, .f32⟩
  | .hbm, ⟨2, _⟩ => ⟨S1x2048, .f32⟩
  | .hbm, ⟨3, _⟩ => ⟨S1x2048x6144, .f32⟩
  | .hbm, ⟨4, _⟩ => ⟨S1x16x2048, .f32⟩
  | .hbm, ⟨5, _⟩ => ⟨S8x16x2048, .f32⟩
  | .hbm, ⟨6, _⟩ => ⟨S8x2064x2048, .f32⟩
  | .hbm, ⟨7, _⟩ => ⟨S2048, .f32⟩
  | .hbm, ⟨8, _⟩ => ⟨S8x2064x2048, .f32⟩
  | .hbm, ⟨9, _⟩ => ⟨S_, .f32⟩
  | .hbm, ⟨10, _⟩ => ⟨S8x2064, .f32⟩
  | .hbm, ⟨11, _⟩ => ⟨S8x2064x1, .f32⟩
  | .hbm, ⟨12, _⟩ => ⟨S_, .f32⟩
  | .hbm, ⟨13, _⟩ => ⟨S8x2064x1, .f32⟩
  | .hbm, ⟨14, _⟩ => ⟨S8x2064x1, .f32⟩
  | .hbm, ⟨15, _⟩ => ⟨S_, .f32⟩
  | .hbm, ⟨16, _⟩ => ⟨S8x2064x1, .f32⟩
  | .hbm, ⟨17, _⟩ => ⟨S8x2064x1, .f32⟩
  | .hbm, ⟨18, _⟩ => ⟨S8x2064x1, .f32⟩
  | .hbm, ⟨19, _⟩ => ⟨S8x2064x2048, .f32⟩
  | .hbm, ⟨20, _⟩ => ⟨S8x2064x2048, .f32⟩
  | .hbm, ⟨21, _⟩ => ⟨S1x1x2048, .f32⟩
  | .hbm, ⟨22, _⟩ => ⟨S8x2064x2048, .f32⟩
  | .hbm, ⟨23, _⟩ => ⟨S8x2064x2048, .f32⟩
  | .hbm, ⟨24, _⟩ => ⟨S2048x6144, .f32⟩
  | .hbm, ⟨25, _⟩ => ⟨S8x2064x6144, .f32⟩
  | .hbm, ⟨26, _⟩ => ⟨S16512x6144, .f32⟩
  | .hbm, ⟨27, _⟩ => ⟨S16512x6144, .bf16⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Conv.lean ====
abbrev S8x2064x6144 : Shape := ⟨3, ![8, 2064, 6144]⟩
abbrev S1x3x1024 : Shape := ⟨3, ![1, 3, 1024]⟩
abbrev S1x2048 : Shape := ⟨2, ![1, 2048]⟩
abbrev S3x1024 : Shape := ⟨2, ![3, 1024]⟩
abbrev S2048 : Shape := ⟨1, ![2048]⟩
abbrev S8x2064x1024 : Shape := ⟨3, ![8, 2064, 1024]⟩
abbrev S1x2064x128 : Shape := ⟨3, ![1, 2064, 128]⟩
abbrev S3x128 : Shape := ⟨2, ![3, 128]⟩
abbrev S1x128 : Shape := ⟨2, ![1, 128]⟩
abbrev S2064x128 : Shape := ⟨2, ![2064, 128]⟩
abbrev S2064 : Shape := ⟨1, ![2064]⟩
abbrev S2064x1 : Shape := ⟨2, ![2064, 1]⟩

abbrev nBuf : Space → Nat
  | .hbm => 7
  | .vmem => 12
  | .smem => 0
  | _ => 0

abbrev bufTy : (tb : Table) → Fin (tcTables nBuf tb) → BufTy
  | .hbm, ⟨0, _⟩ => ⟨S8x2064x6144, .bf16⟩
  | .hbm, ⟨1, _⟩ => ⟨S1x3x1024, .f32⟩
  | .hbm, ⟨2, _⟩ => ⟨S1x2048, .f32⟩
  | .hbm, ⟨3, _⟩ => ⟨S3x1024, .f32⟩
  | .hbm, ⟨4, _⟩ => ⟨S2048, .f32⟩
  | .hbm, ⟨5, _⟩ => ⟨S1x2048, .f32⟩
  | .hbm, ⟨6, _⟩ => ⟨S8x2064x1024, .bf16⟩
  | .local _ .vmem, ⟨0, _⟩ => ⟨S1x2064x128, .bf16⟩
  | .local _ .vmem, ⟨1, _⟩ => ⟨S1x2064x128, .bf16⟩
  | .local _ .vmem, ⟨2, _⟩ => ⟨S1x2064x128, .bf16⟩
  | .local _ .vmem, ⟨3, _⟩ => ⟨S1x2064x128, .bf16⟩
  | .local _ .vmem, ⟨4, _⟩ => ⟨S1x2064x128, .bf16⟩
  | .local _ .vmem, ⟨5, _⟩ => ⟨S1x2064x128, .bf16⟩
  | .local _ .vmem, ⟨6, _⟩ => ⟨S3x128, .f32⟩
  | .local _ .vmem, ⟨7, _⟩ => ⟨S3x128, .f32⟩
  | .local _ .vmem, ⟨8, _⟩ => ⟨S1x128, .f32⟩
  | .local _ .vmem, ⟨9, _⟩ => ⟨S1x128, .f32⟩
  | .local _ .vmem, ⟨10, _⟩ => ⟨S1x2064x128, .bf16⟩
  | .local _ .vmem, ⟨11, _⟩ => ⟨S1x2064x128, .bf16⟩
  | _, _ => ⟨S8x2064x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2064x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2064x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2064x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x2064x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ConvRefIdeal.lean ====
abbrev S8x2064x6144 : Shape := ⟨3, ![8, 2064, 6144]⟩
abbrev S1x3x1024 : Shape := ⟨3, ![1, 3, 1024]⟩
abbrev S1x2048 : Shape := ⟨2, ![1, 2048]⟩
abbrev S8x2064x1024 : Shape := ⟨3, ![8, 2064, 1024]⟩
abbrev S3x1024 : Shape := ⟨2, ![3, 1024]⟩
abbrev S_ : Shape := ⟨0, ![]⟩
abbrev S8x2066x1024 : Shape := ⟨3, ![8, 2066, 1024]⟩
abbrev S1x1024 : Shape := ⟨2, ![1, 1024]⟩
abbrev S1024 : Shape := ⟨1, ![1024]⟩
abbrev S1x1x1024 : Shape := ⟨3, ![1, 1, 1024]⟩
abbrev S8x2064x8x128 : Shape := ⟨4, ![8, 2064, 8, 128]⟩
abbrev S128 : Shape := ⟨1, ![128]⟩
abbrev S8x2064x8 : Shape := ⟨3, ![8, 2064, 8]⟩
abbrev S8x2064x8x1 : Shape := ⟨4, ![8, 2064, 8, 1]⟩
abbrev S1x1x1x128 : Shape := ⟨4, ![1, 1, 1, 128]⟩
abbrev S2048 : Shape := ⟨1, ![2048]⟩

abbrev nBuf : Space → Nat
  | .hbm => 59
  | .vmem => 0
  | .smem => 0
  | _ => 0

abbrev bufTy : (tb : Table) → Fin (tcTables nBuf tb) → BufTy
  | .hbm, ⟨0, _⟩ => ⟨S8x2064x6144, .bf16⟩
  | .hbm, ⟨1, _⟩ => ⟨S1x3x1024, .f32⟩
  | .hbm, ⟨2, _⟩ => ⟨S1x2048, .f32⟩
  | .hbm, ⟨3, _⟩ => ⟨S8x2064x6144, .f32⟩
  | .hbm, ⟨4, _⟩ => ⟨S8x2064x1024, .f32⟩
  | .hbm, ⟨5, _⟩ => ⟨S8x2064x1024, .f32⟩
  | .hbm, ⟨6, _⟩ => ⟨S8x2064x1024, .f32⟩
  | .hbm, ⟨7, _⟩ => ⟨S3x1024, .f32⟩
  | .hbm, ⟨8, _⟩ => ⟨S8x2064x1024, .f32⟩
  | .hbm, ⟨9, _⟩ => ⟨S_, .i32⟩
  | .hbm, ⟨10, _⟩ => ⟨S_, .f32⟩
  | .hbm, ⟨11, _⟩ => ⟨S8x2066x1024, .f32⟩
  | .hbm, ⟨12, _⟩ => ⟨S8x2064x1024, .f32⟩
  | .hbm, ⟨13, _⟩ => ⟨S1x1024, .f32⟩
  | .hbm, ⟨14, _⟩ => ⟨S1024, .f32⟩
  | .hbm, ⟨15, _⟩ => ⟨S1x1x1024, .f32⟩
  | .hbm, ⟨16, _⟩ => ⟨S8x2064x1024, .f32⟩
  | .hbm, ⟨17, _⟩ => ⟨S8x2064x1024, .f32⟩
  | .hbm, ⟨18, _⟩ => ⟨S8x2064x1024, .f32⟩
  | .hbm, ⟨19, _⟩ => ⟨S1x1024, .f32⟩
  | .hbm, ⟨20, _⟩ => ⟨S1024, .f32⟩
  | .hbm, ⟨21, _⟩ => ⟨S1x1x1024, .f32⟩
  | .hbm, ⟨22, _⟩ => ⟨S8x2064x1024, .f32⟩
  | .hbm, ⟨23, _⟩ => ⟨S8x2064x1024, .f32⟩
  | .hbm, ⟨24, _⟩ => ⟨S8x2064x1024, .f32⟩
  | .hbm, ⟨25, _⟩ => ⟨S8x2064x1024, .f32⟩
  | .hbm, ⟨26, _⟩ => ⟨S1x1024, .f32⟩
  | .hbm, ⟨27, _⟩ => ⟨S1024, .f32⟩
  | .hbm, ⟨28, _⟩ => ⟨S1x1x1024, .f32⟩
  | .hbm, ⟨29, _⟩ => ⟨S8x2064x1024, .f32⟩
  | .hbm, ⟨30, _⟩ => ⟨S8x2064x1024, .f32⟩
  | .hbm, ⟨31, _⟩ => ⟨S8x2064x1024, .f32⟩
  | .hbm, ⟨32, _⟩ => ⟨S8x2064x1024, .f32⟩
  | .hbm, ⟨33, _⟩ => ⟨S8x2064x8x128, .f32⟩
  | .hbm, ⟨34, _⟩ => ⟨S_, .f32⟩
  | .hbm, ⟨35, _⟩ => ⟨S128, .f32⟩
  | .hbm, ⟨36, _⟩ => ⟨S8x2064x8x128, .f32⟩
  | .hbm, ⟨37, _⟩ => ⟨S_, .f32⟩
  | .hbm, ⟨38, _⟩ => ⟨S8x2064x8, .f32⟩
  | .hbm, ⟨39, _⟩ => ⟨S8x2064x8x1, .f32⟩
  | .hbm, ⟨40, _⟩ => ⟨S_, .f32⟩
  | .hbm, ⟨41, _⟩ => ⟨S8x2064x8x1, .f32⟩
  | .hbm, ⟨42, _⟩ => ⟨S8x2064x8x1, .f32⟩
  | .hbm, ⟨43, _⟩ => ⟨S_, .f32⟩
  | .hbm, ⟨44, _⟩ => ⟨S8x2064x8x1, .f32⟩
  | .hbm, ⟨45, _⟩ => ⟨S8x2064x8x1, .f32⟩
  | .hbm, ⟨46, _⟩ => ⟨S8x2064x8x1, .f32⟩
  | .hbm, ⟨47, _⟩ => ⟨S8x2064x8x128, .f32⟩
  | .hbm, ⟨48, _⟩ => ⟨S8x2064x8x128, .f32⟩
  | .hbm, ⟨49, _⟩ => ⟨S1x1x1x128, .f32⟩
  | .hbm, ⟨50, _⟩ => ⟨S8x2064x8x128, .f32⟩
  | .hbm, ⟨51, _⟩ => ⟨S8x2064x8x128, .f32⟩
  | .hbm, ⟨52, _⟩ => ⟨S8x2064x1024, .f32⟩
  | .hbm, ⟨53, _⟩ => ⟨S2048, .f32⟩
  | .hbm, ⟨54, _⟩ => ⟨S1024, .f32⟩
  | .hbm, ⟨55, _⟩ => ⟨S1x1x1024, .f32⟩
  | .hbm, ⟨56, _⟩ => ⟨S8x2064x1024, .f32⟩
  | .hbm, ⟨57, _⟩ => ⟨S8x2064x1024, .f32⟩
  | .hbm, ⟨58, _⟩ => ⟨S8x2064x1024, .bf16⟩
  | _, _ => ⟨S8x2064x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_cst : Ref sig .tc := ⟨.hbm, 34, rfl⟩
abbrev main_v29 : Ref sig .tc := ⟨.hbm, 35, rfl⟩
abbrev main_v30 : Ref sig .tc := ⟨.hbm, 36, rfl⟩
abbrev main_cst_0 : Ref sig .tc := ⟨.hbm, 37, rfl⟩
abbrev main_v31 : Ref sig .tc := ⟨.hbm, 38, rfl⟩
abbrev main_v32 : Ref sig .tc := ⟨.hbm, 39, rfl⟩
abbrev main_cst_1 : Ref sig .tc := ⟨.hbm, 40, rfl⟩
abbrev main_v33 : Ref sig .tc := ⟨.hbm, 41, rfl⟩
abbrev main_v34 : Ref sig .tc := ⟨.hbm, 42, rfl⟩
abbrev main_cst_2 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩

abbrev nD : Nat := 1
abbrev τ : Topo := Topo.v7x

variable {F : FTy → Type} [FloatOps F]
-- ==== Attn.lean ====
abbrev S8x2064x6144 : Shape := ⟨3, ![8, 2064, 6144]⟩
abbrev S1x128 : Shape := ⟨2, ![1, 128]⟩
abbrev S1x2048 : Shape := ⟨2, ![1, 2048]⟩
abbrev S128 : Shape := ⟨1, ![128]⟩
abbrev S2048 : Shape := ⟨1, ![2048]⟩
abbrev S8x2064x1024 : Shape := ⟨3, ![8, 2064, 1024]⟩
abbrev S1x2064x1024 : Shape := ⟨3, ![1, 2064, 1024]⟩
abbrev S1x1024 : Shape := ⟨2, ![1, 1024]⟩
abbrev S2176x1024 : Shape := ⟨2, ![2176, 1024]⟩
abbrev S1024x128 : Shape := ⟨2, ![1024, 128]⟩
abbrev S1x2064x128 : Shape := ⟨3, ![1, 2064, 128]⟩
abbrev S2064x128 : Shape := ⟨2, ![2064, 128]⟩
abbrev S2064 : Shape := ⟨1, ![2064]⟩
abbrev S2064x1 : Shape := ⟨2, ![2064, 1]⟩
abbrev S2064x1024 : Shape := ⟨2, ![2064, 1024]⟩
abbrev S112x1024 : Shape := ⟨2, ![112, 1024]⟩
abbrev S128x128 : Shape := ⟨2, ![128, 128]⟩
abbrev S128x256 : Shape := ⟨2, ![128, 256]⟩
abbrev S256x256 : Shape := ⟨2, ![256, 256]⟩
abbrev S1024x256 : Shape := ⟨2, ![1024, 256]⟩
abbrev S128x1 : Shape := ⟨2, ![128, 1]⟩

abbrev nBuf : Space → Nat
  | .hbm => 11
  | .vmem => 17
  | .smem => 0
  | _ => 0

abbrev bufTy : (tb : Table) → Fin (tcTables nBuf tb) → BufTy
  | .hbm, ⟨0, _⟩ => ⟨S8x2064x6144, .bf16⟩
  | .hbm, ⟨1, _⟩ => ⟨S1x128, .f32⟩
  | .hbm, ⟨2, _⟩ => ⟨S1x128, .f32⟩
  | .hbm, ⟨3, _⟩ => ⟨S1x2048, .f32⟩
  | .hbm, ⟨4, _⟩ => ⟨S128, .f32⟩
  | .hbm, ⟨5, _⟩ => ⟨S1x128, .f32⟩
  | .hbm, ⟨6, _⟩ => ⟨S128, .f32⟩
  | .hbm, ⟨7, _⟩ => ⟨S1x128, .f32⟩
  | .hbm, ⟨8, _⟩ => ⟨S2048, .f32⟩
  | .hbm, ⟨9, _⟩ => ⟨S1x2048, .f32⟩
  | .hbm, ⟨10, _⟩ => ⟨S8x2064x1024, .bf16⟩
  | .local _ .vmem, ⟨0, _⟩ => ⟨S1x2064x1024, .bf16⟩
  | .local _ .vmem, ⟨1, _⟩ => ⟨S1x2064x1024, .bf16⟩
  | .local _ .vmem, ⟨2, _⟩ => ⟨S1x2064x1024, .bf16⟩
  | .local _ .vmem, ⟨3, _⟩ => ⟨S1x2064x1024, .bf16⟩
  | .local _ .vmem, ⟨4, _⟩ => ⟨S1x2064x1024, .bf16⟩
  | .local _ .vmem, ⟨5, _⟩ => ⟨S1x2064x1024, .bf16⟩
  | .local _ .vmem, ⟨6, _⟩ => ⟨S1x128, .f32⟩
  | .local _ .vmem, ⟨7, _⟩ => ⟨S1x128, .f32⟩
  | .local _ .vmem, ⟨8, _⟩ => ⟨S1x1024, .f32⟩
  | .local _ .vmem, ⟨9, _⟩ => ⟨S1x2064x1024, .bf16⟩
  | .local _ .vmem, ⟨10, _⟩ => ⟨S1x2064x1024, .bf16⟩
  | .local _ .vmem, ⟨11, _⟩ => ⟨S2176x1024, .bf16⟩
  | .local _ .vmem, ⟨12, _⟩ => ⟨S2176x1024, .bf16⟩
  | .local _ .vmem, ⟨13, _⟩ => ⟨S2176x1024, .bf16⟩
  | .local _ .vmem, ⟨14, _⟩ => ⟨S2176x1024, .bf16⟩
  | .local _ .vmem, ⟨15, _⟩ => ⟨S1024x128, .f32⟩
  | .local _ .vmem, ⟨16, _⟩ => ⟨S1024x128, .f32⟩
  | _, _ => ⟨S8x2064x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_scratch5 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c17_i32 : BitVec 32 := 17#32
  let v362 : BitVec 32 := Scalar.addi c0_i32 c17_i32
  let c1_i32 : BitVec 32 := 1#32
  ⟨c0_i32, v362, c1_i32⟩
def k0_mult1 (k0_t1 : Fin k0_t1_loop.trips) : BitVec 32 :=
  let c0_i32 : BitVec 32 := 0#32
  let c1_i32 : BitVec 32 := 1#32
  let arg14 : BitVec 32 := Scf.iv c0_i32 c1_i32 k0_t1
  let c128_i32 : BitVec 32 := 128#32
  let v367 : BitVec 32 := Scalar.muli arg14 c128_i32
  v367
def k0_off1 (k0_t1 : Fin k0_t1_loop.trips) : Fin 2 → Nat :=
  let c0_i32 : BitVec 32 := 0#32
  let c1_i32 : BitVec 32 := 1#32
  let arg14 : BitVec 32 := Scf.iv c0_i32 c1_i32 k0_t1
  let c128_i32 : BitVec 32 := 128#32
  let v367 : BitVec 32 := Scalar.muli arg14 c128_i32
  let v368 : BitVec 32 := v367
  let v369 : Index := Scalar.indexCast v368
  let c0_169 : Index := 0#32
  ![v369.toNat, 0]
def k0_off2 (k0_t1 : Fin k0_t1_loop.trips) : Fin 2 → Nat :=
  let c0_i32 : BitVec 32 := 0#32
  let c1_i32 : BitVec 32 := 1#32
  let arg14 : BitVec 32 := Scf.iv c0_i32 c1_i32 k0_t1
  let c128_i32 : BitVec 32 := 128#32
  let v367 : BitVec 32 := Scalar.muli arg14 c128_i32
  let v368 : BitVec 32 := v367
  let v374 : Index := Scalar.indexCast v368
  let c128_172 : Index := 128#32
  ![v374.toNat, 128]
def k0_off3 (k0_t1 : Fin k0_t1_loop.trips) : Fin 2 → Nat :=
  let c0_i32 : BitVec 32 := 0#32
  let c1_i32 : BitVec 32 := 1#32
  let arg14 : BitVec 32 := Scf.iv c0_i32 c1_i32 k0_t1
  let c128_i32 : BitVec 32 := 128#32
  let v367 : BitVec 32 := Scalar.muli arg14 c128_i32
  let v368 : BitVec 32 := v367
  let v379 : Index := Scalar.indexCast v368
  let c256_175 : Index := 256#32
  ![v379.toNat, 256]
def k0_off4 (k0_t1 : Fin k0_t1_loop.trips) : Fin 2 → Nat :=
  let c0_i32 : BitVec 32 := 0#32
  let c1_i32 : BitVec 32 := 1#32
  let arg14 : BitVec 32 := Scf.iv c0_i32 c1_i32 k0_t1
  let c128_i32 : BitVec 32 := 128#32
  let v367 : BitVec 32 := Scalar.muli arg14 c128_i32
  let v368 : BitVec 32 := v367
  let v384 : Index := Scalar.indexCast v368
  let c384_178 : Index := 384#32
  ![v384.toNat, 384]
def k0_off5 (k0_t1 : Fin k0_t1_loop.trips) : Fin 2 → Nat :=
  let c0_i32 : BitVec 32 := 0#32
  let c1_i32 : BitVec 32 := 1#32
  let arg14 : BitVec 32 := Scf.iv c0_i32 c1_i32 k0_t1
  let c128_i32 : BitVec 32 := 128#32
  let v367 : BitVec 32 := Scalar.muli arg14 c128_i32
  let v368 : BitVec 32 := v367
  let v389 : Index := Scalar.indexCast v368
  let c512_181 : Index := 512#32
  ![v389.toNat, 512]
def k0_off6 (k0_t1 : Fin k0_t1_loop.trips) : Fin 2 → Nat :=
  let c0_i32 : BitVec 32 := 0#32
  let c1_i32 : BitVec 32 := 1#32
  let arg14 : BitVec 32 := Scf.iv c0_i32 c1_i32 k0_t1
  let c128_i32 : BitVec 32 := 128#32
  let v367 : BitVec 32 := Scalar.muli arg14 c128_i32
  let v368 : BitVec 32 := v367
  let v394 : Index := Scalar.indexCast v368
  let c640_184 : Index := 640#32
  ![v394.toNat, 640]
def k0_off7 (k0_t1 : Fin k0_t1_loop.trips) : Fin 2 → Nat :=
  let c0_i32 : BitVec 32 := 0#32
  let c1_i32 : BitVec 32 := 1#32
  let arg14 : BitVec 32 := Scf.iv c0_i32 c1_i32 k0_t1
  let c128_i32 : BitVec 32 := 128#32
  let v367 : BitVec 32 := Scalar.muli arg14 c128_i32
  let v368 : BitVec 32 := v367
  let v399 : Index := Scalar.indexCast v368
  let c768_187 : Index := 768#32
  ![v399.toNat, 768]
def k0_off8 (k0_t1 : Fin k0_t1_loop.trips) : Fin 2 → Nat :=
  let c0_i32 : BitVec 32 := 0#32
  let c1_i32 : BitVec 32 := 1#32
  let arg14 : BitVec 32 := Scf.iv c0_i32 c1_i32 k0_t1
  let c128_i32 : BitVec 32 := 128#32
  let v367 : BitVec 32 := Scalar.muli arg14 c128_i32
  let v368 : BitVec 32 := v367
  let v404 : Index := Scalar.indexCast v368
  let c896_190 : Index := 896#32
  ![v404.toNat, 896]
@[reducible] def k0_t2_loop (k0_t1 : Fin k0_t1_loop.trips) : Scf.Loop 32 :=
  let c0_i32_222 : BitVec 32 := 0#32
  let c0_i32 : BitVec 32 := 0#32
  let c1_i32 : BitVec 32 := 1#32
  let arg14 : BitVec 32 := Scf.iv c0_i32 c1_i32 k0_t1
  let v479 : BitVec 32 := Scalar.subi arg14 c0_i32_222
  let c1_i32_223 : BitVec 32 := 1#32
  let v481 : BitVec 32 := Scalar.divsi v479 c1_i32_223
  let v482 : BitVec 32 := Scalar.muli v481 c1_i32_223
  let v483 : BitVec 32 := Scalar.addi c0_i32_222 v482
  let c1_i32_224 : BitVec 32 := 1#32
  ⟨c0_i32_222, v483, c1_i32_224⟩
def k0_mult2 (k0_t1 : Fin k0_t1_loop.trips) (k0_t2 : Fin (k0_t2_loop k0_t1).trips) : BitVec 32 :=
  let c0_i32 : BitVec 32 := 0#32
  let c1_i32 : BitVec 32 := 1#32
  let arg14 : BitVec 32 := Scf.iv c0_i32 c1_i32 k0_t1
  let c1_i32_290 : BitVec 32 := 1#32
  let v644 : BitVec 32 := Scalar.subi arg14 c1_i32_290
  let c0_i32_222 : BitVec 32 := 0#32
  let c1_i32_224 : BitVec 32 := 1#32
  let arg15 : BitVec 32 := Scf.iv c0_i32_222 c1_i32_224 k0_t2
  let v645 : BitVec 32 := Scalar.subi v644 arg15
  let c128_i32_291 : BitVec 32 := 128#32
  let v646 : BitVec 32 := Scalar.muli v645 c128_i32_291
  v646
def k0_off9 (k0_t1 : Fin k0_t1_loop.trips) : Fin 2 → Nat :=
  let c0_i32 : BitVec 32 := 0#32
  let c1_i32 : BitVec 32 := 1#32
  let arg14 : BitVec 32 := Scf.iv c0_i32 c1_i32 k0_t1
  let c128_i32 : BitVec 32 := 128#32
  let v367 : BitVec 32 := Scalar.muli arg14 c128_i32
  let v368 : BitVec 32 := v367
  let v648 : Index := Scalar.indexCast v368
  let c0_292 : Index := 0#32
  ![v648.toNat, 0]
def k0_off10 (k0_t1 : Fin k0_t1_loop.trips) (k0_t2 : Fin (k0_t2_loop k0_t1).trips) : Fin 2 → Nat :=
  let c0_i32 : BitVec 32 := 0#32
  let c1_i32 : BitVec 32 := 1#32
  let arg14 : BitVec 32 := Scf.iv c0_i32 c1_i32 k0_t1
  let c1_i32_290 : BitVec 32 := 1#32
  let v644 : BitVec 32 := Scalar.subi arg14 c1_i32_290
  let c0_i32_222 : BitVec 32 := 0#32
  let c1_i32_224 : BitVec 32 := 1#32
  let arg15 : BitVec 32 := Scf.iv c0_i32_222 c1_i32_224 k0_t2
  let v645 : BitVec 32 := Scalar.subi v644 arg15
  let c128_i32_291 : BitVec 32 := 128#32
  let v646 : BitVec 32 := Scalar.muli v645 c128_i32_291
  let v647 : BitVec 32 := v646
  let v650 : Index := Scalar.indexCast v647
  let c0_293 : Index := 0#32
  ![v650.toNat, 0]
def k0_off11 (k0_t1 : Fin k0_t1_loop.trips) : Fin 2 → Nat :=
  let c0_i32 : BitVec 32 := 0#32
  let c1_i32 : BitVec 32 := 1#32
  let arg14 : BitVec 32 := Scf.iv c0_i32 c1_i32 k0_t1
  let c128_i32 : BitVec 32 := 128#32
  let v367 : BitVec 32 := Scalar.muli arg14 c128_i32
  let v368 : BitVec 32 := v367
  let v653 : Index := Scalar.indexCast v368
  let c128_295 : Index := 128#32
  ![v653.toNat, 128]
def k0_off12 (k0_t1 : Fin k0_t1_loop.trips) (k0_t2 : Fin (k0_t2_loop k0_t1).trips) : Fin 2 → Nat :=
  let c0_i32 : BitVec 32 := 0#32
  let c1_i32 : BitVec 32 := 1#32
  let arg14 : BitVec 32 := Scf.iv c0_i32 c1_i32 k0_t1
  let c1_i32_290 : BitVec 32 := 1#32
  let v644 : BitVec 32 := Scalar.subi arg14 c1_i32_290
  let c0_i32_222 : BitVec 32 := 0#32
  let c1_i32_224 : BitVec 32 := 1#32
  let arg15 : BitVec 32 := Scf.iv c0_i32_222 c1_i32_224 k0_t2
  let v645 : BitVec 32 := Scalar.subi v644 arg15
  let c128_i32_291 : BitVec 32 := 128#32
  let v646 : BitVec 32 := Scalar.muli v645 c128_i32_291
  let v647 : BitVec 32 := v646
  let v655 : Index := Scalar.indexCast v647
  let c128_296 : Index := 128#32
  ![v655.toNat, 128]
def k0_off13 (k0_t1 : Fin k0_t1_loop.trips) : Fin 2 → Nat :=
  let c0_i32 : BitVec 32 := 0#32
  let c1_i32 : BitVec 32 := 1#32
  let arg14 : BitVec 32 := Scf.iv c0_i32 c1_i32 k0_t1
  let c128_i32 : BitVec 32 := 128#32
  let v367 : BitVec 32 := Scalar.muli arg14 c128_i32
  let v368 : BitVec 32 := v367
  let v658 : Index := Scalar.indexCast v368
  let c256_298 : Index := 256#32
  ![v658.toNat, 256]
def k0_off14 (k0_t1 : Fin k0_t1_loop.trips) (k0_t2 : Fin (k0_t2_loop k0_t1).trips) : Fin 2 → Nat :=
  let c0_i32 : BitVec 32 := 0#32
  let c1_i32 : BitVec 32 := 1#32
  let arg14 : BitVec 32 := Scf.iv c0_i32 c1_i32 k0_t1
  let c1_i32_290 : BitVec 32 := 1#32
  let v644 : BitVec 32 := Scalar.subi arg14 c1_i32_290
  let c0_i32_222 : BitVec 32 := 0#32
  let c1_i32_224 : BitVec 32 := 1#32
  let arg15 : BitVec 32 := Scf.iv c0_i32_222 c1_i32_224 k0_t2
  let v645 : BitVec 32 := Scalar.subi v644 arg15
  let c128_i32_291 : BitVec 32 := 128#32
  let v646 : BitVec 32 := Scalar.muli v645 c128_i32_291
  let v647 : BitVec 32 := v646
  let v660 : Index := Scalar.indexCast v647
  let c256_299 : Index := 256#32
  ![v660.toNat, 256]
def k0_off15 (k0_t1 : Fin k0_t1_loop.trips) : Fin 2 → Nat :=
  let c0_i32 : BitVec 32 := 0#32
  let c1_i32 : BitVec 32 := 1#32
  let arg14 : BitVec 32 := Scf.iv c0_i32 c1_i32 k0_t1
  let c128_i32 : BitVec 32 := 128#32
  let v367 : BitVec 32 := Scalar.muli arg14 c128_i32
  let v368 : BitVec 32 := v367
  let v663 : Index := Scalar.indexCast v368
  let c384_301 : Index := 384#32
  ![v663.toNat, 384]
def k0_off16 (k0_t1 : Fin k0_t1_loop.trips) (k0_t2 : Fin (k0_t2_loop k0_t1).trips) : Fin 2 → Nat :=
  let c0_i32 : BitVec 32 := 0#32
  let c1_i32 : BitVec 32 := 1#32
  let arg14 : BitVec 32 := Scf.iv c0_i32 c1_i32 k0_t1
  let c1_i32_290 : BitVec 32 := 1#32
  let v644 : BitVec 32 := Scalar.subi arg14 c1_i32_290
  let c0_i32_222 : BitVec 32 := 0#32
  let c1_i32_224 : BitVec 32 := 1#32
  let arg15 : BitVec 32 := Scf.iv c0_i32_222 c1_i32_224 k0_t2
  let v645 : BitVec 32 := Scalar.subi v644 arg15
  let c128_i32_291 : BitVec 32 := 128#32
  let v646 : BitVec 32 := Scalar.muli v645 c128_i32_291
  let v647 : BitVec 32 := v646
  let v665 : Index := Scalar.indexCast v647
  let c384_302 : Index := 384#32
  ![v665.toNat, 384]
def k0_off17 (k0_t1 : Fin k0_t1_loop.trips) : Fin 2 → Nat :=
  let c0_i32 : BitVec 32 := 0#32
  let c1_i32 : BitVec 32 := 1#32
  let arg14 : BitVec 32 := Scf.iv c0_i32 c1_i32 k0_t1
  let c128_i32 : BitVec 32 := 128#32
  let v367 : BitVec 32 := Scalar.muli arg14 c128_i32
  let v368 : BitVec 32 := v367
  let v668 : Index := Scalar.indexCast v368
  let c512_304 : Index := 512#32
  ![v668.toNat, 512]
def k0_off18 (k0_t1 : Fin k0_t1_loop.trips) (k0_t2 : Fin (k0_t2_loop k0_t1).trips) : Fin 2 → Nat :=
  let c0_i32 : BitVec 32 := 0#32
  let c1_i32 : BitVec 32 := 1#32
  let arg14 : BitVec 32 := Scf.iv c0_i32 c1_i32 k0_t1
  let c1_i32_290 : BitVec 32 := 1#32
  let v644 : BitVec 32 := Scalar.subi arg14 c1_i32_290
  let c0_i32_222 : BitVec 32 := 0#32
  let c1_i32_224 : BitVec 32 := 1#32
  let arg15 : BitVec 32 := Scf.iv c0_i32_222 c1_i32_224 k0_t2
  let v645 : BitVec 32 := Scalar.subi v644 arg15
  let c128_i32_291 : BitVec 32 := 128#32
  let v646 : BitVec 32 := Scalar.muli v645 c128_i32_291
  let v647 : BitVec 32 := v646
  let v670 : Index := Scalar.indexCast v647
  let c512_305 : Index := 512#32
  ![v670.toNat, 512]
def k0_off19 (k0_t1 : Fin k0_t1_loop.trips) : Fin 2 → Nat :=
  let c0_i32 : BitVec 32 := 0#32
  let c1_i32 : BitVec 32 := 1#32
  let arg14 : BitVec 32 := Scf.iv c0_i32 c1_i32 k0_t1
  let c128_i32 : BitVec 32 := 128#32
  let v367 : BitVec 32 := Scalar.muli arg14 c128_i32
  let v368 : BitVec 32 := v367
  let v673 : Index := Scalar.indexCast v368
  let c640_307 : Index := 640#32
  ![v673.toNat, 640]
def k0_off20 (k0_t1 : Fin k0_t1_loop.trips) (k0_t2 : Fin (k0_t2_loop k0_t1).trips) : Fin 2 → Nat :=
  let c0_i32 : BitVec 32 := 0#32
  let c1_i32 : BitVec 32 := 1#32
  let arg14 : BitVec 32 := Scf.iv c0_i32 c1_i32 k0_t1
  let c1_i32_290 : BitVec 32 := 1#32
  let v644 : BitVec 32 := Scalar.subi arg14 c1_i32_290
  let c0_i32_222 : BitVec 32 := 0#32
  let c1_i32_224 : BitVec 32 := 1#32
  let arg15 : BitVec 32 := Scf.iv c0_i32_222 c1_i32_224 k0_t2
  let v645 : BitVec 32 := Scalar.subi v644 arg15
  let c128_i32_291 : BitVec 32 := 128#32
  let v646 : BitVec 32 := Scalar.muli v645 c128_i32_291
  let v647 : BitVec 32 := v646
  let v675 : Index := Scalar.indexCast v647
  let c640_308 : Index := 640#32
  ![v675.toNat, 640]
def k0_off21 (k0_t1 : Fin k0_t1_loop.trips) : Fin 2 → Nat :=
  let c0_i32 : BitVec 32 := 0#32
  let c1_i32 : BitVec 32 := 1#32
  let arg14 : BitVec 32 := Scf.iv c0_i32 c1_i32 k0_t1
  let c128_i32 : BitVec 32 := 128#32
  let v367 : BitVec 32 := Scalar.muli arg14 c128_i32
  let v368 : BitVec 32 := v367
  let v678 : Index := Scalar.indexCast v368
  let c768_310 : Index := 768#32
  ![v678.toNat, 768]
def k0_off22 (k0_t1 : Fin k0_t1_loop.trips) (k0_t2 : Fin (k0_t2_loop k0_t1).trips) : Fin 2 → Nat :=
  let c0_i32 : BitVec 32 := 0#32
  let c1_i32 : BitVec 32 := 1#32
  let arg14 : BitVec 32 := Scf.iv c0_i32 c1_i32 k0_t1
  let c1_i32_290 : BitVec 32 := 1#32
  let v644 : BitVec 32 := Scalar.subi arg14 c1_i32_290
  let c0_i32_222 : BitVec 32 := 0#32
  let c1_i32_224 : BitVec 32 := 1#32
  let arg15 : BitVec 32 := Scf.iv c0_i32_222 c1_i32_224 k0_t2
  let v645 : BitVec 32 := Scalar.subi v644 arg15
  let c128_i32_291 : BitVec 32 := 128#32
  let v646 : BitVec 32 := Scalar.muli v645 c128_i32_291
  let v647 : BitVec 32 := v646
  let v680 : Index := Scalar.indexCast v647
  let c768_311 : Index := 768#32
  ![v680.toNat, 768]
def k0_off23 (k0_t1 : Fin k0_t1_loop.trips) : Fin 2 → Nat :=
  let c0_i32 : BitVec 32 := 0#32
  let c1_i32 : BitVec 32 := 1#32
  let arg14 : BitVec 32 := Scf.iv c0_i32 c1_i32 k0_t1
  let c128_i32 : BitVec 32 := 128#32
  let v367 : BitVec 32 := Scalar.muli arg14 c128_i32
  let v368 : BitVec 32 := v367
  let v683 : Index := Scalar.indexCast v368
  let c896_313 : Index := 896#32
  ![v683.toNat, 896]
def k0_off24 (k0_t1 : Fin k0_t1_loop.trips) (k0_t2 : Fin (k0_t2_loop k0_t1).trips) : Fin 2 → Nat :=
  let c0_i32 : BitVec 32 := 0#32
  let c1_i32 : BitVec 32 := 1#32
  let arg14 : BitVec 32 := Scf.iv c0_i32 c1_i32 k0_t1
  let c1_i32_290 : BitVec 32 := 1#32
  let v644 : BitVec 32 := Scalar.subi arg14 c1_i32_290
  let c0_i32_222 : BitVec 32 := 0#32
  let c1_i32_224 : BitVec 32 := 1#32
  let arg15 : BitVec 32 := Scf.iv c0_i32_222 c1_i32_224 k0_t2
  let v645 : BitVec 32 := Scalar.subi v644 arg15
  let c128_i32_291 : BitVec 32 := 128#32
  let v646 : BitVec 32 := Scalar.muli v645 c128_i32_291
  let v647 : BitVec 32 := v646
  let v685 : Index := Scalar.indexCast v647
  let c896_314 : Index := 896#32
  ![v685.toNat, 896]
@[reducible] def k0_t3_loop (k0_t1 : Fin k0_t1_loop.trips) : Scf.Loop 32 :=
  let c0_i32_222 : BitVec 32 := 0#32
  let c0_i32 : BitVec 32 := 0#32
  let c1_i32 : BitVec 32 := 1#32
  let arg14 : BitVec 32 := Scf.iv c0_i32 c1_i32 k0_t1
  let v479 : BitVec 32 := Scalar.subi arg14 c0_i32_222
  let c1_i32_223 : BitVec 32 := 1#32
  let v481 : BitVec 32 := Scalar.divsi v479 c1_i32_223
  let v482 : BitVec 32 := Scalar.muli v481 c1_i32_223
  let v483 : BitVec 32 := Scalar.addi c0_i32_222 v482
  let v480 : BitVec 32 := Scalar.addi c0_i32_222 v479
  let c1_i32_225 : BitVec 32 := 1#32
  ⟨v483, v480, c1_i32_225⟩
def k0_mult3 (k0_t1 : Fin k0_t1_loop.trips) (k0_t3 : Fin (k0_t3_loop k0_t1).trips) : BitVec 32 :=
  let c0_i32 : BitVec 32 := 0#32
  let c1_i32 : BitVec 32 := 1#32
  let arg14 : BitVec 32 := Scf.iv c0_i32 c1_i32 k0_t1
  let c1_i32_290 : BitVec 32 := 1#32
  let v644 : BitVec 32 := Scalar.subi arg14 c1_i32_290
  let c0_i32_222 : BitVec 32 := 0#32
  let v479 : BitVec 32 := Scalar.subi arg14 c0_i32_222
  let c1_i32_223 : BitVec 32 := 1#32
  let v481 : BitVec 32 := Scalar.divsi v479 c1_i32_223
  let v482 : BitVec 32 := Scalar.muli v481 c1_i32_223
  let v483 : BitVec 32 := Scalar.addi c0_i32_222 v482
  let c1_i32_225 : BitVec 32 := 1#32
  let arg15 : BitVec 32 := Scf.iv v483 c1_i32_225 k0_t3
  let v645 : BitVec 32 := Scalar.subi v644 arg15
  let c128_i32_291 : BitVec 32 := 128#32
  let v646 : BitVec 32 := Scalar.muli v645 c128_i32_291
  v646
def k0_off25 (k0_t1 : Fin k0_t1_loop.trips) : Fin 2 → Nat :=
  let c0_i32 : BitVec 32 := 0#32
  let c1_i32 : BitVec 32 := 1#32
  let arg14 : BitVec 32 := Scf.iv c0_i32 c1_i32 k0_t1
  let c128_i32 : BitVec 32 := 128#32
  let v367 : BitVec 32 := Scalar.muli arg14 c128_i32
  let v368 : BitVec 32 := v367
  let v648 : Index := Scalar.indexCast v368
  let c0_292 : Index := 0#32
  ![v648.toNat, 0]
def k0_off26 (k0_t1 : Fin k0_t1_loop.trips) (k0_t3 : Fin (k0_t3_loop k0_t1).trips) : Fin 2 → Nat :=
  let c0_i32 : BitVec 32 := 0#32
  let c1_i32 : BitVec 32 := 1#32
  let arg14 : BitVec 32 := Scf.iv c0_i32 c1_i32 k0_t1
  let c1_i32_290 : BitVec 32 := 1#32
  let v644 : BitVec 32 := Scalar.subi arg14 c1_i32_290
  let c0_i32_222 : BitVec 32 := 0#32
  let v479 : BitVec 32 := Scalar.subi arg14 c0_i32_222
  let c1_i32_223 : BitVec 32 := 1#32
  let v481 : BitVec 32 := Scalar.divsi v479 c1_i32_223
  let v482 : BitVec 32 := Scalar.muli v481 c1_i32_223
  let v483 : BitVec 32 := Scalar.addi c0_i32_222 v482
  let c1_i32_225 : BitVec 32 := 1#32
  let arg15 : BitVec 32 := Scf.iv v483 c1_i32_225 k0_t3
  let v645 : BitVec 32 := Scalar.subi v644 arg15
  let c128_i32_291 : BitVec 32 := 128#32
  let v646 : BitVec 32 := Scalar.muli v645 c128_i32_291
  let v647 : BitVec 32 := v646
  let v650 : Index := Scalar.indexCast v647
  let c0_293 : Index := 0#32
  ![v650.toNat, 0]
def k0_off27 (k0_t1 : Fin k0_t1_loop.trips) : Fin 2 → Nat :=
  let c0_i32 : BitVec 32 := 0#32
  let c1_i32 : BitVec 32 := 1#32
  let arg14 : BitVec 32 := Scf.iv c0_i32 c1_i32 k0_t1
  let c128_i32 : BitVec 32 := 128#32
  let v367 : BitVec 32 := Scalar.muli arg14 c128_i32
  let v368 : BitVec 32 := v367
  let v653 : Index := Scalar.indexCast v368
  let c128_295 : Index := 128#32
  ![v653.toNat, 128]
def k0_off28 (k0_t1 : Fin k0_t1_loop.trips) (k0_t3 : Fin (k0_t3_loop k0_t1).trips) : Fin 2 → Nat :=
  let c0_i32 : BitVec 32 := 0#32
  let c1_i32 : BitVec 32 := 1#32
  let arg14 : BitVec 32 := Scf.iv c0_i32 c1_i32 k0_t1
  let c1_i32_290 : BitVec 32 := 1#32
  let v644 : BitVec 32 := Scalar.subi arg14 c1_i32_290
  let c0_i32_222 : BitVec 32 := 0#32
  let v479 : BitVec 32 := Scalar.subi arg14 c0_i32_222
  let c1_i32_223 : BitVec 32 := 1#32
  let v481 : BitVec 32 := Scalar.divsi v479 c1_i32_223
  let v482 : BitVec 32 := Scalar.muli v481 c1_i32_223
  let v483 : BitVec 32 := Scalar.addi c0_i32_222 v482
  let c1_i32_225 : BitVec 32 := 1#32
  let arg15 : BitVec 32 := Scf.iv v483 c1_i32_225 k0_t3
  let v645 : BitVec 32 := Scalar.subi v644 arg15
  let c128_i32_291 : BitVec 32 := 128#32
  let v646 : BitVec 32 := Scalar.muli v645 c128_i32_291
  let v647 : BitVec 32 := v646
  let v655 : Index := Scalar.indexCast v647
  let c128_296 : Index := 128#32
  ![v655.toNat, 128]
def k0_off29 (k0_t1 : Fin k0_t1_loop.trips) : Fin 2 → Nat :=
  let c0_i32 : BitVec 32 := 0#32
  let c1_i32 : BitVec 32 := 1#32
  let arg14 : BitVec 32 := Scf.iv c0_i32 c1_i32 k0_t1
  let c128_i32 : BitVec 32 := 128#32
  let v367 : BitVec 32 := Scalar.muli arg14 c128_i32
  let v368 : BitVec 32 := v367
  let v658 : Index := Scalar.indexCast v368
  let c256_298 : Index := 256#32
  ![v658.toNat, 256]
def k0_off30 (k0_t1 : Fin k0_t1_loop.trips) (k0_t3 : Fin (k0_t3_loop k0_t1).trips) : Fin 2 → Nat :=
  let c0_i32 : BitVec 32 := 0#32
  let c1_i32 : BitVec 32 := 1#32
  let arg14 : BitVec 32 := Scf.iv c0_i32 c1_i32 k0_t1
  let c1_i32_290 : BitVec 32 := 1#32
  let v644 : BitVec 32 := Scalar.subi arg14 c1_i32_290
  let c0_i32_222 : BitVec 32 := 0#32
  let v479 : BitVec 32 := Scalar.subi arg14 c0_i32_222
  let c1_i32_223 : BitVec 32 := 1#32
  let v481 : BitVec 32 := Scalar.divsi v479 c1_i32_223
  let v482 : BitVec 32 := Scalar.muli v481 c1_i32_223
  let v483 : BitVec 32 := Scalar.addi c0_i32_222 v482
  let c1_i32_225 : BitVec 32 := 1#32
  let arg15 : BitVec 32 := Scf.iv v483 c1_i32_225 k0_t3
  let v645 : BitVec 32 := Scalar.subi v644 arg15
  let c128_i32_291 : BitVec 32 := 128#32
  let v646 : BitVec 32 := Scalar.muli v645 c128_i32_291
  let v647 : BitVec 32 := v646
  let v660 : Index := Scalar.indexCast v647
  let c256_299 : Index := 256#32
  ![v660.toNat, 256]
def k0_off31 (k0_t1 : Fin k0_t1_loop.trips) : Fin 2 → Nat :=
  let c0_i32 : BitVec 32 := 0#32
  let c1_i32 : BitVec 32 := 1#32
  let arg14 : BitVec 32 := Scf.iv c0_i32 c1_i32 k0_t1
  let c128_i32 : BitVec 32 := 128#32
  let v367 : BitVec 32 := Scalar.muli arg14 c128_i32
  let v368 : BitVec 32 := v367
  let v663 : Index := Scalar.indexCast v368
  let c384_301 : Index := 384#32
  ![v663.toNat, 384]
def k0_off32 (k0_t1 : Fin k0_t1_loop.trips) (k0_t3 : Fin (k0_t3_loop k0_t1).trips) : Fin 2 → Nat :=
  let c0_i32 : BitVec 32 := 0#32
  let c1_i32 : BitVec 32 := 1#32
  let arg14 : BitVec 32 := Scf.iv c0_i32 c1_i32 k0_t1
  let c1_i32_290 : BitVec 32 := 1#32
  let v644 : BitVec 32 := Scalar.subi arg14 c1_i32_290
  let c0_i32_222 : BitVec 32 := 0#32
  let v479 : BitVec 32 := Scalar.subi arg14 c0_i32_222
  let c1_i32_223 : BitVec 32 := 1#32
  let v481 : BitVec 32 := Scalar.divsi v479 c1_i32_223
  let v482 : BitVec 32 := Scalar.muli v481 c1_i32_223
  let v483 : BitVec 32 := Scalar.addi c0_i32_222 v482
  let c1_i32_225 : BitVec 32 := 1#32
  let arg15 : BitVec 32 := Scf.iv v483 c1_i32_225 k0_t3
  let v645 : BitVec 32 := Scalar.subi v644 arg15
  let c128_i32_291 : BitVec 32 := 128#32
  let v646 : BitVec 32 := Scalar.muli v645 c128_i32_291
  let v647 : BitVec 32 := v646
  let v665 : Index := Scalar.indexCast v647
  let c384_302 : Index := 384#32
  ![v665.toNat, 384]
def k0_off33 (k0_t1 : Fin k0_t1_loop.trips) : Fin 2 → Nat :=
  let c0_i32 : BitVec 32 := 0#32
  let c1_i32 : BitVec 32 := 1#32
  let arg14 : BitVec 32 := Scf.iv c0_i32 c1_i32 k0_t1
  let c128_i32 : BitVec 32 := 128#32
  let v367 : BitVec 32 := Scalar.muli arg14 c128_i32
  let v368 : BitVec 32 := v367
  let v668 : Index := Scalar.indexCast v368
  let c512_304 : Index := 512#32
  ![v668.toNat, 512]
def k0_off34 (k0_t1 : Fin k0_t1_loop.trips) (k0_t3 : Fin (k0_t3_loop k0_t1).trips) : Fin 2 → Nat :=
  let c0_i32 : BitVec 32 := 0#32
  let c1_i32 : BitVec 32 := 1#32
  let arg14 : BitVec 32 := Scf.iv c0_i32 c1_i32 k0_t1
  let c1_i32_290 : BitVec 32 := 1#32
  let v644 : BitVec 32 := Scalar.subi arg14 c1_i32_290
  let c0_i32_222 : BitVec 32 := 0#32
  let v479 : BitVec 32 := Scalar.subi arg14 c0_i32_222
  let c1_i32_223 : BitVec 32 := 1#32
  let v481 : BitVec 32 := Scalar.divsi v479 c1_i32_223
  let v482 : BitVec 32 := Scalar.muli v481 c1_i32_223
  let v483 : BitVec 32 := Scalar.addi c0_i32_222 v482
  let c1_i32_225 : BitVec 32 := 1#32
  let arg15 : BitVec 32 := Scf.iv v483 c1_i32_225 k0_t3
  let v645 : BitVec 32 := Scalar.subi v644 arg15
  let c128_i32_291 : BitVec 32 := 128#32
  let v646 : BitVec 32 := Scalar.muli v645 c128_i32_291
  let v647 : BitVec 32 := v646
  let v670 : Index := Scalar.indexCast v647
  let c512_305 : Index := 512#32
  ![v670.toNat, 512]
def k0_off35 (k0_t1 : Fin k0_t1_loop.trips) : Fin 2 → Nat :=
  let c0_i32 : BitVec 32 := 0#32
  let c1_i32 : BitVec 32 := 1#32
  let arg14 : BitVec 32 := Scf.iv c0_i32 c1_i32 k0_t1
  let c128_i32 : BitVec 32 := 128#32
  let v367 : BitVec 32 := Scalar.muli arg14 c128_i32
  let v368 : BitVec 32 := v367
  let v673 : Index := Scalar.indexCast v368
  let c640_307 : Index := 640#32
  ![v673.toNat, 640]
def k0_off36 (k0_t1 : Fin k0_t1_loop.trips) (k0_t3 : Fin (k0_t3_loop k0_t1).trips) : Fin 2 → Nat :=
  let c0_i32 : BitVec 32 := 0#32
  let c1_i32 : BitVec 32 := 1#32
  let arg14 : BitVec 32 := Scf.iv c0_i32 c1_i32 k0_t1
  let c1_i32_290 : BitVec 32 := 1#32
  let v644 : BitVec 32 := Scalar.subi arg14 c1_i32_290
  let c0_i32_222 : BitVec 32 := 0#32
  let v479 : BitVec 32 := Scalar.subi arg14 c0_i32_222
  let c1_i32_223 : BitVec 32 := 1#32
  let v481 : BitVec 32 := Scalar.divsi v479 c1_i32_223
  let v482 : BitVec 32 := Scalar.muli v481 c1_i32_223
  let v483 : BitVec 32 := Scalar.addi c0_i32_222 v482
  let c1_i32_225 : BitVec 32 := 1#32
  let arg15 : BitVec 32 := Scf.iv v483 c1_i32_225 k0_t3
  let v645 : BitVec 32 := Scalar.subi v644 arg15
  let c128_i32_291 : BitVec 32 := 128#32
  let v646 : BitVec 32 := Scalar.muli v645 c128_i32_291
  let v647 : BitVec 32 := v646
  let v675 : Index := Scalar.indexCast v647
  let c640_308 : Index := 640#32
  ![v675.toNat, 640]
def k0_off37 (k0_t1 : Fin k0_t1_loop.trips) : Fin 2 → Nat :=
  let c0_i32 : BitVec 32 := 0#32
  let c1_i32 : BitVec 32 := 1#32
  let arg14 : BitVec 32 := Scf.iv c0_i32 c1_i32 k0_t1
  let c128_i32 : BitVec 32 := 128#32
  let v367 : BitVec 32 := Scalar.muli arg14 c128_i32
  let v368 : BitVec 32 := v367
  let v678 : Index := Scalar.indexCast v368
  let c768_310 : Index := 768#32
  ![v678.toNat, 768]
def k0_off38 (k0_t1 : Fin k0_t1_loop.trips) (k0_t3 : Fin (k0_t3_loop k0_t1).trips) : Fin 2 → Nat :=
  let c0_i32 : BitVec 32 := 0#32
  let c1_i32 : BitVec 32 := 1#32
  let arg14 : BitVec 32 := Scf.iv c0_i32 c1_i32 k0_t1
  let c1_i32_290 : BitVec 32 := 1#32
  let v644 : BitVec 32 := Scalar.subi arg14 c1_i32_290
  let c0_i32_222 : BitVec 32 := 0#32
  let v479 : BitVec 32 := Scalar.subi arg14 c0_i32_222
  let c1_i32_223 : BitVec 32 := 1#32
  let v481 : BitVec 32 := Scalar.divsi v479 c1_i32_223
  let v482 : BitVec 32 := Scalar.muli v481 c1_i32_223
  let v483 : BitVec 32 := Scalar.addi c0_i32_222 v482
  let c1_i32_225 : BitVec 32 := 1#32
  let arg15 : BitVec 32 := Scf.iv v483 c1_i32_225 k0_t3
  let v645 : BitVec 32 := Scalar.subi v644 arg15
  let c128_i32_291 : BitVec 32 := 128#32
  let v646 : BitVec 32 := Scalar.muli v645 c128_i32_291
  let v647 : BitVec 32 := v646
  let v680 : Index := Scalar.indexCast v647
  let c768_311 : Index := 768#32
  ![v680.toNat, 768]
def k0_off39 (k0_t1 : Fin k0_t1_loop.trips) : Fin 2 → Nat :=
  let c0_i32 : BitVec 32 := 0#32
  let c1_i32 : BitVec 32 := 1#32
  let arg14 : BitVec 32 := Scf.iv c0_i32 c1_i32 k0_t1
  let c128_i32 : BitVec 32 := 128#32
  let v367 : BitVec 32 := Scalar.muli arg14 c128_i32
  let v368 : BitVec 32 := v367
  let v683 : Index := Scalar.indexCast v368
  let c896_313 : Index := 896#32
  ![v683.toNat, 896]
def k0_off40 (k0_t1 : Fin k0_t1_loop.trips) (k0_t3 : Fin (k0_t3_loop k0_t1).trips) : Fin 2 → Nat :=
  let c0_i32 : BitVec 32 := 0#32
  let c1_i32 : BitVec 32 := 1#32
  let arg14 : BitVec 32 := Scf.iv c0_i32 c1_i32 k0_t1
  let c1_i32_290 : BitVec 32 := 1#32
  let v644 : BitVec 32 := Scalar.subi arg14 c1_i32_290
  let c0_i32_222 : BitVec 32 := 0#32
  let v479 : BitVec 32 := Scalar.subi arg14 c0_i32_222
  let c1_i32_223 : BitVec 32 := 1#32
  let v481 : BitVec 32 := Scalar.divsi v479 c1_i32_223
  let v482 : BitVec 32 := Scalar.muli v481 c1_i32_223
  let v483 : BitVec 32 := Scalar.addi c0_i32_222 v482
  let c1_i32_225 : BitVec 32 := 1#32
  let arg15 : BitVec 32 := Scf.iv v483 c1_i32_225 k0_t3
  let v645 : BitVec 32 := Scalar.subi v644 arg15
  let c128_i32_291 : BitVec 32 := 128#32
  let v646 : BitVec 32 := Scalar.muli v645 c128_i32_291
  let v647 : BitVec 32 := v646
  let v685 : Index := Scalar.indexCast v647
  let c896_314 : Index := 896#32
  ![v685.toNat, 896]
def cc0_transform_0 (i : grid0.Coords) : Fin 3 → Nat :=
  let arg0 : BitVec 32 := BitVec.ofNat 32 (i 0).val
  let c0_i32 : BitVec 32 := 0#32
  let c3_i32 : BitVec 32 := 3#32
  let c0_i32_0 : BitVec 32 := 0#32
  ![arg0.toNat, c0_i32.toNat, c3_i32.toNat]

def cc0_transform_1 (i : grid0.Coords) : Fin 3 → Nat :=
  let arg0 : BitVec 32 := BitVec.ofNat 32 (i 0).val
  let c0_i32 : BitVec 32 := 0#32
  let c4_i32 : BitVec 32 := 4#32
  let c0_i32_0 : BitVec 32 := 0#32
  ![arg0.toNat, c0_i32.toNat, c4_i32.toNat]

def cc0_transform_2 (i : grid0.Coords) : Fin 3 → Nat :=
  let arg0 : BitVec 32 := BitVec.ofNat 32 (i 0).val
  let c0_i32 : BitVec 32 := 0#32
  let c5_i32 : BitVec 32 := 5#32
  let c0_i32_0 : BitVec 32 := 0#32
  ![arg0.toNat, c0_i32.toNat, c5_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2064x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2064x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2064x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x2064x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AttnRefIdeal.lean ====
abbrev S8x2064x6144 : Shape := ⟨3, ![8, 2064, 6144]⟩
abbrev S1x128 : Shape := ⟨2, ![1, 128]⟩
abbrev S1x2048 : Shape := ⟨2, ![1, 2048]⟩
abbrev S8x2064x3072 : Shape := ⟨3, ![8, 2064, 3072]⟩
abbrev S8x2064x1024 : Shape := ⟨3, ![8, 2064, 1024]⟩
abbrev S8x2064x8x128 : Shape := ⟨4, ![8, 2064, 8, 128]⟩
abbrev S128 : Shape := ⟨1, ![128]⟩
abbrev S_ : Shape := ⟨0, ![]⟩
abbrev S8x2064x8 : Shape := ⟨3, ![8, 2064, 8]⟩
abbrev S8x2064x8x1 : Shape := ⟨4, ![8, 2064, 8, 1]⟩
abbrev S1x1x1x128 : Shape := ⟨4, ![1, 1, 1, 128]⟩
abbrev S8x8x2064x128 : Shape := ⟨4, ![8, 8, 2064, 128]⟩
abbrev S8x8x2064x2064 : Shape := ⟨4, ![8, 8, 2064, 2064]⟩
abbrev S2064 : Shape := ⟨1, ![2064]⟩
abbrev S1x2064 : Shape := ⟨2, ![1, 2064]⟩
abbrev S2064x1 : Shape := ⟨2, ![2064, 1]⟩
abbrev S2064x2064 : Shape := ⟨2, ![2064, 2064]⟩
abbrev S2048 : Shape := ⟨1, ![2048]⟩
abbrev S1024 : Shape := ⟨1, ![1024]⟩
abbrev S1x1x1024 : Shape := ⟨3, ![1, 1, 1024]⟩

abbrev nBuf : Space → Nat
  | .hbm => 136
  | .vmem => 0
  | .smem => 0
  | _ => 0

abbrev hbmTy0_0 (i : Nat) : BufTy := match i % 128 with
  | 0 => ⟨S8x2064x6144, .bf16⟩
  | 1 => ⟨S1x128, .f32⟩
  | 2 => ⟨S1x128, .f32⟩
  | 3 => ⟨S1x2048, .f32⟩
  | 4 => ⟨S8x2064x6144, .f32⟩
  | 5 => ⟨S8x2064x3072, .f32⟩
  | 6 => ⟨S8x2064x1024, .f32⟩
  | 7 => ⟨S8x2064x1024, .f32⟩
  | 8 => ⟨S8x2064x1024, .f32⟩
  | 9 => ⟨S8x2064x8x128, .f32⟩
  | 10 => ⟨S128, .f32⟩
  | 11 => ⟨S8x2064x8x128, .f32⟩
  | 12 => ⟨S_, .f32⟩
  | 13 => ⟨S8x2064x8, .f32⟩
  | 14 => ⟨S8x2064x8x1, .f32⟩
  | 15 => ⟨S_, .f32⟩
  | 16 => ⟨S8x2064x8x1, .f32⟩
  | 17 => ⟨S8x2064x8x1, .f32⟩
  | 18 => ⟨S_, .f32⟩
  | 19 => ⟨S8x2064x8x1, .f32⟩
  | 20 => ⟨S8x2064x8x1, .f32⟩
  | 21 => ⟨S8x2064x8x1, .f32⟩
  | 22 => ⟨S8x2064x8x128, .f32⟩
  | 23 => ⟨S8x2064x8x128, .f32⟩
  | 24 => ⟨S1x1x1x128, .f32⟩
  | 25 => ⟨S8x2064x8x128, .f32⟩
  | 26 => ⟨S8x2064x8x128, .f32⟩
  | 27 => ⟨S8x8x2064x128, .f32⟩
  | 28 => ⟨S8x2064x8x128, .f32⟩
  | 29 => ⟨S128, .f32⟩
  | 30 => ⟨S8x2064x8x128, .f32⟩
  | 31 => ⟨S_, .f32⟩
  | 32 => ⟨S8x2064x8, .f32⟩
  | 33 => ⟨S8x2064x8x1, .f32⟩
  | 34 => ⟨S_, .f32⟩
  | 35 => ⟨S8x2064x8x1, .f32⟩
  | 36 => ⟨S8x2064x8x1, .f32⟩
  | 37 => ⟨S_, .f32⟩
  | 38 => ⟨S8x2064x8x1, .f32⟩
  | 39 => ⟨S8x2064x8x1, .f32⟩
  | 40 => ⟨S8x2064x8x1, .f32⟩
  | 41 => ⟨S8x2064x8x128, .f32⟩
  | 42 => ⟨S8x2064x8x128, .f32⟩
  | 43 => ⟨S1x1x1x128, .f32⟩
  | 44 => ⟨S8x2064x8x128, .f32⟩
  | 45 => ⟨S8x2064x8x128, .f32⟩
  | 46 => ⟨S8x8x2064x128, .f32⟩
  | 47 => ⟨S8x2064x8x128, .f32⟩
  | 48 => ⟨S8x8x2064x128, .f32⟩
  | 49 => ⟨S8x8x2064x2064, .f32⟩
  | 50 => ⟨S_, .f32⟩
  | 51 => ⟨S8x8x2064x2064, .f32⟩
  | 52 => ⟨S8x8x2064x2064, .f32⟩
  | 53 => ⟨S2064, .i32⟩
  | 54 => ⟨S1x2064, .i32⟩
  | 55 => ⟨S2064, .i32⟩
  | 56 => ⟨S2064x1, .i32⟩
  | 57 => ⟨S2064x2064, .i32⟩
  | 58 => ⟨S2064x2064, .i32⟩
  | 59 => ⟨S2064x2064, .i1⟩
  | 60 => ⟨S8x8x2064x2064, .f32⟩
  | 61 => ⟨S8x8x2064x2064, .f32⟩
  | 62 => ⟨S_, .f32⟩
  | 63 => ⟨S8x8x2064x2064, .f32⟩
  | 64 => ⟨S8x8x2064x2064, .f32⟩
  | 65 => ⟨S8x8x2064x2064, .f32⟩
  | 66 => ⟨S8x8x2064x2064, .f32⟩
  | 67 => ⟨S8x8x2064x2064, .i1⟩
  | 68 => ⟨S8x8x2064x2064, .f32⟩
  | 69 => ⟨S8x8x2064x2064, .f32⟩
  | 70 => ⟨S8x8x2064x2064, .f32⟩
  | 71 => ⟨S8x8x2064x2064, .f32⟩
  | 72 => ⟨S8x8x2064x2064, .f32⟩
  | 73 => ⟨S8x8x2064x2064, .f32⟩
  | 74 => ⟨S8x8x2064x2064, .f32⟩
  | 75 => ⟨S8x8x2064x2064, .f32⟩
  | 76 => ⟨S8x8x2064x2064, .f32⟩
  | 77 => ⟨S_, .f32⟩
  | 78 => ⟨S_, .f32⟩
  | 79 => ⟨S8x8x2064x2064, .i1⟩
  | 80 => ⟨S8x8x2064x2064, .f32⟩
  | 81 => ⟨S8x8x2064x2064, .f32⟩
  | 82 => ⟨S_, .f32⟩
  | 83 => ⟨S_, .f32⟩
  | 84 => ⟨S8x8x2064x2064, .f32⟩
  | 85 => ⟨S8x8x2064x2064, .f32⟩
  | 86 => ⟨S8x8x2064x2064, .f32⟩
  | 87 => ⟨S_, .f32⟩
  | 88 => ⟨S8x8x2064x2064, .f32⟩
  | 89 => ⟨S8x8x2064x2064, .f32⟩
  | 90 => ⟨S8x8x2064x2064, .f32⟩
  | 91 => ⟨S8x8x2064x2064, .f32⟩
  | 92 => ⟨S8x8x2064x2064, .i1⟩
  | 93 => ⟨S8x8x2064x2064, .f32⟩
  | 94 => ⟨S8x8x2064x2064, .f32⟩
  | 95 => ⟨S8x8x2064x2064, .f32⟩
  | 96 => ⟨S8x8x2064x2064, .f32⟩
  | 97 => ⟨S8x8x2064x2064, .f32⟩
  | 98 => ⟨S8x8x2064x2064, .f32⟩
  | 99 => ⟨S8x8x2064x2064, .f32⟩
  | 100 => ⟨S8x8x2064x2064, .f32⟩
  | 101 => ⟨S8x8x2064x2064, .f32⟩
  | 102 => ⟨S8x8x2064x2064, .f32⟩
  | 103 => ⟨S8x8x2064x2064, .f32⟩
  | 104 => ⟨S_, .f32⟩
  | 105 => ⟨S_, .f32⟩
  | 106 => ⟨S8x8x2064x2064, .i1⟩
  | 107 => ⟨S8x8x2064x2064, .f32⟩
  | 108 => ⟨S8x8x2064x2064, .f32⟩
  | 109 => ⟨S8x8x2064x128, .f32⟩
  | 110 => ⟨S8x2064x8x128, .f32⟩
  | 111 => ⟨S_, .f32⟩
  | 112 => ⟨S128, .f32⟩
  | 113 => ⟨S8x2064x8x128, .f32⟩
  | 114 => ⟨S_, .f32⟩
  | 115 => ⟨S8x2064x8, .f32⟩
  | 116 => ⟨S8x2064x8x1, .f32⟩
  | 117 => ⟨S_, .f32⟩
  | 118 => ⟨S8x2064x8x1, .f32⟩
  | 119 => ⟨S8x2064x8x1, .f32⟩
  | 120 => ⟨S_, .f32⟩
  | 121 => ⟨S8x2064x8x1, .f32⟩
  | 122 => ⟨S8x2064x8x1, .f32⟩
  | 123 => ⟨S8x2064x8x1, .f32⟩
  | 124 => ⟨S8x2064x8x128, .f32⟩
  | 125 => ⟨S8x2064x8x128, .f32⟩
  | 126 => ⟨S1x1x1x128, .f32⟩
  | 127 => ⟨S8x2064x8x128, .f32⟩
  | _ => ⟨S8x2064x6144, .bf16⟩

abbrev hbmTy0_1 (i : Nat) : BufTy := match i % 128 with
  | 0 => ⟨S8x2064x8x128, .f32⟩
  | 1 => ⟨S8x2064x1024, .f32⟩
  | 2 => ⟨S2048, .f32⟩
  | 3 => ⟨S1024, .f32⟩
  | 4 => ⟨S1x1x1024, .f32⟩
  | 5 => ⟨S8x2064x1024, .f32⟩
  | 6 => ⟨S8x2064x1024, .f32⟩
  | 7 => ⟨S8x2064x1024, .bf16⟩
  | _ => ⟨S8x2064x6144, .bf16⟩

abbrev hbmTy (i : Nat) : BufTy := match i / 128 with
  | 0 => hbmTy0_0 i
  | 1 => hbmTy0_1 i
  | _ => ⟨S8x2064x6144, .bf16⟩

abbrev bufTy : (tb : Table) → Fin (tcTables nBuf tb) → BufTy
  | .hbm, ⟨i, _⟩ => hbmTy i
  | _, _ => ⟨S8x2064x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_cst_4 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_5 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_call0_v0 : Ref sig .tc := ⟨.hbm, 61, rfl⟩
abbrev main_call0_call0_cst : Ref sig .tc := ⟨.hbm, 62, rfl⟩
abbrev main_call0_call0_v0 : Ref sig .tc := ⟨.hbm, 63, rfl⟩
abbrev main_call0_call0_v1 : Ref sig .tc := ⟨.hbm, 64, rfl⟩
abbrev main_call0_call0_v2 : Ref sig .tc := ⟨.hbm, 65, rfl⟩
abbrev main_call0_call0_v3 : Ref sig .tc := ⟨.hbm, 66, rfl⟩
abbrev main_call0_call0_v4 : Ref sig .tc := ⟨.hbm, 67, rfl⟩
abbrev main_call0_call0_v5 : Ref sig .tc := ⟨.hbm, 68, rfl⟩
abbrev main_call0_call0_v6 : Ref sig .tc := ⟨.hbm, 69, rfl⟩
abbrev main_call0_call0_v7 : Ref sig .tc := ⟨.hbm, 70, rfl⟩
abbrev main_call0_call0_v8 : Ref sig .tc := ⟨.hbm, 71, rfl⟩
abbrev main_call0_call0_v9 : Ref sig .tc := ⟨.hbm, 72, rfl⟩
abbrev main_call0_call0_v10 : Ref sig .tc := ⟨.hbm, 73, rfl⟩
abbrev main_call0_call0_v11 : Ref sig .tc := ⟨.hbm, 74, rfl⟩
abbrev main_call0_v1 : Ref sig .tc := ⟨.hbm, 75, rfl⟩
abbrev main_v50 : Ref sig .tc := ⟨.hbm, 76, rfl⟩
abbrev main_cst_6 : Ref sig .tc := ⟨.hbm, 77, rfl⟩
abbrev main_call1_v0 : Ref sig .tc := ⟨.hbm, 78, rfl⟩
abbrev main_call1_v1 : Ref sig .tc := ⟨.hbm, 79, rfl⟩
abbrev main_call1_v2 : Ref sig .tc := ⟨.hbm, 80, rfl⟩
abbrev main_v51 : Ref sig .tc := ⟨.hbm, 81, rfl⟩
abbrev main_call2_cst : Ref sig .tc := ⟨.hbm, 82, rfl⟩
abbrev main_call2_v0 : Ref sig .tc := ⟨.hbm, 83, rfl⟩
abbrev main_v52 : Ref sig .tc := ⟨.hbm, 84, rfl⟩
abbrev main_v53 : Ref sig .tc := ⟨.hbm, 85, rfl⟩
abbrev main_call3_v0 : Ref sig .tc := ⟨.hbm, 86, rfl⟩
abbrev main_call3_call0_cst : Ref sig .tc := ⟨.hbm, 87, rfl⟩
abbrev main_call3_call0_v0 : Ref sig .tc := ⟨.hbm, 88, rfl⟩
abbrev main_call3_call0_v1 : Ref sig .tc := ⟨.hbm, 89, rfl⟩
abbrev main_call3_call0_v2 : Ref sig .tc := ⟨.hbm, 90, rfl⟩
abbrev main_call3_call0_v3 : Ref sig .tc := ⟨.hbm, 91, rfl⟩
abbrev main_call3_call0_v4 : Ref sig .tc := ⟨.hbm, 92, rfl⟩
abbrev main_call3_call0_v5 : Ref sig .tc := ⟨.hbm, 93, rfl⟩
abbrev main_call3_call0_v6 : Ref sig .tc := ⟨.hbm, 94, rfl⟩
abbrev main_call3_call0_v7 : Ref sig .tc := ⟨.hbm, 95, rfl⟩
abbrev main_call3_call0_v8 : Ref sig .tc := ⟨.hbm, 96, rfl⟩
abbrev main_call3_call0_v9 : Ref sig .tc := ⟨.hbm, 97, rfl⟩
abbrev main_call3_call0_v10 : Ref sig .tc := ⟨.hbm, 98, rfl⟩
abbrev main_call3_call0_v11 : Ref sig .tc := ⟨.hbm, 99, rfl⟩
abbrev main_call3_v1 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_cst_7 : Ref sig .tc := ⟨.hbm, 104, rfl⟩
abbrev main_call4_v0 : Ref sig .tc := ⟨.hbm, 105, rfl⟩
abbrev main_call4_v1 : Ref sig .tc := ⟨.hbm, 106, rfl⟩
abbrev main_call4_v2 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_cst_8 : Ref sig .tc := ⟨.hbm, 111, rfl⟩
abbrev main_v60 : Ref sig .tc := ⟨.hbm, 112, rfl⟩
abbrev main_v61 : Ref sig .tc := ⟨.hbm, 113, rfl⟩
abbrev main_cst_9 : Ref sig .tc := ⟨.hbm, 114, rfl⟩
abbrev main_v62 : Ref sig .tc := ⟨.hbm, 115, rfl⟩
abbrev main_v63 : Ref sig .tc := ⟨.hbm, 116, rfl⟩
abbrev main_cst_10 : Ref sig .tc := ⟨.hbm, 117, rfl⟩
abbrev main_v64 : Ref sig .tc := ⟨.hbm, 118, rfl⟩
abbrev main_v65 : Ref sig .tc := ⟨.hbm, 119, rfl⟩
abbrev main_cst_11 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩

abbrev nD : Nat := 1
abbrev τ : Topo := Topo.v7x

variable {F : FTy → Type} [FloatOps F]
-- ==== Outproj.lean ====
abbrev S16512x1024 : Shape := ⟨2, ![16512, 1024]⟩
abbrev S1x2048x2048 : Shape := ⟨3, ![1, 2048, 2048]⟩
abbrev S16512x2048 : Shape := ⟨2, ![16512, 2048]⟩
abbrev S2048x2048 : Shape := ⟨2, ![2048, 2048]⟩
abbrev S688x1024 : Shape := ⟨2, ![688, 1024]⟩
abbrev S1024x1024 : Shape := ⟨2, ![1024, 1024]⟩

abbrev nBuf : Space → Nat
  | .hbm => 7
  | .vmem => 12
  | .smem => 0
  | _ => 0

abbrev bufTy : (tb : Table) → Fin (tcTables nBuf tb) → BufTy
  | .hbm, ⟨0, _⟩ => ⟨S16512x1024, .bf16⟩
  | .hbm, ⟨1, _⟩ => ⟨S16512x1024, .bf16⟩
  | .hbm, ⟨2, _⟩ => ⟨S1x2048x2048, .f32⟩
  | .hbm, ⟨3, _⟩ => ⟨S16512x2048, .f32⟩
  | .hbm, ⟨4, _⟩ => ⟨S2048x2048, .f32⟩
  | .hbm, ⟨5, _⟩ => ⟨S2048x2048, .bf16⟩
  | .hbm, ⟨6, _⟩ => ⟨S16512x2048, .f32⟩
  | .local _ .vmem, ⟨0, _⟩ => ⟨S688x1024, .bf16⟩
  | .local _ .vmem, ⟨1, _⟩ => ⟨S688x1024, .bf16⟩
  | .local _ .vmem, ⟨2, _⟩ => ⟨S688x1024, .bf16⟩
  | .local _ .vmem, ⟨3, _⟩ => ⟨S688x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S688x1024, .f32⟩
  | .local _ .vmem, ⟨9, _⟩ => ⟨S688x1024, .f32⟩
  | .local _ .vmem, ⟨10, _⟩ => ⟨S688x1024, .f32⟩
  | .local _ .vmem, ⟨11, _⟩ => ⟨S688x1024, .f32⟩
  | _, _ => ⟨S16512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 24], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S688x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S688x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S688x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S688x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== OutprojRefIdeal.lean ====
abbrev S16512x1024 : Shape := ⟨2, ![16512, 1024]⟩
abbrev S1x2048x2048 : Shape := ⟨3, ![1, 2048, 2048]⟩
abbrev S16512x2048 : Shape := ⟨2, ![16512, 2048]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S16512x1024, .bf16⟩
  | .hbm, ⟨1, _⟩ => ⟨S16512x1024, .bf16⟩
  | .hbm, ⟨2, _⟩ => ⟨S1x2048x2048, .f32⟩
  | .hbm, ⟨3, _⟩ => ⟨S16512x2048, .f32⟩
  | .hbm, ⟨4, _⟩ => ⟨S16512x2048, .bf16⟩
  | .hbm, ⟨5, _⟩ => ⟨S16512x2048, .f32⟩
  | .hbm, ⟨6, _⟩ => ⟨S2048x2048, .f32⟩
  | .hbm, ⟨7, _⟩ => ⟨S16512x2048, .f32⟩
  | .hbm, ⟨8, _⟩ => ⟨S16512x2048, .f32⟩
  | _, _ => ⟨S16512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Query.lean ====
abbrev S16512x2048 : Shape := ⟨2, ![16512, 2048]⟩
abbrev S1x2048 : Shape := ⟨2, ![1, 2048]⟩
abbrev S1x2048x2048 : Shape := ⟨3, ![1, 2048, 2048]⟩
abbrev S2048 : Shape := ⟨1, ![2048]⟩
abbrev S2048x2048 : Shape := ⟨2, ![2048, 2048]⟩
abbrev S688x2048 : Shape := ⟨2, ![688, 2048]⟩
abbrev S688 : Shape := ⟨1, ![688]⟩
abbrev S688x1 : Shape := ⟨2, ![688, 1]⟩

abbrev nBuf : Space → Nat
  | .hbm => 9
  | .vmem => 8
  | .smem => 0
  | _ => 0

abbrev bufTy : (tb : Table) → Fin (tcTables nBuf tb) → BufTy
  | .hbm, ⟨0, _⟩ => ⟨S16512x2048, .f32⟩
  | .hbm, ⟨1, _⟩ => ⟨S1x2048, .f32⟩
  | .hbm, ⟨2, _⟩ => ⟨S1x2048x2048, .f32⟩
  | .hbm, ⟨3, _⟩ => ⟨S2048, .f32⟩
  | .hbm, ⟨4, _⟩ => ⟨S1x2048, .f32⟩
  | .hbm, ⟨5, _⟩ => ⟨S2048x2048, .f32⟩
  | .hbm, ⟨6, _⟩ => ⟨S2048x2048, .bf16⟩
  | .hbm, ⟨7, _⟩ => ⟨S16512x2048, .bf16⟩
  | .hbm, ⟨8, _⟩ => ⟨S16512x2048, .bf16⟩
  | .local _ .vmem, ⟨0, _⟩ => ⟨S688x2048, .f32⟩
  | .local _ .vmem, ⟨1, _⟩ => ⟨S688x2048, .f32⟩
  | .local _ .vmem, ⟨2, _⟩ => ⟨S1x2048, .f32⟩
  | .local _ .vmem, ⟨3, _⟩ => ⟨S2048x2048, .bf16⟩
  | .local _ .vmem, ⟨4, _⟩ => ⟨S688x2048, .bf16⟩
  | .local _ .vmem, ⟨5, _⟩ => ⟨S688x2048, .bf16⟩
  | .local _ .vmem, ⟨6, _⟩ => ⟨S688x2048, .bf16⟩
  | .local _ .vmem, ⟨7, _⟩ => ⟨S688x2048, .bf16⟩
  | _, _ => ⟨S16512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![24, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S688x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S688x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S688x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== QueryRefIdeal.lean ====
abbrev S16512x2048 : Shape := ⟨2, ![16512, 2048]⟩
abbrev S1x2048 : Shape := ⟨2, ![1, 2048]⟩
abbrev S1x2048x2048 : Shape := ⟨3, ![1, 2048, 2048]⟩
abbrev S2048 : Shape := ⟨1, ![2048]⟩
abbrev S_ : Shape := ⟨0, ![]⟩
abbrev S16512 : Shape := ⟨1, ![16512]⟩
abbrev S16512x1 : Shape := ⟨2, ![16512, 1]⟩
abbrev S2048x2048 : Shape := ⟨2, ![2048, 2048]⟩

abbrev nBuf : Space → Nat
  | .hbm => 24
  | .vmem => 0
  | .smem => 0
  | _ => 0

abbrev bufTy : (tb : Table) → Fin (tcTables nBuf tb) → BufTy
  | .hbm, ⟨0, _⟩ => ⟨S16512x2048, .f32⟩
  | .hbm, ⟨1, _⟩ => ⟨S1x2048, .f32⟩
  | .hbm, ⟨2, _⟩ => ⟨S1x2048x2048, .f32⟩
  | .hbm, ⟨3, _⟩ => ⟨S2048, .f32⟩
  | .hbm, ⟨4, _⟩ => ⟨S16512x2048, .f32⟩
  | .hbm, ⟨5, _⟩ => ⟨S_, .f32⟩
  | .hbm, ⟨6, _⟩ => ⟨S16512, .f32⟩
  | .hbm, ⟨7, _⟩ => ⟨S16512x1, .f32⟩
  | .hbm, ⟨8, _⟩ => ⟨S_, .f32⟩
  | .hbm, ⟨9, _⟩ => ⟨S16512x1, .f32⟩
  | .hbm, ⟨10, _⟩ => ⟨S16512x1, .f32⟩
  | .hbm, ⟨11, _⟩ => ⟨S_, .f32⟩
  | .hbm, ⟨12, _⟩ => ⟨S16512x1, .f32⟩
  | .hbm, ⟨13, _⟩ => ⟨S16512x1, .f32⟩
  | .hbm, ⟨14, _⟩ => ⟨S16512x1, .f32⟩
  | .hbm, ⟨15, _⟩ => ⟨S16512x2048, .f32⟩
  | .hbm, ⟨16, _⟩ => ⟨S16512x2048, .f32⟩
  | .hbm, ⟨17, _⟩ => ⟨S1x2048, .f32⟩
  | .hbm, ⟨18, _⟩ => ⟨S16512x2048, .f32⟩
  | .hbm, ⟨19, _⟩ => ⟨S16512x2048, .f32⟩
  | .hbm, ⟨20, _⟩ => ⟨S2048x2048, .f32⟩
  | .hbm, ⟨21, _⟩ => ⟨S16512x2048, .f32⟩
  | .hbm, ⟨22, _⟩ => ⟨S16512x2048, .bf16⟩
  | .hbm, ⟨23, _⟩ => ⟨S16512x2048, .bf16⟩
  | _, _ => ⟨S16512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Combine.lean ====
abbrev S16512x2048 : Shape := ⟨2, ![16512, 2048]⟩
abbrev S4x16512x2048 : Shape := ⟨3, ![4, 16512, 2048]⟩
abbrev S4x258 : Shape := ⟨2, ![4, 258]⟩
abbrev S1032 : Shape := ⟨1, ![1032]⟩
abbrev S192x2048 : Shape := ⟨2, ![192, 2048]⟩
abbrev S4x192x2048 : Shape := ⟨3, ![4, 192, 2048]⟩
abbrev S64x2048 : Shape := ⟨2, ![64, 2048]⟩
abbrev S1 : Shape := ⟨1, ![1]⟩
abbrev S1x64x2048 : Shape := ⟨3, ![1, 64, 2048]⟩
abbrev S8x2064x2048 : Shape := ⟨3, ![8, 2064, 2048]⟩
abbrev S8x2048x2048 : Shape := ⟨3, ![8, 2048, 2048]⟩

abbrev nBuf : Space → Nat
  | .hbm => 6
  | .vmem => 6
  | .smem => 1
  | _ => 0

abbrev bufTy : (tb : Table) → Fin (tcTables nBuf tb) → BufTy
  | .hbm, ⟨0, _⟩ => ⟨S16512x2048, .f32⟩
  | .hbm, ⟨1, _⟩ => ⟨S4x16512x2048, .f32⟩
  | .hbm, ⟨2, _⟩ => ⟨S4x258, .i32⟩
  | .hbm, ⟨3, _⟩ => ⟨S16512x2048, .f32⟩
  | .hbm, ⟨4, _⟩ => ⟨S8x2064x2048, .f32⟩
  | .hbm, ⟨5, _⟩ => ⟨S8x2048x2048, .f32⟩
  | .local _ .vmem, ⟨0, _⟩ => ⟨S192x2048, .f32⟩
  | .local _ .vmem, ⟨1, _⟩ => ⟨S192x2048, .f32⟩
  | .local _ .vmem, ⟨2, _⟩ => ⟨S4x192x2048, .f32⟩
  | .local _ .vmem, ⟨3, _⟩ => ⟨S4x192x2048, .f32⟩
  | .local _ .vmem, ⟨4, _⟩ => ⟨S192x2048, .f32⟩
  | .local _ .vmem, ⟨5, _⟩ => ⟨S192x2048, .f32⟩
  | .local _ .smem, ⟨0, _⟩ => ⟨S1032, .i32⟩
  | _, _ => ⟨S16512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![86], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32 : BitVec 32) (c0_i32_1 : BitVec 32) : Fin 1 → Nat :=
  let arg0 : BitVec 32 := BitVec.ofNat 32 (i 0).val
  let c3_i32 : BitVec 32 := 3#32
  let v1 : BitVec 32 := Scalar.muli arg0 c3_i32
  let v2 : BitVec 32 := Scalar.addi c0_i32 v1
  let v3 : BitVec 32 := Scalar.addi v2 c0_i32_1
  let v4 : Index := Scalar.indexCast v3
  ![v4.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S192x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x192x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S192x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== CombineRefIdeal.lean ====
abbrev S16512x2048 : Shape := ⟨2, ![16512, 2048]⟩
abbrev S4x16512x2048 : Shape := ⟨3, ![4, 16512, 2048]⟩
abbrev S4x258 : Shape := ⟨2, ![4, 258]⟩
abbrev S_ : Shape := ⟨0, ![]⟩
abbrev S4x258x64 : Shape := ⟨3, ![4, 258, 64]⟩
abbrev S4x16512 : Shape := ⟨2, ![4, 16512]⟩
abbrev S4x16512x1 : Shape := ⟨3, ![4, 16512, 1]⟩
abbrev S8x2064x2048 : Shape := ⟨3, ![8, 2064, 2048]⟩
abbrev S8x2048x2048 : Shape := ⟨3, ![8, 2048, 2048]⟩

abbrev nBuf : Space → Nat
  | .hbm => 19
  | .vmem => 0
  | .smem => 0
  | _ => 0

abbrev bufTy : (tb : Table) → Fin (tcTables nBuf tb) → BufTy
  | .hbm, ⟨0, _⟩ => ⟨S16512x2048, .f32⟩
  | .hbm, ⟨1, _⟩ => ⟨S4x16512x2048, .f32⟩
  | .hbm, ⟨2, _⟩ => ⟨S4x258, .i32⟩
  | .hbm, ⟨3, _⟩ => ⟨S_, .i32⟩
  | .hbm, ⟨4, _⟩ => ⟨S4x258, .i32⟩
  | .hbm, ⟨5, _⟩ => ⟨S4x258, .i1⟩
  | .hbm, ⟨6, _⟩ => ⟨S4x258x64, .i1⟩
  | .hbm, ⟨7, _⟩ => ⟨S4x16512, .i1⟩
  | .hbm, ⟨8, _⟩ => ⟨S4x16512x1, .i1⟩
  | .hbm, ⟨9, _⟩ => ⟨S_, .f32⟩
  | .hbm, ⟨10, _⟩ => ⟨S_, .f32⟩
  | .hbm, ⟨11, _⟩ => ⟨S4x16512x2048, .i1⟩
  | .hbm, ⟨12, _⟩ => ⟨S4x16512x2048, .f32⟩
  | .hbm, ⟨13, _⟩ => ⟨S4x16512x2048, .f32⟩
  | .hbm, ⟨14, _⟩ => ⟨S_, .f32⟩
  | .hbm, ⟨15, _⟩ => ⟨S16512x2048, .f32⟩
  | .hbm, ⟨16, _⟩ => ⟨S16512x2048, .f32⟩
  | .hbm, ⟨17, _⟩ => ⟨S8x2064x2048, .f32⟩
  | .hbm, ⟨18, _⟩ => ⟨S8x2048x2048, .f32⟩
  | _, _ => ⟨S16512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩

abbrev nD : Nat := 1
abbrev τ : Topo := Topo.v7x

variable {F : FTy → Type} [FloatOps F]
-- ==== Proof.PackBody.lean ====
/-
  THE PACK CALL RUNS. One grid step takes 256 rows of each expert table and leaves 4096 rows of packed words: sixteen
  stores, store w = 8 t + j writing the words of lane group j of table t to the rows whose number is w modulo 16.
  Here: what the sixteen stores leave in the result block (`out`), that they fill it, the body's triple, and the run
  of the whole call, at any float values.
-/
module

public import proofs.«01_k».proof.Proof.Gen.Kernel.Frame
public import proofs.«01_k».proof.Proof.Gen.Kernel.Skeleton
public import Idealize.ShloMosaic.Lib.Claim

@[expose] public section

set_option maxRecDepth 16384

noncomputable section

namespace Cert.Kernel.Pack

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## The stores of one step -/

/-- The rows of the result block that store `w` writes: `w`, `w + 16`, `w + 32`, … -/
abbrev rowsOf (w : Fin 16) : Rect S4096x128 :=
  ⟨⟨![w.val, 0], S256x128.size, ![16, 1], fun a => by
    have := w.isLt
    match a with
    | ⟨0, _⟩ => exact Or.inr (show w.val + 16 * (256 - 1) < 4096 by omega)
    | ⟨1, _⟩ => exact Or.inr (show 0 + 1 * (128 - 1) < 128 by decide)⟩, fun a => by
    match a with
    | ⟨0, _⟩ => exact Nat.succ_pos 15
    | ⟨1, _⟩ => exact Nat.one_pos⟩

/-- The 128 lanes from lane `n` on, of all 256 rows of a table block. -/
abbrev lanes (n : Nat) (h : n + 128 ≤ 2048) : Rect S256x2048 :=
  Rect.unit (s := S256x2048) ![0, n] S256x128.size fun a => by
    match a with
    | ⟨0, _⟩ => exact (show 0 + 256 ≤ 256 by decide)
    | ⟨1, _⟩ => exact (show n + 128 ≤ 2048 from h)

/-- The words of lane group `n / 256` of a table block: lane `n + l` low, lane `n + 128 + l` high. -/
def pk (x : Vec F S256x2048 .f32) (n : Nat) (h : n + 128 + 128 ≤ 2048) : IVec S256x128 32 :=
  packElementwise (View.ld x (lanes n (by omega)) : FVec F S256x128 .f32) (View.ld x (lanes (n + 128) h))

/-- The sixteen stores, the last first, with any words. -/
def pieces (p : Fin 16 → Vec F S256x128 .i32) : List (View.Piece (Elt F) S4096x128 .i32) :=
  [⟨rowsOf 15, p 15⟩, ⟨rowsOf 14, p 14⟩, ⟨rowsOf 13, p 13⟩, ⟨rowsOf 12, p 12⟩, ⟨rowsOf 11, p 11⟩, ⟨rowsOf 10, p 10⟩,
   ⟨rowsOf 9, p 9⟩, ⟨rowsOf 8, p 8⟩, ⟨rowsOf 7, p 7⟩, ⟨rowsOf 6, p 6⟩, ⟨rowsOf 5, p 5⟩, ⟨rowsOf 4, p 4⟩, ⟨rowsOf 3, p 3⟩,
   ⟨rowsOf 2, p 2⟩, ⟨rowsOf 1, p 1⟩, ⟨rowsOf 0, p 0⟩]

/-- The words that the step's stores carry: eight lane groups of the first table, then eight of the second. -/
def words (x0 x1 : Vec F S256x2048 .f32) : Fin 16 → Vec F S256x128 .i32 := fun w =>
  if h : w.val < 8 then pk x0 (256 * w.val) (by omega) else pk x1 (256 * (w.val - 8)) (by omega)

/-- What a step leaves in the result block. -/
def out (x0 x1 : Vec F S256x2048 .f32) : Vec F S4096x128 .i32 := View.canon (pieces (words x0 x1))

theorem mem_rowsOf (w : Fin 16) (y : S4096x128.Idx) : y ∈ (rowsOf w).set ↔ (y 0 : Nat) % 16 = w.val := by
  have h0 : (y 0 : Nat) < 4096 := (y 0).isLt
  have h1 : (y 1 : Nat) < 128 := (y 1).isLt
  have hw := w.isLt
  rw [LoadRect.mem_set]
  constructor
  · intro h
    obtain ⟨j, hj, e⟩ := h 0
    have e' : (y 0 : Nat) = w.val + 16 * j := e
    omega
  · intro h a
    match a with
    | ⟨0, _⟩ => exact ⟨(y 0 : Nat) / 16, show _ < 256 by omega, show (y 0 : Nat) = w.val + 16 * ((y 0 : Nat) / 16) by omega⟩
    | ⟨1, _⟩ => exact ⟨(y 1 : Nat), h1, show (y 1 : Nat) = 0 + 1 * (y 1 : Nat) by omega⟩

theorem mem_pieces (p : Fin 16 → Vec F S256x128 .i32) (w : Fin 16) :
    (⟨rowsOf w, p w⟩ : View.Piece (Elt F) S4096x128 .i32) ∈ pieces p := by
  fin_cases w <;> simp [pieces]

theorem of_mem_pieces {p : Fin 16 → Vec F S256x128 .i32} {q : View.Piece (Elt F) S4096x128 .i32} (h : q ∈ pieces p) :
    ∃ w, q = ⟨rowsOf w, p w⟩ := by
  simp only [pieces, List.mem_cons, List.not_mem_nil, or_false] at h
  rcases h with h | h | h | h | h | h | h | h | h | h | h | h | h | h | h | h <;> exact ⟨_, h⟩

/-- Every row of the block is some store's. -/
theorem cover (p : Fin 16 → Vec F S256x128 .i32) (y : S4096x128.Idx) : ∃ q ∈ pieces p, y ∈ q.1.set :=
  ⟨_, mem_pieces p ⟨(y 0 : Nat) % 16, Nat.mod_lt _ (by decide)⟩, (mem_rowsOf _ y).mpr rfl⟩

/-! ## The body's triple -/

set_option maxHeartbeats 4000000 in
/-- The body on the two table blocks and a result block holding anything: the table blocks stay, the result block ends
    at `out` of them. -/
theorem sound_kernel (c : Dev nD) (E : Set ℕ) (i : grid0.Coords) (arg1 : Memref sig .tc .vmem S256x2048 .f32) (harg1 : arg1.IsWhole)
    (arg2 : Memref sig .tc .vmem S256x2048 .f32) (harg2 : arg2.IsWhole) (arg3 : Memref sig .tc .vmem S4096x128 .i32) (harg3 : arg3.IsWhole)
    (x0 x1 : Vec F S256x2048 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out x0 x1)) -∗ K ⟨⟩))
      ⊢ wp frame (wpE (defs₀ (F := F)) Variants.none c none) E (cc0_pack_tables i arg1 harg1 arg2 harg2 arg3 harg3) K := by
  simp only [cc0_pack_tables_eq_skeleton]; unfold cc0_pack_tables_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover (words (arg1.view.read (Elt F) f0) (arg2.view.read (Elt F) f1)))

/-! ## The pipeline's proof data -/

/-- The arrays as launched; after the body each table block as fetched and the result block at `out`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = out (iblk m c 0 t) (iblk m c 1 t) := by
  dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-! ## The body at a grid point, and the run -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- THE LAUNCH: every array of the pipeline at what the proof data say, and every semaphore counter at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- THE FRAME: the call ends, its arguments are unchanged and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_main_quiescent m ρ))

end Cert.Kernel.Pack

end
-- ==== Proof.PackValue.lean ====
/-
  WHAT THE PACK CALL COMPUTES. Row 16 e + 8 t + j, lane l of the result holds table t (0: the up vectors, 1: the down
  vectors) of expert e: lane 256 j + l rounded to bf16 in the low half of the word, lane 256 j + 128 + l in the high half
  (`packed`). The kernel's result array is that (`final`), and so is the reference's composed term (`reference_packed`).
-/
module

public import proofs.«01_k».proof.Proof.PackBody
public import proofs.«01_k».proof.Proof.Gen.Reference.Run
public import Idealize.ShloMosaic.Lib.Pipeline.Value
public import Idealize.ShloMosaic.Lib.ValueIdxCore
public import Idealize.ShloMosaic.Lib.BitcastConvert

@[expose] public section

set_option maxRecDepth 16384

noncomputable section

open Idealize.ShloMosaic Idealize.ShloMosaic.TcCoe Idealize.SL.Sem Idealize.ShloMosaic.ValueIdx
open Idealize.ShloMosaic.Pipeline (Dat)

namespace Cert.Kernel.Pack

open Cert.Kernel Cert.Kernel.Gen

variable {F : FTy → Type} [BitOps F]

/-- The word of two numbers, both rounded to bf16: the first in the low half, the second in the high half. -/
def word (lo hi : F .f32) : BitVec 32 :=
  BitOps.toBits (FloatOps.truncf .bf16 (by decide : FTy.bits .bf16 < FTy.bits .f32) hi) ++ BitOps.toBits (FloatOps.truncf .bf16 (by decide : FTy.bits .bf16 < FTy.bits .f32) lo)

/-- A table's word for expert row `e`, lane group `j`, lane `l`. -/
def wordAt {n : Nat} (x : Vec F ⟨2, ![n, 2048]⟩ .f32) (e j l : Nat) (he : e < n) (hj : j < 8) (hl : l < 128) : BitVec 32 :=
  word (x (ix2 ⟨e, he⟩ ⟨256 * j + l, by omega⟩)) (x (ix2 ⟨e, he⟩ ⟨256 * j + 128 + l, by omega⟩))

/-- The packed tables, whole: row `16 e + 8 t + j` holds lane group `j` of table `t` of expert `e`. -/
def packed (u v : Vec F S16384x2048 .f32) : Vec F S262144x128 .i32 := fun i =>
  have h0 : (i 0 : Nat) < 262144 := (i 0).isLt
  wordAt (if (i 0 : Nat) % 16 < 8 then u else v) ((i 0 : Nat) / 16) ((i 0 : Nat) % 8) (i 1) (by omega) (by omega) (i 1).isLt

/-- One step's result block: the same of the step's 256 rows. -/
def packedBlk (u v : Vec F S256x2048 .f32) : Vec F S4096x128 .i32 := fun i =>
  have h0 : (i 0 : Nat) < 4096 := (i 0).isLt
  wordAt (if (i 0 : Nat) % 16 < 8 then u else v) ((i 0 : Nat) / 16) ((i 0 : Nat) % 8) (i 1) (by omega) (by omega) (i 1).isLt

theorem pk_apply (x : Vec F S256x2048 .f32) (j : Nat) (hj : j < 8) (h : 256 * j + 128 + 128 ≤ 2048) (k : S256x128.Idx) :
    pk x (256 * j) h k = wordAt x (k 0) j (k 1) (k 0).isLt hj (k 1).isLt := by
  have e1 : (lanes (256 * j) (by omega)).emb k = ix2 (n0 := 256) (n1 := 2048) ⟨k 0, (k 0).isLt⟩ ⟨256 * j + k 1, by have : (k 1 : Nat) < 128 := (k 1).isLt; omega⟩ := by
    funext a
    match a with
    | ⟨0, _⟩ => exact Fin.ext (show 0 + 1 * (k 0 : Nat) = k 0 by omega)
    | ⟨1, _⟩ => exact Fin.ext (show 256 * j + 1 * (k 1 : Nat) = 256 * j + k 1 by omega)
  have e2 : (lanes (256 * j + 128) h).emb k = ix2 (n0 := 256) (n1 := 2048) ⟨k 0, (k 0).isLt⟩ ⟨256 * j + 128 + k 1, by have : (k 1 : Nat) < 128 := (k 1).isLt; omega⟩ := by
    funext a
    match a with
    | ⟨0, _⟩ => exact Fin.ext (show 0 + 1 * (k 0 : Nat) = k 0 by omega)
    | ⟨1, _⟩ => exact Fin.ext (show 256 * j + 128 + 1 * (k 1 : Nat) = 256 * j + 128 + k 1 by omega)
  show word (x ((lanes (256 * j) _).emb k)) (x ((lanes (256 * j + 128) h).emb k)) = _
  rw [e1, e2]; rfl

theorem wordAt_congr {n : Nat} {x x' : Vec F ⟨2, ![n, 2048]⟩ .f32} {e e' j j' l l' : Nat} {he he' hj hj' hl hl'}
    (hx : x = x') (h1 : e = e') (h2 : j = j') (h3 : l = l') : wordAt x e j l he hj hl = wordAt x' e' j' l' he' hj' hl' := by
  subst hx h1 h2 h3; rfl

/-- The sixteen stores leave the packed block. -/
theorem out_eq (x0 x1 : Vec F S256x2048 .f32) : out x0 x1 = packedBlk x0 x1 := by
  funext y
  refine View.canon_apply_of_pieces (packedBlk x0 x1) _ ?_ y (cover _ y)
  intro q hq k
  obtain ⟨w, rfl⟩ := of_mem_pieces hq
  have hk : (k 0 : Nat) < 256 := (k 0).isLt
  have hw := w.isLt
  have r0 : (((rowsOf w).emb k) 0 : Nat) = w.val + 16 * (k 0 : Nat) := rfl
  have r1 : (((rowsOf w).emb k) 1 : Nat) = (k 1 : Nat) := by show 0 + 1 * (k 1 : Nat) = k 1; omega
  show words x0 x1 w k = packedBlk x0 x1 ((rowsOf w).emb k)
  unfold words packedBlk
  dsimp only
  by_cases h : w.val < 8
  · rw [dif_pos h]
    refine (pk_apply x0 w.val h _ k).trans (wordAt_congr ?_ ?_ ?_ ?_)
    · rw [if_pos (by omega)]
    · omega
    · omega
    · exact r1.symm
  · rw [dif_neg h]
    refine (pk_apply x1 (w.val - 8) (by omega) _ k).trans (wordAt_congr ?_ ?_ ?_ ?_)
    · rw [if_neg (by omega)]
    · omega
    · omega
    · exact r1.symm

variable (m : (ℓ : Loc nD τ sig) → Buf (Elt F) ℓ) (ρ : Dev nD → PrngReg)

/-- The two tables as launched, packed. -/
abbrev result (c : Dev nD) : Buf (Elt F) ((c : Thread nD τ).loc main_v0) :=
  packed (m ((c : Thread nD τ).loc main_arg0)) (m ((c : Thread nD τ).loc main_arg1))

theorem index_facts (t : Fin cfg0.N) :
    (win0_0.index t 0 * win0_0.size 0 = 256 * t.val ∧ win0_0.index t 1 * win0_0.size 1 = 0)
    ∧ (win0_1.index t 0 * win0_1.size 0 = 256 * t.val ∧ win0_1.index t 1 * win0_1.size 1 = 0)
    ∧ (win0_2.index t 0 * win0_2.size 0 = 4096 * t.val ∧ win0_2.index t 1 * win0_2.size 1 = 0) := by
  revert t; decide +kernel

/-- What step `t` writes back is its block of the packed tables. -/
theorem flushed_eq (c : Dev nD) (t : Fin cfg0.N) :
    (dats m 0 c).flushed 2 t = (win0_2.blk t).view.read (Elt F) (result m c) := by
  show (cfg0.win 2).cut (grid0.coords t) ((dats m 0 c).after 2 t) = _
  rw [after2, out_eq]
  obtain ⟨⟨a0, a1⟩, ⟨b0, b1⟩, ⟨c0, c1⟩⟩ := index_facts t
  funext y
  have hy : (y 0 : Nat) < 4096 := (y 0).isLt
  have r0 : (((win0_2.rect t).emb y) 0 : Nat) = 4096 * t.val + (y 0 : Nat) := by
    show win0_2.index t 0 * win0_2.size 0 + 1 * (y 0 : Nat) = _; rw [c0]; omega
  have r1 : (((win0_2.rect t).emb y) 1 : Nat) = (y 1 : Nat) := by
    show win0_2.index t 1 * win0_2.size 1 + 1 * (y 1 : Nat) = _; rw [c1]; omega
  have hu (e l : Nat) (he : e < 256) (hl : l < 2048) (he' : e + 256 * t.val < 16384) :
      iblk m c 0 t (ix2 ⟨e, he⟩ ⟨l, hl⟩) = m ((c : Thread nD τ).loc main_arg0) (ix2 ⟨e + 256 * t.val, he'⟩ ⟨l, hl⟩) := by
    show m ((c : Thread nD τ).loc main_arg0) ((win0_0.rect t).emb _) = _
    congr 1
    funext a
    match a with
    | ⟨0, _⟩ => exact Fin.ext (show win0_0.index t 0 * win0_0.size 0 + 1 * e = e + 256 * t.val by rw [a0]; omega)
    | ⟨1, _⟩ => exact Fin.ext (show win0_0.index t 1 * win0_0.size 1 + 1 * l = l by rw [a1]; omega)
  have hv (e l : Nat) (he : e < 256) (hl : l < 2048) (he' : e + 256 * t.val < 16384) :
      iblk m c 1 t (ix2 ⟨e, he⟩ ⟨l, hl⟩) = m ((c : Thread nD τ).loc main_arg1) (ix2 ⟨e + 256 * t.val, he'⟩ ⟨l, hl⟩) := by
    show m ((c : Thread nD τ).loc main_arg1) ((win0_1.rect t).emb _) = _
    congr 1
    funext a
    match a with
    | ⟨0, _⟩ => exact Fin.ext (show win0_1.index t 0 * win0_1.size 0 + 1 * e = e + 256 * t.val by rw [b0]; omega)
    | ⟨1, _⟩ => exact Fin.ext (show win0_1.index t 1 * win0_1.size 1 + 1 * l = l by rw [b1]; omega)
  have ht : t.val < 64 := t.isLt
  show packedBlk (iblk m c 0 t) (iblk m c 1 t) y = packed _ _ ((win0_2.rect t).emb y)
  unfold packedBlk packed
  dsimp only
  by_cases h : (y 0 : Nat) % 16 < 8
  · rw [if_pos h, if_pos (by omega)]
    refine Eq.trans ?_ (wordAt_congr rfl (e := (y 0 : Nat) / 16 + 256 * t.val) (he := by omega) (j := (y 0 : Nat) % 8)
      (hj := by omega) (l := y 1) (hl := (y 1).isLt) (by omega) (by omega) r1.symm)
    unfold wordAt
    rw [hu _ _ _ _ (by omega), hu _ _ _ _ (by omega)]
  · rw [if_neg h, if_neg (by omega)]
    refine Eq.trans ?_ (wordAt_congr rfl (e := (y 0 : Nat) / 16 + 256 * t.val) (he := by omega) (j := (y 0 : Nat) % 8)
      (hj := by omega) (l := y 1) (hl := (y 1).isLt) (by omega) (by omega) r1.symm)
    unfold wordAt
    rw [hv _ _ _ _ (by omega), hv _ _ _ _ (by omega)]

/-- The blocks of the 64 steps fill the result. -/
theorem cover_steps (i : S262144x128.Idx) : ∃ t : Fin cfg0.N, (cfg0.win 2).flush t = true ∧ i ∈ ((cfg0.win 2).blk t).view.set := by
  have h0 : (i 0 : Nat) < 262144 := (i 0).isLt
  have h1 : (i 1 : Nat) < 128 := (i 1).isLt
  have ht : (i 0 : Nat) / 4096 < 64 := by omega
  refine ⟨⟨(i 0 : Nat) / 4096, ht⟩, flush0_2 _, ?_⟩
  obtain ⟨-, -, ⟨c0, c1⟩⟩ := index_facts ⟨(i 0 : Nat) / 4096, ht⟩
  show i ∈ ((View.whole main_v0).slice (win0_2.rect (⟨(i 0 : Nat) / 4096, ht⟩ : Fin cfg0.N))).set
  rw [View.set_slice_whole, Rect.mem_set_unit]
  intro a
  match a with
  | ⟨0, _⟩ =>
    show win0_2.index _ 0 * win0_2.size 0 ≤ (i 0 : Nat) ∧ (i 0 : Nat) < win0_2.index _ 0 * win0_2.size 0 + 4096
    rw [c0]; dsimp only; omega
  | ⟨1, _⟩ =>
    show win0_2.index _ 1 * win0_2.size 1 ≤ (i 1 : Nat) ∧ (i 1 : Nat) < win0_2.index _ 1 * win0_2.size 1 + 128
    rw [c1]; omega

theorem final (c : Dev nD) : (dats m 0 c).arrAt 2 cfg0.N = result m c :=
  (dats m 0 c).arrAt_eq_of_cover 2 (result m c) (fun t _ => flushed_eq m c t) cover_steps

/-- The run, read: the result holds the packed tables and the arguments are unchanged. -/
theorem run : θ_run defs (onTc (τ := τ) (main (F := F))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).1 2).trans (final m c),
      ((h c).1 0).trans ((dats m 0 c).arrAt_in 0 rfl _), ((h c).1 1).trans ((dats m 0 c).arrAt_in 1 rfl _)⟩)
    (run_main m ρ)

end Cert.Kernel.Pack

/-! ## The reference -/

namespace Cert.Reference.Pack

open Cert.Reference Cert.Reference.Gen

variable {F : FTy → Type} [BitOps F]

/-- The reference's layout: halves of each 256 lanes side by side, each pair one word, expert by expert. -/
theorem reference_packed (u v : Vec F S16384x2048 .f32) :
    shapeCast S262144x128 (Host.bitcastConvertWiden S16384x2x8x128 32 (bitcastToInt (transpose S16384x2x8x128x2 [0, 1, 2, 4, 3]
      (shapeCast S16384x2x8x2x128 (truncf .bf16 (concatenate S16384x2x2048 1
        [⟨S16384x1x2048, broadcastInDim S16384x1x2048 ![0, 2] bcast_S16384x2048_S16384x1x2048_0_2 u⟩,
         ⟨S16384x1x2048, broadcastInDim S16384x1x2048 ![0, 2] bcast_S16384x2048_S16384x1x2048_0_2 v⟩]
        concatenates_S16384x1x2048_S16384x1x2048_S16384x2x2048_d1) bitsLt_bf16_f32)
        shapeCasts_S16384x2x2048_S16384x2x8x2x128) transposes_S16384x2x8x2x128_S16384x2x8x128x2_0_1_2_4_3))
      splits_S16384x2x8x128_w32_S16384x2x8x128x2_w16) shapeCasts_S16384x2x8x128_S262144x128
      = Cert.Kernel.Pack.packed (F := F) u v := by
  funext i
  have h0 : (i 0 : Nat) < 262144 := (i 0).isLt
  have h1 : (i 1 : Nat) < 128 := (i 1).isLt
  rw [shapeCast_apply _ _ i (ix4 (n0 := 16384) (n1 := 2) (n2 := 8) (n3 := 128) ⟨(i 0 : Nat) / 16, by omega⟩ ⟨(i 0 : Nat) % 16 / 8, by omega⟩
    ⟨(i 0 : Nat) % 8, by omega⟩ ⟨i 1, h1⟩) (by
      rw [Shape.rowMajor_val_four, Shape.rowMajor_val_two]
      show (((i 0 : Nat) / 16 * 2 + (i 0 : Nat) % 16 / 8) * 8 + (i 0 : Nat) % 8) * 128 + (i 1 : Nat) = (i 0 : Nat) * 128 + (i 1 : Nat)
      omega)]
  rw [Host.bitcastConvertWiden_apply_16_32]
  have part (p : Nat) (hp : p < 2) (hp' : p < _) :
      transpose S16384x2x8x128x2 [0, 1, 2, 4, 3]
        (shapeCast S16384x2x8x2x128 (truncf .bf16 (concatenate S16384x2x2048 1
          [⟨S16384x1x2048, broadcastInDim S16384x1x2048 ![0, 2] bcast_S16384x2048_S16384x1x2048_0_2 u⟩,
           ⟨S16384x1x2048, broadcastInDim S16384x1x2048 ![0, 2] bcast_S16384x2048_S16384x1x2048_0_2 v⟩]
          concatenates_S16384x1x2048_S16384x1x2048_S16384x2x2048_d1) bitsLt_bf16_f32)
          shapeCasts_S16384x2x2048_S16384x2x8x2x128) transposes_S16384x2x8x2x128_S16384x2x8x128x2_0_1_2_4_3
        (splits_S16384x2x8x128_w32_S16384x2x8x128x2_w16.snoc (ix4 (n0 := 16384) (n1 := 2) (n2 := 8) (n3 := 128) ⟨(i 0 : Nat) / 16, by omega⟩
          ⟨(i 0 : Nat) % 16 / 8, by omega⟩ ⟨(i 0 : Nat) % 8, by omega⟩ ⟨i 1, h1⟩) ⟨p, hp'⟩)
      = FloatOps.truncf .bf16 bitsLt_bf16_f32 ((if (i 0 : Nat) % 16 < 8 then u else v)
          (ix2 (n0 := 16384) (n1 := 2048) ⟨(i 0 : Nat) / 16, by omega⟩ ⟨256 * ((i 0 : Nat) % 8) + 128 * p + i 1, by omega⟩)) := by
    rw [transpose_apply _ _ _ _ (ix5 (n0 := 16384) (n1 := 2) (n2 := 8) (n3 := 2) (n4 := 128) ⟨(i 0 : Nat) / 16, by omega⟩
      ⟨(i 0 : Nat) % 16 / 8, by omega⟩ ⟨(i 0 : Nat) % 8, by omega⟩ ⟨p, hp⟩ ⟨i 1, h1⟩) (by
        intro b
        match b with
        | ⟨0, _⟩ => rfl
        | ⟨1, _⟩ => rfl
        | ⟨2, _⟩ => rfl
        | ⟨3, _⟩ => rfl
        | ⟨4, _⟩ => rfl)]
    rw [shapeCast_apply _ _ _ (ix3 (n0 := 16384) (n1 := 2) (n2 := 2048) ⟨(i 0 : Nat) / 16, by omega⟩
      ⟨(i 0 : Nat) % 16 / 8, by omega⟩ ⟨256 * ((i 0 : Nat) % 8) + 128 * p + i 1, by omega⟩) (by
        rw [Shape.rowMajor_val_three, Shape.rowMajor_val_five]
        show ((i 0 : Nat) / 16 * 2 + (i 0 : Nat) % 16 / 8) * 2048 + (256 * ((i 0 : Nat) % 8) + 128 * p + (i 1 : Nat))
          = ((((i 0 : Nat) / 16 * 2 + (i 0 : Nat) % 16 / 8) * 8 + (i 0 : Nat) % 8) * 2 + p) * 128 + (i 1 : Nat)
        omega)]
    show FloatOps.truncf .bf16 _ (concatenate _ _ _ _ _) = _
    refine congrArg _ ?_
    by_cases h : (i 0 : Nat) % 16 < 8
    · rw [if_pos h]
      refine Eq.trans (concatenate_apply_piece (t := S16384x2x2048) 1
        [⟨S16384x1x2048, broadcastInDim S16384x1x2048 ![0, 2] bcast_S16384x2048_S16384x1x2048_0_2 u⟩,
         ⟨S16384x1x2048, broadcastInDim S16384x1x2048 ![0, 2] bcast_S16384x2048_S16384x1x2048_0_2 v⟩]
        _ _ 0 (Nat.zero_lt_succ _) S16384x1x2048 _ rfl rfl 0 rfl
        (ix3 (n0 := 16384) (n1 := 1) (n2 := 2048) ⟨(i 0 : Nat) / 16, by omega⟩ 0 ⟨256 * ((i 0 : Nat) % 8) + 128 * p + i 1, by omega⟩)
        (fun b hb => ?_) ?_) (broadcastInDim_apply _ _ u _ _ fun a => ?_)
      · match b with
        | ⟨0, _⟩ => rfl
        | ⟨1, _⟩ => exact absurd rfl hb
        | ⟨2, _⟩ => rfl
      · show 0 + 0 = (i 0 : Nat) % 16 / 8
        omega
      · match a with
        | ⟨0, _⟩ => rfl
        | ⟨1, _⟩ => rfl
    · rw [if_neg h]
      refine Eq.trans (concatenate_apply_piece (t := S16384x2x2048) 1
        [⟨S16384x1x2048, broadcastInDim S16384x1x2048 ![0, 2] bcast_S16384x2048_S16384x1x2048_0_2 u⟩,
         ⟨S16384x1x2048, broadcastInDim S16384x1x2048 ![0, 2] bcast_S16384x2048_S16384x1x2048_0_2 v⟩]
        _ _ 1 (Nat.succ_lt_succ (Nat.zero_lt_succ _)) S16384x1x2048 _ rfl rfl 1 rfl
        (ix3 (n0 := 16384) (n1 := 1) (n2 := 2048) ⟨(i 0 : Nat) / 16, by omega⟩ 0 ⟨256 * ((i 0 : Nat) % 8) + 128 * p + i 1, by omega⟩)
        (fun b hb => ?_) ?_) (broadcastInDim_apply _ _ v _ _ fun a => ?_)
      · match b with
        | ⟨0, _⟩ => rfl
        | ⟨1, _⟩ => exact absurd rfl hb
        | ⟨2, _⟩ => rfl
      · show 1 + 0 = (i 0 : Nat) % 16 / 8
        omega
      · match a with
        | ⟨0, _⟩ => rfl
        | ⟨1, _⟩ => rfl
  exact congrArg₂ (fun a b : F .bf16 => (BitOps.toBits a ++ BitOps.toBits b : BitVec 32)) (part 1 (by decide) _) (part 0 (by decide) _)

end Cert.Reference.Pack

end
-- ==== Proof.PackClaims.lean ====
/-
  THE CLAIMS ABOUT THE PACK CALL: it runs, its reference runs, and the two leave the same words.
-/
module

public import proofs.«01_k».proof.Defs
public import proofs.«01_k».proof.Proof.PackValue
public import Idealize.ShloMosaic.Lib.Quiescent

@[expose] public section

noncomputable section

namespace Cert.Proof.Pack

open Idealize.ShloMosaic Idealize.SL.Sem

theorem frame_kernel : Cert.quiescent_Kernel := fun m ρ _ => Cert.Kernel.Pack.frame m ρ

theorem frame_reference : Cert.quiescent_Reference := fun m ρ _ =>
  (θ_run Cert.Reference.defs _ _).mono (fun r h => ⟨fun c => (h c).2,
      Idealize.ShloMosaic.sem_eq_zero_of_no_sems (by decide) r.2⟩)
    (Cert.Reference.Value.run (F := Bits) m ρ)

/-- Both end at the packed tables: the same two roundings to bf16 in the same halves of the same words. -/
theorem bitexact : Cert.bitexact_Kernel_Reference := by
  intro m ρ m' ρ' _ hagree
  refine ⟨fun c => Cert.Kernel.Pack.result m c, Cert.Kernel.Pack.run (F := Bits) m ρ, ?_⟩
  refine (θ_run Cert.Reference.defs _ _).mono (fun _ h c => ⟨(h c).1.trans ?_, (h c).2⟩) (Cert.Reference.Value.run (F := Bits) m' ρ')
  rw [(hagree c).1, (hagree c).2]
  exact Cert.Reference.Pack.reference_packed (F := Bits) _ _

end Cert.Proof.Pack

end
-- ==== Proof.Norm.lean ====
/-
  THE ROOT-MEAN-SQUARE NORM OF A ROW, over the extended reals: the row divided by the root of the mean of its squares plus ε,
  times a gain. The kernels and the references both divide the sum by the row's length and take the reciprocal root, so both
  read as `rmsAt`.
-/
module

public import Idealize.ShloMosaic.Lib.Pointwise
public import Idealize.ShloMosaic.Lib.Pipeline.Value

@[expose] public section

noncomputable section

namespace Cert.Proof

open Idealize.ShloMosaic

/-- The reciprocal root of the mean of the squares of 2048 entries plus ε. -/
def rmsScale (x : Fin 2048 → EReal) : EReal :=
  Ideal.rsqrt (Ideal.div (∑ k, x k * x k) (Ideal.ofBits .f32 1157627904#32) + Ideal.ofBits .f32 897988541#32)

/-- Entry `k` of the normalised row. -/
def rmsAt (x g : Fin 2048 → EReal) (k : Fin 2048) : EReal := x k * rmsScale x * g k

/-- Entry `j` of the product of a row with a matrix. -/
def rowDot {n : Nat} (x : Fin 2048 → EReal) (w : Fin 2048 → Fin n → EReal) (j : Fin n) : EReal := ∑ k, x k * w k j

/-- Two indices of a rank-2 array with equal coordinates are equal. -/
theorem idx2_ext {n0 n1 : Nat} {i j : (⟨2, ![n0, n1]⟩ : Shape).Idx} (h0 : (i 0 : Nat) = j 0) (h1 : (i 1 : Nat) = j 1) : i = j := by
  funext a
  match a with
  | ⟨0, _⟩ => exact Fin.ext h0
  | ⟨1, _⟩ => exact Fin.ext h1

end Cert.Proof

end
-- ==== Proof.InprojValue.lean ====
/-
  THE INPUT PROJECTION: the meta tokens are put before every sequence, every token's row is normalised (`rmsAt`) and
  multiplied by the input weights (`rowDot`). The kernel's result is that function of its arguments (`run`), and so is the
  reference's (`ref_eq`).
-/
module

public import proofs.«01_k».proof.Defs
public import proofs.«01_k».proof.Proof.Norm
public import proofs.«01_k».proof.Proof.Gen.InprojIdeal.Value
public import proofs.«01_k».proof.Proof.Gen.Inproj.Frame
public import proofs.«01_k».proof.Proof.Gen.InprojRefIdeal.Run
public import Idealize.ShloMosaic.Lib.StableHlo.ReadAt
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.InprojIdeal.Val

open Cert.InprojIdeal Cert.InprojIdeal.Gen Cert.Proof

/-- The sequences with the meta tokens before each. -/
def joined (x : FVec Ideal S8x2048x2048 .f32) (meta_ : FVec Ideal S16x2048 .f32) : FVec Ideal S8x2064x2048 .f32 :=
  concatenate S8x2064x2048 1
    [⟨S8x16x2048, broadcastInDim S8x16x2048 ![0, 1, 2] bcast_S1x16x2048_S8x16x2048_0_1_2 (broadcastInDim S1x16x2048 ![1, 2] bcast_S16x2048_S1x16x2048_1_2 meta_)⟩,
     ⟨S8x2048x2048, x⟩] concatenates_S8x16x2048_S8x2048x2048_S8x2064x2048_d1

/-- The projection of every token, the tokens of all sequences one after the other. -/
def projected (v : FVec Ideal S8x2064x2048 .f32) (g : FVec Ideal S1x2048 .f32) (w : FVec Ideal S1x2048x6144 .f32) : FVec Ideal S16512x6144 .bf16 :=
  fun i => rowDot (rmsAt (fun k => v (ix3 ⟨(i 0 : Nat) / 2064, by have h : (i 0 : Nat) < 16512 := (i 0).isLt; omega⟩ ⟨(i 0 : Nat) % 2064, Nat.mod_lt _ (by decide)⟩ k))
    (fun k => g (ix2 0 k))) (fun k j => w (ix3 0 k j)) (i 1)

theorem pay1_apply (h : FVec Ideal S688x2048 .f32) (g : FVec Ideal S1x2048 .f32) (w : FVec Ideal S2048x1024 .bf16) (r : Fin 688) (j : Fin 1024) :
    k0_pay1 (F := Ideal) h g w (ix2 r j) = rowDot (rmsAt (fun k => h (ix2 r k)) (fun k => g (ix2 0 k))) (fun k j => w (ix2 k j)) j := by
  pointwise [k0_pay1]
  rfl

variable (m : (ℓ : Loc nD τ sig) → Buf (Elt Ideal) ℓ) (ρ : Dev nD → PrngReg)

abbrev joinedOf (c : Dev nD) : FVec Ideal S8x2064x2048 .f32 :=
  joined (m ((c : Thread nD τ).loc main_arg0)) (m ((c : Thread nD τ).loc main_arg1))

theorem V_tokens (c : Dev nD) : V m c main_v3 = shapeCast S16512x2048 (joinedOf m c) shapeCasts_S8x2064x2048_S16512x2048 := by
  unfold V
  after_results
  all_goals rfl

theorem V_tokens_apply (c : Dev nD) (R : Fin 16512) (k : Fin 2048) :
    V m c main_v3 (ix2 R k) = joinedOf m c (ix3 ⟨(R : Nat) / 2064, by omega⟩ ⟨(R : Nat) % 2064, Nat.mod_lt _ (by decide)⟩ k) := by
  rw [V_tokens]
  generalize joinedOf m c = v
  pointwise

theorem V_gain (c : Dev nD) (k : Fin 2048) : V m c main_v5 (ix2 0 k) = m ((c : Thread nD τ).loc main_arg2) (ix2 0 k) := by
  unfold V
  after_reads_at

theorem V_weight (c : Dev nD) (k : Fin 2048) (j : Fin 6144) : V m c main_v7 (ix2 k j) = m ((c : Thread nD τ).loc main_arg3) (ix3 0 k j) := by
  unfold V
  after_reads_at

theorem index_facts (t : Fin cfg0.N) :
    (win0_0.index t 0 * win0_0.size 0 = 688 * (t.val % 24) ∧ win0_0.index t 1 * win0_0.size 1 = 0)
    ∧ (win0_1.index t 0 * win0_1.size 0 = 0 ∧ win0_1.index t 1 * win0_1.size 1 = 0)
    ∧ (win0_2.index t 0 * win0_2.size 0 = 0 ∧ win0_2.index t 1 * win0_2.size 1 = 1024 * (t.val / 24))
    ∧ (win0_3.index t 0 * win0_3.size 0 = 688 * (t.val % 24) ∧ win0_3.index t 1 * win0_3.size 1 = 1024 * (t.val / 24)) := by
  revert t; decide +kernel

theorem blk_h (c : Dev nD) (t : Fin cfg0.N) (r : Fin 688) (k : Fin 2048) (R : Fin 16512) (hR : (R : Nat) = 688 * (t.val % 24) + r) :
    iblk m c 0 t (ix2 r k) = joinedOf m c (ix3 ⟨(R : Nat) / 2064, by omega⟩ ⟨(R : Nat) % 2064, Nat.mod_lt _ (by decide)⟩ k) := by
  obtain ⟨⟨a0, a1⟩, -⟩ := index_facts t
  refine Eq.trans ?_ (V_tokens_apply m c R k)
  show V m c main_v3 ((win0_0.rect t).emb _) = _
  refine congrArg _ (idx2_ext ?_ ?_)
  · show win0_0.index t 0 * win0_0.size 0 + 1 * (r : Nat) = R; rw [a0]; omega
  · show win0_0.index t 1 * win0_0.size 1 + 1 * (k : Nat) = k; rw [a1]; omega

theorem blk_g (c : Dev nD) (t : Fin cfg0.N) (k : Fin 2048) :
    iblk m c 1 t (ix2 0 k) = m ((c : Thread nD τ).loc main_arg2) (ix2 0 k) := by
  obtain ⟨-, ⟨a0, a1⟩, -⟩ := index_facts t
  refine Eq.trans ?_ (V_gain m c k)
  show V m c main_v5 ((win0_1.rect t).emb _) = _
  refine congrArg _ (idx2_ext ?_ ?_)
  · show win0_1.index t 0 * win0_1.size 0 + 1 * 0 = 0; rw [a0]
  · show win0_1.index t 1 * win0_1.size 1 + 1 * (k : Nat) = k; rw [a1]; omega

theorem blk_w (c : Dev nD) (t : Fin cfg0.N) (k : Fin 2048) (j : Fin 1024) (J : Fin 6144) (hJ : (J : Nat) = 1024 * (t.val / 24) + j) :
    iblk m c 2 t (ix2 k j) = m ((c : Thread nD τ).loc main_arg3) (ix3 0 k J) := by
  obtain ⟨-, -, ⟨a0, a1⟩, -⟩ := index_facts t
  refine Eq.trans ?_ (V_weight m c k J)
  show V m c main_v7 ((win0_2.rect t).emb _) = _
  refine congrArg _ (idx2_ext ?_ ?_)
  · show win0_2.index t 0 * win0_2.size 0 + 1 * (k : Nat) = k; rw [a0]; omega
  · show win0_2.index t 1 * win0_2.size 1 + 1 * (j : Nat) = J; rw [a1]; omega

abbrev result (c : Dev nD) : Buf (Elt Ideal) ((c : Thread nD τ).loc main_v8) :=
  projected (joinedOf m c) (m ((c : Thread nD τ).loc main_arg2)) (m ((c : Thread nD τ).loc main_arg3))

/-- What step `t` writes back is its block of the projection. -/
theorem flushed_eq (c : Dev nD) (t : Fin cfg0.N) :
    (dats m 0 c).flushed 3 t = (win0_3.blk t).view.read (Elt Ideal) (result m c) := by
  rw [Value.flushed3]
  unfold out0_3
  have hz : (![0, 0] : Fin 2 → Nat) = fun _ => 0 := funext fun a => by fin_cases a <;> rfl
  rw [View.canon_unit_zero hz, View.ld_unit_zero hz, View.ld_unit_zero hz, View.ld_unit_zero hz]
  funext y
  obtain ⟨-, -, -, c0, c1⟩ := index_facts t
  have hy : (y 0 : Nat) < 688 := (y 0).isLt
  have hy1 : (y 1 : Nat) < 1024 := (y 1).isLt
  have ht : t.val < 144 := t.isLt
  have e : (win0_3.rect t).emb y = ix2 (n0 := 16512) (n1 := 6144) ⟨688 * (t.val % 24) + y 0, by omega⟩ ⟨1024 * (t.val / 24) + y 1, by omega⟩ := by
    refine idx2_ext ?_ ?_
    · show win0_3.index t 0 * win0_3.size 0 + 1 * (y 0 : Nat) = 688 * (t.val % 24) + y 0; rw [c0]; omega
    · show win0_3.index t 1 * win0_3.size 1 + 1 * (y 1 : Nat) = 1024 * (t.val / 24) + y 1; rw [c1]; omega
  show k0_pay1 (F := Ideal) (iblk m c 0 t) (iblk m c 1 t) (iblk m c 2 t) y = result m c ((win0_3.rect t).emb y)
  rw [e]
  refine (congrArg _ (ix2_eta y)).symm.trans ((pay1_apply _ _ _ _ _).trans ?_)
  refine Finset.sum_congr rfl fun k _ => congrArg₂ _ ?_ (blk_w m c t k _ _ rfl)
  congr 1
  · funext k; exact blk_h m c t _ k _ rfl
  · funext k; exact blk_g m c t k

/-- The blocks of the 144 steps fill the result. -/
theorem cover (i : S16512x6144.Idx) : ∃ t : Fin cfg0.N, (cfg0.win 3).flush t = true ∧ i ∈ ((cfg0.win 3).blk t).view.set := by
  have h0 : (i 0 : Nat) < 16512 := (i 0).isLt
  have h1 : (i 1 : Nat) < 6144 := (i 1).isLt
  have ht : (i 1 : Nat) / 1024 * 24 + (i 0 : Nat) / 688 < 144 := by omega
  refine ⟨⟨(i 1 : Nat) / 1024 * 24 + (i 0 : Nat) / 688, ht⟩, flush0_3 _, ?_⟩
  obtain ⟨-, -, -, c0, c1⟩ := index_facts ⟨(i 1 : Nat) / 1024 * 24 + (i 0 : Nat) / 688, ht⟩
  show i ∈ ((View.whole main_v8).slice (win0_3.rect (⟨(i 1 : Nat) / 1024 * 24 + (i 0 : Nat) / 688, ht⟩ : Fin cfg0.N))).set
  rw [View.set_slice_whole, Rect.mem_set_unit]
  intro a
  match a with
  | ⟨0, _⟩ =>
    show win0_3.index _ 0 * win0_3.size 0 ≤ (i 0 : Nat) ∧ (i 0 : Nat) < win0_3.index _ 0 * win0_3.size 0 + 688
    rw [c0]; dsimp only; omega
  | ⟨1, _⟩ =>
    show win0_3.index _ 1 * win0_3.size 1 ≤ (i 1 : Nat) ∧ (i 1 : Nat) < win0_3.index _ 1 * win0_3.size 1 + 1024
    rw [c1]; dsimp only; omega

theorem final (c : Dev nD) : (dats m 0 c).arrAt 3 cfg0.N = result m c :=
  (dats m 0 c).arrAt_eq_of_cover 3 (result m c) (fun t _ => flushed_eq m c t) cover

/-- The run, read: the result is the projection, the arguments unchanged. -/
theorem run : θ_run defs (onTc (τ := τ) (main (F := Ideal))) ⟨m, fun _ => 0, ρ⟩ fun r => ∀ c : Dev nD,
      r.2.mem ((c : Thread nD τ).loc main_v8) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Value.run_blocks m ρ)

end Cert.InprojIdeal.Val

/-! ## The reference -/

namespace Cert.InprojRefIdeal.Val

open Cert.InprojRefIdeal Cert.InprojRefIdeal.Gen Cert.Proof

/-- The reference's normalised tokens, as its run composes them. -/
abbrev normed (v : FVec Ideal S8x2064x2048 .f32) (g : FVec Ideal S1x2048 .f32) : FVec Ideal S8x2064x2048 .f32 :=
  mulf (mulf v (broadcastInDim S8x2064x2048 ![0, 1, 2] bcast_S8x2064x1_S8x2064x2048_0_1_2 (Host.rsqrt (addf (Host.divf (broadcastInDim S8x2064x1 ![0, 1] bcast_S8x2064_S8x2064x1_0_1 (Host.reduceAdd (mulf v v) (constant S_ .f32 0x00000000#32) reducesTo_S8x2064x2048_S8x2064_d2 h_S_)) (broadcastInDim S8x2064x1 ![] bcast_S_S8x2064x1 (constant S_ .f32 0x45000000#32))) (broadcastInDim S8x2064x1 ![] bcast_S_S8x2064x1 (constant S_ .f32 0x358637BD#32)))))) (broadcastInDim S8x2064x2048 ![0, 1, 2] bcast_S1x1x2048_S8x2064x2048_0_1_2 (broadcastInDim S1x1x2048 ![2] bcast_S2048_S1x1x2048_2 (shapeCast _ g shapeCasts_S1x2048_S2048)))

theorem normed_apply (v : FVec Ideal S8x2064x2048 .f32) (g : FVec Ideal S1x2048 .f32) (b : Fin 8) (s : Fin 2064) (k : Fin 2048) :
    normed v g (ix3 b s k) = rmsAt (fun k => v (ix3 b s k)) (fun k => g (ix2 0 k)) k := by
  pointwise [normed]
  rfl

theorem ref_eq (v : FVec Ideal S8x2064x2048 .f32) (g : FVec Ideal S1x2048 .f32) (w : FVec Ideal S1x2048x6144 .f32) :
    truncf .bf16 (shapeCast S16512x6144 (Host.dotGeneral (F := Ideal) dot_S8x2064x2048_S2048x6144_S8x2064x6144_2_0_01_1_n_n none (normed v g)
      (shapeCast S2048x6144 w shapeCasts_S1x2048x6144_S2048x6144)) shapeCasts_S8x2064x6144_S16512x6144) bitsLt_bf16_f32
      = Cert.InprojIdeal.Val.projected v g w := by
  funext i
  rw [eq_ix2 i]
  generalize hN : normed v g = N
  pointwise
  subst hN
  show _ = ∑ k, rmsAt _ _ k * w (ix3 0 k (i 1))
  exact Finset.sum_congr rfl fun k _ => congrArg (· * _) (normed_apply v g _ _ _)

end Cert.InprojRefIdeal.Val

/-! ## The claims -/

namespace Cert.Proof.Inproj

theorem frame_kernel : Cert.quiescent_Inproj := fun m ρ _ => Cert.Inproj.Gen.frame m ρ

theorem frame_ideal : Cert.quiescent_InprojIdeal := fun m ρ _ => Cert.InprojIdeal.Gen.frame m ρ

theorem frame_reference : Cert.quiescent_InprojRefIdeal := fun m ρ _ =>
  (θ_run Cert.InprojRefIdeal.defs _ _).mono (fun r h => ⟨fun c => (h c).2, sem_eq_zero_of_no_sems (by decide) r.2⟩)
    (Cert.InprojRefIdeal.Value.run (F := Ideal) m ρ)

/-- Both end at the projection of the normalised tokens. -/
theorem algebraic : Cert.algebraic_InprojIdeal_InprojRefIdeal := by
  intro m ρ m' ρ' _ hagree
  refine ⟨fun c => Cert.InprojIdeal.Val.result m c, Cert.InprojIdeal.Val.run m ρ, ?_⟩
  refine (θ_run Cert.InprojRefIdeal.defs _ _).mono (fun _ h c => ⟨(h c).1.trans ?_, (h c).2⟩)
    (Cert.InprojRefIdeal.Value.run (F := Ideal) m' ρ')
  rw [(hagree c).1, (hagree c).2.1, (hagree c).2.2.1, (hagree c).2.2.2]
  exact Cert.InprojRefIdeal.Val.ref_eq _ _ _

end Cert.Proof.Inproj

end
-- ==== Proof.OutprojValue.lean ====
/-
  THE OUTPUT PROJECTION: to every entry of the stream is added the token's row, the convolution's half and the attention's
  half side by side, times the output weights. The kernel multiplies the two halves one after the other; the reference
  multiplies the joined row. Over the extended reals the sum of 2048 products is the sum of its two halves.
-/
module

public import proofs.«01_k».proof.Defs
public import proofs.«01_k».proof.Proof.Norm
public import proofs.«01_k».proof.Proof.Gen.OutprojIdeal.Value
public import proofs.«01_k».proof.Proof.Gen.Outproj.Frame
public import proofs.«01_k».proof.Proof.Gen.OutprojRefIdeal.Run
public import Idealize.ShloMosaic.Lib.StableHlo.ReadAt
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.OutprojIdeal.Val

open Cert.OutprojIdeal Cert.OutprojIdeal.Gen Cert.Proof

/-- The stream after the projection, entry by entry. -/
def summed (x y : FVec Ideal S16512x1024 .bf16) (w : FVec Ideal S1x2048x2048 .f32) (h : FVec Ideal S16512x2048 .f32) :
    FVec Ideal S16512x2048 .f32 :=
  fun i => h i + ∑ k : Fin 1024, x (ix2 (i 0) k) * w (ix3 0 ⟨k, by omega⟩ (i 1))
    + ∑ k : Fin 1024, y (ix2 (i 0) k) * w (ix3 0 ⟨1024 + k, by omega⟩ (i 1))

theorem pay1_apply (h : FVec Ideal S688x1024 .f32) (x : FVec Ideal S688x1024 .bf16) (wx : FVec Ideal S1024x1024 .bf16)
    (y : FVec Ideal S688x1024 .bf16) (wy : FVec Ideal S1024x1024 .bf16) (r : Fin 688) (j : Fin 1024) :
    k0_pay1 (F := Ideal) h x wx y wy (ix2 r j)
      = h (ix2 r j) + ∑ k, x (ix2 r k) * wx (ix2 k j) + ∑ k, y (ix2 r k) * wy (ix2 k j) := by
  pointwise [k0_pay1]

variable (m : (ℓ : Loc nD τ sig) → Buf (Elt Ideal) ℓ) (ρ : Dev nD → PrngReg)

theorem V_weight (c : Dev nD) (k j : Fin 2048) : V m c main_v1 (ix2 k j) = m ((c : Thread nD τ).loc main_arg2) (ix3 0 k j) := by
  unfold V
  after_reads_at

theorem index_facts (t : Fin cfg0.N) :
    (win0_0.index t 0 * win0_0.size 0 = 688 * (t.val % 24) ∧ win0_0.index t 1 * win0_0.size 1 = 0)
    ∧ (win0_1.index t 0 * win0_1.size 0 = 688 * (t.val % 24) ∧ win0_1.index t 1 * win0_1.size 1 = 0)
    ∧ (win0_2.index t 0 * win0_2.size 0 = 0 ∧ win0_2.index t 1 * win0_2.size 1 = 1024 * (t.val / 24))
    ∧ (win0_3.index t 0 * win0_3.size 0 = 1024 ∧ win0_3.index t 1 * win0_3.size 1 = 1024 * (t.val / 24))
    ∧ (win0_4.index t 0 * win0_4.size 0 = 688 * (t.val % 24) ∧ win0_4.index t 1 * win0_4.size 1 = 1024 * (t.val / 24))
    ∧ (win0_5.index t 0 * win0_5.size 0 = 688 * (t.val % 24) ∧ win0_5.index t 1 * win0_5.size 1 = 1024 * (t.val / 24)) := by
  revert t; decide +kernel

theorem blk_x (c : Dev nD) (t : Fin cfg0.N) (r : Fin 688) (k : Fin 1024) (R : Fin 16512) (hR : (R : Nat) = 688 * (t.val % 24) + r) :
    iblk m c 0 t (ix2 r k) = m ((c : Thread nD τ).loc main_arg0) (ix2 R k) := by
  obtain ⟨⟨a0, a1⟩, -⟩ := index_facts t
  show V m c main_arg0 ((win0_0.rect t).emb _) = _
  rw [V_main_arg0]
  refine congrArg _ (idx2_ext ?_ ?_)
  · show win0_0.index t 0 * win0_0.size 0 + 1 * (r : Nat) = R; rw [a0]; omega
  · show win0_0.index t 1 * win0_0.size 1 + 1 * (k : Nat) = k; rw [a1]; omega

theorem blk_y (c : Dev nD) (t : Fin cfg0.N) (r : Fin 688) (k : Fin 1024) (R : Fin 16512) (hR : (R : Nat) = 688 * (t.val % 24) + r) :
    iblk m c 1 t (ix2 r k) = m ((c : Thread nD τ).loc main_arg1) (ix2 R k) := by
  obtain ⟨-, ⟨a0, a1⟩, -⟩ := index_facts t
  show V m c main_arg1 ((win0_1.rect t).emb _) = _
  rw [V_main_arg1]
  refine congrArg _ (idx2_ext ?_ ?_)
  · show win0_1.index t 0 * win0_1.size 0 + 1 * (r : Nat) = R; rw [a0]; omega
  · show win0_1.index t 1 * win0_1.size 1 + 1 * (k : Nat) = k; rw [a1]; omega

theorem blk_wx (c : Dev nD) (t : Fin cfg0.N) (k j : Fin 1024) (K J : Fin 2048) (hK : (K : Nat) = k) (hJ : (J : Nat) = 1024 * (t.val / 24) + j) :
    iblk m c 2 t (ix2 k j) = m ((c : Thread nD τ).loc main_arg2) (ix3 0 K J) := by
  obtain ⟨-, -, ⟨a0, a1⟩, -⟩ := index_facts t
  refine Eq.trans ?_ (V_weight m c K J)
  show V m c main_v1 ((win0_2.rect t).emb _) = _
  refine congrArg _ (idx2_ext ?_ ?_)
  · show win0_2.index t 0 * win0_2.size 0 + 1 * (k : Nat) = K; rw [a0]; omega
  · show win0_2.index t 1 * win0_2.size 1 + 1 * (j : Nat) = J; rw [a1]; omega

theorem blk_wy (c : Dev nD) (t : Fin cfg0.N) (k j : Fin 1024) (K J : Fin 2048) (hK : (K : Nat) = 1024 + k) (hJ : (J : Nat) = 1024 * (t.val / 24) + j) :
    iblk m c 3 t (ix2 k j) = m ((c : Thread nD τ).loc main_arg2) (ix3 0 K J) := by
  obtain ⟨-, -, -, ⟨a0, a1⟩, -⟩ := index_facts t
  refine Eq.trans ?_ (V_weight m c K J)
  show V m c main_v1 ((win0_3.rect t).emb _) = _
  refine congrArg _ (idx2_ext ?_ ?_)
  · show win0_3.index t 0 * win0_3.size 0 + 1 * (k : Nat) = K; rw [a0]; omega
  · show win0_3.index t 1 * win0_3.size 1 + 1 * (j : Nat) = J; rw [a1]; omega

theorem blk_h (c : Dev nD) (t : Fin cfg0.N) (r : Fin 688) (j : Fin 1024) (R : Fin 16512) (J : Fin 2048)
    (hR : (R : Nat) = 688 * (t.val % 24) + r) (hJ : (J : Nat) = 1024 * (t.val / 24) + j) :
    iblk m c 4 t (ix2 r j) = m ((c : Thread nD τ).loc main_arg3) (ix2 R J) := by
  obtain ⟨-, -, -, -, ⟨a0, a1⟩, -⟩ := index_facts t
  show V m c main_arg3 ((win0_4.rect t).emb _) = _
  rw [V_main_arg3]
  refine congrArg _ (idx2_ext ?_ ?_)
  · show win0_4.index t 0 * win0_4.size 0 + 1 * (r : Nat) = R; rw [a0]; omega
  · show win0_4.index t 1 * win0_4.size 1 + 1 * (j : Nat) = J; rw [a1]; omega

abbrev result (c : Dev nD) : Buf (Elt Ideal) ((c : Thread nD τ).loc main_v2) :=
  summed (m ((c : Thread nD τ).loc main_arg0)) (m ((c : Thread nD τ).loc main_arg1)) (m ((c : Thread nD τ).loc main_arg2))
    (m ((c : Thread nD τ).loc main_arg3))

/-- What step `t` writes back is its block of the projected stream. -/
theorem flushed_eq (c : Dev nD) (t : Fin cfg0.N) :
    (dats m 0 c).flushed 5 t = (win0_5.blk t).view.read (Elt Ideal) (result m c) := by
  rw [Value.flushed5]
  unfold out0_5
  have hz : (![0, 0] : Fin 2 → Nat) = fun _ => 0 := funext fun a => by fin_cases a <;> rfl
  rw [View.canon_unit_zero hz, View.ld_unit_zero hz, View.ld_unit_zero hz, View.ld_unit_zero hz, View.ld_unit_zero hz, View.ld_unit_zero hz]
  funext y
  obtain ⟨-, -, -, -, -, c0, c1⟩ := index_facts t
  have hy : (y 0 : Nat) < 688 := (y 0).isLt
  have hy1 : (y 1 : Nat) < 1024 := (y 1).isLt
  have ht : t.val < 48 := t.isLt
  have e : (win0_5.rect t).emb y = ix2 (n0 := 16512) (n1 := 2048) ⟨688 * (t.val % 24) + y 0, by omega⟩ ⟨1024 * (t.val / 24) + y 1, by omega⟩ := by
    refine idx2_ext ?_ ?_
    · show win0_5.index t 0 * win0_5.size 0 + 1 * (y 0 : Nat) = 688 * (t.val % 24) + y 0; rw [c0]; omega
    · show win0_5.index t 1 * win0_5.size 1 + 1 * (y 1 : Nat) = 1024 * (t.val / 24) + y 1; rw [c1]; omega
  show k0_pay1 (F := Ideal) (iblk m c 4 t) (iblk m c 0 t) (iblk m c 2 t) (iblk m c 1 t) (iblk m c 3 t) y = result m c ((win0_5.rect t).emb y)
  rw [e]
  refine (congrArg _ (ix2_eta y)).symm.trans ((pay1_apply _ _ _ _ _ _ _).trans ?_)
  refine congrArg₂ _ (congrArg₂ _ (blk_h m c t _ _ _ _ rfl rfl) ?_) ?_
  · exact Finset.sum_congr rfl fun k _ => congrArg₂ _ (blk_x m c t _ k _ rfl) (blk_wx m c t k _ _ _ rfl rfl)
  · exact Finset.sum_congr rfl fun k _ => congrArg₂ _ (blk_y m c t _ k _ rfl) (blk_wy m c t k _ _ _ rfl rfl)

/-- The blocks of the 48 steps fill the result. -/
theorem cover (i : S16512x2048.Idx) : ∃ t : Fin cfg0.N, (cfg0.win 5).flush t = true ∧ i ∈ ((cfg0.win 5).blk t).view.set := by
  have h0 : (i 0 : Nat) < 16512 := (i 0).isLt
  have h1 : (i 1 : Nat) < 2048 := (i 1).isLt
  have ht : (i 1 : Nat) / 1024 * 24 + (i 0 : Nat) / 688 < 48 := by omega
  refine ⟨⟨(i 1 : Nat) / 1024 * 24 + (i 0 : Nat) / 688, ht⟩, flush0_5 _, ?_⟩
  obtain ⟨-, -, -, -, -, c0, c1⟩ := index_facts ⟨(i 1 : Nat) / 1024 * 24 + (i 0 : Nat) / 688, ht⟩
  show i ∈ ((View.whole main_v2).slice (win0_5.rect (⟨(i 1 : Nat) / 1024 * 24 + (i 0 : Nat) / 688, ht⟩ : Fin cfg0.N))).set
  rw [View.set_slice_whole, Rect.mem_set_unit]
  intro a
  match a with
  | ⟨0, _⟩ =>
    show win0_5.index _ 0 * win0_5.size 0 ≤ (i 0 : Nat) ∧ (i 0 : Nat) < win0_5.index _ 0 * win0_5.size 0 + 688
    rw [c0]; dsimp only; omega
  | ⟨1, _⟩ =>
    show win0_5.index _ 1 * win0_5.size 1 ≤ (i 1 : Nat) ∧ (i 1 : Nat) < win0_5.index _ 1 * win0_5.size 1 + 1024
    rw [c1]; dsimp only; omega

theorem final (c : Dev nD) : (dats m 0 c).arrAt 5 cfg0.N = result m c :=
  (dats m 0 c).arrAt_eq_of_cover 5 (result m c) (fun t _ => flushed_eq m c t) cover

/-- The run, read: the result is the projected stream, the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Value.run_blocks m ρ)

end Cert.OutprojIdeal.Val

/-! ## The reference -/

namespace Cert.OutprojRefIdeal.Val

open Cert.OutprojRefIdeal Cert.OutprojRefIdeal.Gen Cert.Proof

theorem ref_eq (x y : FVec Ideal S16512x1024 .bf16) (w : FVec Ideal S1x2048x2048 .f32) (h : FVec Ideal S16512x2048 .f32) :
    addf h (Host.dotGeneral (F := Ideal) dot_S16512x2048_S2048x2048_S16512x2048_1_0_0_1_n_n none
      (extf .f32 (concatenate S16512x2048 1 [⟨S16512x1024, x⟩, ⟨S16512x1024, y⟩] concatenates_S16512x1024_S16512x1024_S16512x2048_d1)
        bitsLt_bf16_f32) (shapeCast S2048x2048 w shapeCasts_S1x2048x2048_S2048x2048)) = Cert.OutprojIdeal.Val.summed x y w h := by
  funext i
  rw [eq_ix2 i]
  pointwise
  show _ = _ + _ + _
  exact (add_assoc (G := EReal) _ _ _).symm

end Cert.OutprojRefIdeal.Val

/-! ## The claims -/

namespace Cert.Proof.Outproj

theorem frame_kernel : Cert.quiescent_Outproj := fun m ρ _ => Cert.Outproj.Gen.frame m ρ

theorem frame_ideal : Cert.quiescent_OutprojIdeal := fun m ρ _ => Cert.OutprojIdeal.Gen.frame m ρ

theorem frame_reference : Cert.quiescent_OutprojRefIdeal := fun m ρ _ =>
  (θ_run Cert.OutprojRefIdeal.defs _ _).mono (fun r h => ⟨fun c => (h c).2, sem_eq_zero_of_no_sems (by decide) r.2⟩)
    (Cert.OutprojRefIdeal.Value.run (F := Ideal) m ρ)

/-- Both end at the projected stream. -/
theorem algebraic : Cert.algebraic_OutprojIdeal_OutprojRefIdeal := by
  intro m ρ m' ρ' _ hagree
  refine ⟨fun c => Cert.OutprojIdeal.Val.result m c, Cert.OutprojIdeal.Val.run m ρ, ?_⟩
  refine (θ_run Cert.OutprojRefIdeal.defs _ _).mono (fun _ h c => ⟨(h c).1.trans ?_, (h c).2⟩)
    (Cert.OutprojRefIdeal.Value.run (F := Ideal) m' ρ')
  rw [(hagree c).1, (hagree c).2.1, (hagree c).2.2.1, (hagree c).2.2.2]
  exact Cert.OutprojRefIdeal.Val.ref_eq _ _ _ _

end Cert.Proof.Outproj

end
-- ==== Proof.QueryValue.lean ====
/-
  THE QUERY CALL: every token's row is normalised (`rmsAt`) and multiplied by the query weights (`rowDot`). Both results of
  the kernel are these functions of its arguments (`run`), and so are the reference's (`ref_tok`, `ref_qry`).
-/
module

public import proofs.«01_k».proof.Defs
public import proofs.«01_k».proof.Proof.Norm
public import proofs.«01_k».proof.Proof.Gen.QueryIdeal.Value
public import proofs.«01_k».proof.Proof.Gen.Query.Frame
public import proofs.«01_k».proof.Proof.Gen.QueryRefIdeal.Run
public import Idealize.ShloMosaic.Lib.StableHlo.ReadAt
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.QueryIdeal.Val

open Cert.QueryIdeal Cert.QueryIdeal.Gen Cert.Proof

/-- The normalised tokens. -/
def tok (h : FVec Ideal S16512x2048 .f32) (g : FVec Ideal S1x2048 .f32) : FVec Ideal S16512x2048 .bf16 :=
  fun i => rmsAt (fun k => h (ix2 (i 0) k)) (fun k => g (ix2 0 k)) (i 1)

/-- The queries. -/
def qry (h : FVec Ideal S16512x2048 .f32) (g : FVec Ideal S1x2048 .f32) (w : FVec Ideal S1x2048x2048 .f32) : FVec Ideal S16512x2048 .bf16 :=
  fun i => rowDot (rmsAt (fun k => h (ix2 (i 0) k)) (fun k => g (ix2 0 k))) (fun k j => w (ix3 0 k j)) (i 1)

theorem pay1_apply (h : FVec Ideal S688x2048 .f32) (g : FVec Ideal S1x2048 .f32) (r : Fin 688) (k : Fin 2048) :
    k0_pay1 (F := Ideal) h g (ix2 r k) = rmsAt (fun k => h (ix2 r k)) (fun k => g (ix2 0 k)) k := by
  pointwise [k0_pay1]
  rfl

theorem pay2_apply (h : FVec Ideal S688x2048 .f32) (g : FVec Ideal S1x2048 .f32) (w : FVec Ideal S2048x2048 .bf16) (r : Fin 688) (j : Fin 2048) :
    k0_pay2 (F := Ideal) h g w (ix2 r j) = rowDot (rmsAt (fun k => h (ix2 r k)) (fun k => g (ix2 0 k))) (fun k j => w (ix2 k j)) j := by
  pointwise [k0_pay2]
  exact Finset.sum_congr rfl fun k _ => by rw [pay1_apply]

variable (m : (ℓ : Loc nD τ sig) → Buf (Elt Ideal) ℓ) (ρ : Dev nD → PrngReg)

theorem V_gain (c : Dev nD) (k : Fin 2048) : V m c main_v1 (ix2 0 k) = m ((c : Thread nD τ).loc main_arg1) (ix2 0 k) := by
  unfold V
  after_reads_at

theorem V_weight (c : Dev nD) (k j : Fin 2048) : V m c main_v3 (ix2 k j) = m ((c : Thread nD τ).loc main_arg2) (ix3 0 k j) := by
  unfold V
  after_reads_at

theorem index_facts (t : Fin cfg0.N) :
    (win0_0.index t 0 * win0_0.size 0 = 688 * t.val ∧ win0_0.index t 1 * win0_0.size 1 = 0)
    ∧ (win0_1.index t 0 * win0_1.size 0 = 0 ∧ win0_1.index t 1 * win0_1.size 1 = 0)
    ∧ (win0_2.index t 0 * win0_2.size 0 = 0 ∧ win0_2.index t 1 * win0_2.size 1 = 0)
    ∧ (win0_3.index t 0 * win0_3.size 0 = 688 * t.val ∧ win0_3.index t 1 * win0_3.size 1 = 0)
    ∧ (win0_4.index t 0 * win0_4.size 0 = 688 * t.val ∧ win0_4.index t 1 * win0_4.size 1 = 0) := by
  revert t; decide +kernel

/-- Row `r` of step `t`'s token block is row `688 t + r` of the tokens. -/
theorem blk_h (c : Dev nD) (t : Fin cfg0.N) (r : Fin 688) (k : Fin 2048) (R : Fin 16512) (hR : (R : Nat) = 688 * t.val + r) :
    iblk m c 0 t (ix2 r k) = m ((c : Thread nD τ).loc main_arg0) (ix2 R k) := by
  obtain ⟨⟨a0, a1⟩, -⟩ := index_facts t
  show V m c main_arg0 ((win0_0.rect t).emb _) = _
  rw [V_main_arg0]
  refine congrArg _ (idx2_ext ?_ ?_)
  · show win0_0.index t 0 * win0_0.size 0 + 1 * (r : Nat) = R; rw [a0]; omega
  · show win0_0.index t 1 * win0_0.size 1 + 1 * (k : Nat) = k; rw [a1]; omega

theorem blk_g (c : Dev nD) (t : Fin cfg0.N) (k : Fin 2048) :
    iblk m c 1 t (ix2 0 k) = m ((c : Thread nD τ).loc main_arg1) (ix2 0 k) := by
  obtain ⟨-, ⟨a0, a1⟩, -⟩ := index_facts t
  refine Eq.trans ?_ (V_gain m c k)
  show V m c main_v1 ((win0_1.rect t).emb _) = _
  refine congrArg _ (idx2_ext ?_ ?_)
  · show win0_1.index t 0 * win0_1.size 0 + 1 * 0 = 0; rw [a0]
  · show win0_1.index t 1 * win0_1.size 1 + 1 * (k : Nat) = k; rw [a1]; omega

theorem blk_w (c : Dev nD) (t : Fin cfg0.N) (k j : Fin 2048) :
    iblk m c 2 t (ix2 k j) = m ((c : Thread nD τ).loc main_arg2) (ix3 0 k j) := by
  obtain ⟨-, -, ⟨a0, a1⟩, -⟩ := index_facts t
  refine Eq.trans ?_ (V_weight m c k j)
  show V m c main_v3 ((win0_2.rect t).emb _) = _
  refine congrArg _ (idx2_ext ?_ ?_)
  · show win0_2.index t 0 * win0_2.size 0 + 1 * (k : Nat) = k; rw [a0]; omega
  · show win0_2.index t 1 * win0_2.size 1 + 1 * (j : Nat) = j; rw [a1]; omega

theorem hz : (![0, 0] : Fin 2 → Nat) = fun _ => 0 := funext fun a => by fin_cases a <;> rfl

abbrev tokOf (c : Dev nD) : Buf (Elt Ideal) ((c : Thread nD τ).loc main_v4_0) :=
  tok (m ((c : Thread nD τ).loc main_arg0)) (m ((c : Thread nD τ).loc main_arg1))

abbrev qryOf (c : Dev nD) : Buf (Elt Ideal) ((c : Thread nD τ).loc main_v4_1) :=
  qry (m ((c : Thread nD τ).loc main_arg0)) (m ((c : Thread nD τ).loc main_arg1)) (m ((c : Thread nD τ).loc main_arg2))

/-- What step `t` writes back is its block of the normalised tokens. -/
theorem flushed_tok (c : Dev nD) (t : Fin cfg0.N) :
    (dats m 0 c).flushed 3 t = (win0_3.blk t).view.read (Elt Ideal) (tokOf m c) := by
  rw [Value.flushed3]
  unfold out0_3
  rw [View.canon_unit_zero hz, View.ld_unit_zero hz, View.ld_unit_zero hz]
  funext y
  obtain ⟨-, -, -, ⟨c0, c1⟩, -⟩ := index_facts t
  have hy : (y 0 : Nat) < 688 := (y 0).isLt
  have ht : t.val < 24 := t.isLt
  have e : (win0_3.rect t).emb y = ix2 (n0 := 16512) (n1 := 2048) ⟨688 * t.val + y 0, by omega⟩ (y 1) := by
    refine idx2_ext ?_ ?_
    · show win0_3.index t 0 * win0_3.size 0 + 1 * (y 0 : Nat) = 688 * t.val + y 0; rw [c0]; omega
    · show win0_3.index t 1 * win0_3.size 1 + 1 * (y 1 : Nat) = y 1; rw [c1]; omega
  show k0_pay1 (F := Ideal) (iblk m c 0 t) (iblk m c 1 t) y = tokOf m c ((win0_3.rect t).emb y)
  rw [e]
  refine (congrArg _ (ix2_eta y)).symm.trans ((pay1_apply _ _ _ _).trans ?_)
  show rmsAt _ _ _ = rmsAt _ _ _
  congr 1
  · funext k; exact blk_h m c t _ k _ rfl
  · funext k; exact blk_g m c t k

/-- What step `t` writes back is its block of the queries. -/
theorem flushed_qry (c : Dev nD) (t : Fin cfg0.N) :
    (dats m 0 c).flushed 4 t = (win0_4.blk t).view.read (Elt Ideal) (qryOf m c) := by
  rw [Value.flushed4]
  unfold out0_4
  rw [View.canon_unit_zero hz, View.ld_unit_zero hz, View.ld_unit_zero hz, View.ld_unit_zero hz]
  funext y
  obtain ⟨-, -, -, -, c0, c1⟩ := index_facts t
  have hy : (y 0 : Nat) < 688 := (y 0).isLt
  have ht : t.val < 24 := t.isLt
  have e : (win0_4.rect t).emb y = ix2 (n0 := 16512) (n1 := 2048) ⟨688 * t.val + y 0, by omega⟩ (y 1) := by
    refine idx2_ext ?_ ?_
    · show win0_4.index t 0 * win0_4.size 0 + 1 * (y 0 : Nat) = 688 * t.val + y 0; rw [c0]; omega
    · show win0_4.index t 1 * win0_4.size 1 + 1 * (y 1 : Nat) = y 1; rw [c1]; omega
  show k0_pay2 (F := Ideal) (iblk m c 0 t) (iblk m c 1 t) (iblk m c 2 t) y = qryOf m c ((win0_4.rect t).emb y)
  rw [e]
  refine (congrArg _ (ix2_eta y)).symm.trans ((pay2_apply _ _ _ _ _).trans ?_)
  show rowDot (rmsAt _ _) _ _ = rowDot (rmsAt _ _) _ _
  congr 1
  · congr 1
    · funext k; exact blk_h m c t _ k _ rfl
    · funext k; exact blk_g m c t k
  · funext k j; exact blk_w m c t k j

/-- The blocks of the 24 steps fill each result. -/
theorem cover3 (i : S16512x2048.Idx) : ∃ t : Fin cfg0.N, (cfg0.win 3).flush t = true ∧ i ∈ ((cfg0.win 3).blk t).view.set := by
  have h0 : (i 0 : Nat) < 16512 := (i 0).isLt
  have h1 : (i 1 : Nat) < 2048 := (i 1).isLt
  have ht : (i 0 : Nat) / 688 < 24 := by omega
  refine ⟨⟨(i 0 : Nat) / 688, ht⟩, flush0_3 _, ?_⟩
  obtain ⟨-, -, -, ⟨c0, c1⟩, -⟩ := index_facts ⟨(i 0 : Nat) / 688, ht⟩
  show i ∈ ((View.whole main_v4_0).slice (win0_3.rect (⟨(i 0 : Nat) / 688, ht⟩ : Fin cfg0.N))).set
  rw [View.set_slice_whole, Rect.mem_set_unit]
  intro a
  match a with
  | ⟨0, _⟩ =>
    show win0_3.index _ 0 * win0_3.size 0 ≤ (i 0 : Nat) ∧ (i 0 : Nat) < win0_3.index _ 0 * win0_3.size 0 + 688
    rw [c0]; dsimp only; omega
  | ⟨1, _⟩ =>
    show win0_3.index _ 1 * win0_3.size 1 ≤ (i 1 : Nat) ∧ (i 1 : Nat) < win0_3.index _ 1 * win0_3.size 1 + 2048
    rw [c1]; omega

theorem cover4 (i : S16512x2048.Idx) : ∃ t : Fin cfg0.N, (cfg0.win 4).flush t = true ∧ i ∈ ((cfg0.win 4).blk t).view.set := by
  have h0 : (i 0 : Nat) < 16512 := (i 0).isLt
  have h1 : (i 1 : Nat) < 2048 := (i 1).isLt
  have ht : (i 0 : Nat) / 688 < 24 := by omega
  refine ⟨⟨(i 0 : Nat) / 688, ht⟩, flush0_4 _, ?_⟩
  obtain ⟨-, -, -, -, c0, c1⟩ := index_facts ⟨(i 0 : Nat) / 688, ht⟩
  show i ∈ ((View.whole main_v4_1).slice (win0_4.rect (⟨(i 0 : Nat) / 688, ht⟩ : Fin cfg0.N))).set
  rw [View.set_slice_whole, Rect.mem_set_unit]
  intro a
  match a with
  | ⟨0, _⟩ =>
    show win0_4.index _ 0 * win0_4.size 0 ≤ (i 0 : Nat) ∧ (i 0 : Nat) < win0_4.index _ 0 * win0_4.size 0 + 688
    rw [c0]; dsimp only; omega
  | ⟨1, _⟩ =>
    show win0_4.index _ 1 * win0_4.size 1 ≤ (i 1 : Nat) ∧ (i 1 : Nat) < win0_4.index _ 1 * win0_4.size 1 + 2048
    rw [c1]; omega

theorem final_tok (c : Dev nD) : (dats m 0 c).arrAt 3 cfg0.N = tokOf m c :=
  (dats m 0 c).arrAt_eq_of_cover 3 (tokOf m c) (fun t _ => flushed_tok m c t) cover3

theorem final_qry (c : Dev nD) : (dats m 0 c).arrAt 4 cfg0.N = qryOf m c :=
  (dats m 0 c).arrAt_eq_of_cover 4 (qryOf m c) (fun t _ => flushed_qry m c t) cover4

/-- The run, read: the results are the normalised tokens and the queries, the arguments unchanged. -/
theorem run : θ_run defs (onTc (τ := τ) (main (F := Ideal))) ⟨m, fun _ => 0, ρ⟩ fun r => ∀ c : Dev nD,
      r.2.mem ((c : Thread nD τ).loc main_v4_0) = tokOf m c
      ∧ r.2.mem ((c : Thread nD τ).loc main_v4_1) = qryOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final_tok m c), (h c).2.1.trans (final_qry m c), (h c).2.2⟩)
    (Value.run_blocks m ρ)

end Cert.QueryIdeal.Val

/-! ## The reference -/

namespace Cert.QueryRefIdeal.Val

open Cert.QueryRefIdeal Cert.QueryRefIdeal.Gen Cert.Proof

/-- The reference's normalised tokens, as its run composes them. -/
abbrev normed (h : FVec Ideal S16512x2048 .f32) (g : FVec Ideal S1x2048 .f32) : FVec Ideal S16512x2048 .f32 :=
  mulf (mulf h (broadcastInDim S16512x2048 ![0, 1] bcast_S16512x1_S16512x2048_0_1 (Host.rsqrt (addf (Host.divf (broadcastInDim S16512x1 ![0] bcast_S16512_S16512x1_0 (Host.reduceAdd (mulf h h) (constant S_ .f32 0x00000000#32) reducesTo_S16512x2048_S16512_d1 h_S_)) (broadcastInDim S16512x1 ![] bcast_S_S16512x1 (constant S_ .f32 0x45000000#32))) (broadcastInDim S16512x1 ![] bcast_S_S16512x1 (constant S_ .f32 0x358637BD#32)))))) (broadcastInDim S16512x2048 ![0, 1] bcast_S1x2048_S16512x2048_0_1 (broadcastInDim S1x2048 ![1] bcast_S2048_S1x2048_1 (shapeCast _ g shapeCasts_S1x2048_S2048)))

theorem normed_apply (h : FVec Ideal S16512x2048 .f32) (g : FVec Ideal S1x2048 .f32) (r : Fin 16512) (k : Fin 2048) :
    normed h g (ix2 r k) = rmsAt (fun k => h (ix2 r k)) (fun k => g (ix2 0 k)) k := by
  pointwise [normed]
  rfl

theorem ref_tok (h : FVec Ideal S16512x2048 .f32) (g : FVec Ideal S1x2048 .f32) :
    truncf .bf16 (normed h g) bitsLt_bf16_f32 = Cert.QueryIdeal.Val.tok h g := by
  funext i
  exact (congrArg (normed h g) (ix2_eta i)).symm.trans (normed_apply h g _ _)

theorem ref_qry (h : FVec Ideal S16512x2048 .f32) (g : FVec Ideal S1x2048 .f32) (w : FVec Ideal S1x2048x2048 .f32) :
    truncf .bf16 (Host.dotGeneral (F := Ideal) dot_S16512x2048_S2048x2048_S16512x2048_1_0_0_1_n_n none (normed h g)
      (shapeCast S2048x2048 w shapeCasts_S1x2048x2048_S2048x2048)) bitsLt_bf16_f32 = Cert.QueryIdeal.Val.qry h g w := by
  funext i
  rw [eq_ix2 i]
  generalize hN : normed h g = N
  pointwise
  subst hN
  show _ = ∑ k, rmsAt _ _ k * w (ix3 0 k (i 1))
  exact Finset.sum_congr rfl fun k _ => congrArg (· * _) (normed_apply h g _ _)

end Cert.QueryRefIdeal.Val

/-! ## The claims -/

namespace Cert.Proof.Query

theorem frame_kernel : Cert.quiescent_Query := fun m ρ _ => Cert.Query.Gen.frame m ρ

theorem frame_ideal : Cert.quiescent_QueryIdeal := fun m ρ _ => Cert.QueryIdeal.Gen.frame m ρ

theorem frame_reference : Cert.quiescent_QueryRefIdeal := fun m ρ _ =>
  (θ_run Cert.QueryRefIdeal.defs _ _).mono (fun r h => ⟨fun c => (h c).2.2, sem_eq_zero_of_no_sems (by decide) r.2⟩)
    (Cert.QueryRefIdeal.Value.run (F := Ideal) m ρ)

/-- Both end at the normalised tokens and at the queries. -/
theorem algebraic : Cert.algebraic_QueryIdeal_QueryRefIdeal := by
  intro m ρ m' ρ' _ hagree
  refine ⟨fun c => Cert.QueryIdeal.Val.tokOf m c, fun c => Cert.QueryIdeal.Val.qryOf m c, Cert.QueryIdeal.Val.run m ρ, ?_⟩
  refine (θ_run Cert.QueryRefIdeal.defs _ _).mono (fun _ h c => ⟨(h c).1.trans ?_, (h c).2.1.trans ?_, (h c).2.2⟩)
    (Cert.QueryRefIdeal.Value.run (F := Ideal) m' ρ')
  · rw [(hagree c).1, (hagree c).2.1]
    exact Cert.QueryRefIdeal.Val.ref_tok _ _
  · rw [(hagree c).1, (hagree c).2.1, (hagree c).2.2]
    exact Cert.QueryRefIdeal.Val.ref_qry _ _ _

end Cert.Proof.Query

end
-- ==== Proof.ConvValue.lean ====
/-
  THE SHORT GATED CONVOLUTION: of every channel the gated input of a token and of the two before it is weighed and gated
  again (`gated`); then each group of 128 channels is normalised (`convOut`). The kernel turns the rows of its block round and
  puts zeros where the turn wrapped; the reference puts two rows of zeros before every sequence. Both read as `convOut`.
-/
module

public import proofs.«01_k».proof.Defs
public import proofs.«01_k».proof.Proof.Norm
public import proofs.«01_k».proof.Proof.Gen.ConvIdeal.Value
public import proofs.«01_k».proof.Proof.Gen.Conv.Frame
public import proofs.«01_k».proof.Proof.Gen.ConvRefIdeal.Run
public import Idealize.ShloMosaic.Lib.StableHlo.ReadAt
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Proof

/-- One channel of the gated convolution at token `s`. -/
def gated (b c a : Fin 2064 → EReal) (w : Fin 3 → EReal) (s : Fin 2064) : EReal :=
  b s * ((if h : 2 ≤ (s : Nat) then c ⟨s - 2, by omega⟩ * a ⟨s - 2, by omega⟩ * w 0 else 0)
    + (if h : 1 ≤ (s : Nat) then c ⟨s - 1, by omega⟩ * a ⟨s - 1, by omega⟩ * w 1 else 0) + c s * a s * w 2)

/-- Entry `k` of a group of 128 channels over the root of the mean of the group's squares plus ε, times its gain. -/
def groupAt (y : Fin 128 → EReal) (v g : EReal) : EReal :=
  v * Ideal.rsqrt (Ideal.div (∑ k, y k * y k) (Ideal.ofBits .f32 1124073472#32) + Ideal.ofBits .f32 897988541#32) * g

theorem groupAt_congr {y y' : Fin 128 → EReal} {v v' g g' : EReal} (hy : ∀ k, y k = y' k) (hv : v = v') (hg : g = g') :
    groupAt y v g = groupAt y' v' g' := by rw [funext hy, hv, hg]

/-- Two indices of a rank-3 array with equal coordinates are equal. -/
theorem idx3_ext {n0 n1 n2 : Nat} {i j : (⟨3, ![n0, n1, n2]⟩ : Shape).Idx} (h0 : (i 0 : Nat) = j 0) (h1 : (i 1 : Nat) = j 1)
    (h2 : (i 2 : Nat) = j 2) : i = j := by
  funext a
  match a with
  | ⟨0, _⟩ => exact Fin.ext h0
  | ⟨1, _⟩ => exact Fin.ext h1
  | ⟨2, _⟩ => exact Fin.ext h2

/-- Of row `r`, "at least `n`" asked of its 32-bit word is asked of its number. -/
theorem row_sge (n : Nat) (hn : n < 3) (r : Fin 2064) (x : EReal) :
    Scalar.select (IntOp.cmpi .sge (BitVec.ofNat 32 (r : Nat)) (BitVec.ofNat 32 n)) x 0 = if n ≤ (r : Nat) then x else 0 := by
  have hr : (r : Nat) < 2064 := r.isLt
  have e : IntOp.cmpi .sge (BitVec.ofNat 32 (r : Nat)) (BitVec.ofNat 32 n) = if n ≤ (r : Nat) then 1#1 else 0#1 := by
    have a : (BitVec.ofNat 32 (r : Nat)).toInt = (r : Nat) := by
      rw [BitVec.toInt_eq_toNat_of_lt (by rw [BitVec.toNat_ofNat]; omega), BitVec.toNat_ofNat, Nat.mod_eq_of_lt (by omega)]
    have b : (BitVec.ofNat 32 n).toInt = n := by
      rw [BitVec.toInt_eq_toNat_of_lt (by rw [BitVec.toNat_ofNat]; omega), BitVec.toNat_ofNat, Nat.mod_eq_of_lt (by omega)]
    by_cases h : n ≤ (r : Nat) <;> simp [IntOp.cmpi, BitVec.sle, a, b, h]
  rw [e]
  by_cases h : n ≤ (r : Nat) <;> simp [Scalar.select, h]

end Cert.Proof

namespace Cert.ConvIdeal.Val

open Cert.ConvIdeal Cert.ConvIdeal.Gen Cert.Proof

/-- The convolution's channel `C` of sequence `b`. -/
abbrev channel (p : FVec Ideal S8x2064x6144 .bf16) (w : FVec Ideal S1x3x1024 .f32) (b : Fin 8) (s : Fin 2064) (C : Fin 1024) : EReal :=
  gated (fun s => p (ix3 b s ⟨C, by omega⟩)) (fun s => p (ix3 b s ⟨1024 + C, by omega⟩)) (fun s => p (ix3 b s ⟨2048 + C, by omega⟩))
    (fun t => w (ix3 0 t C)) s

/-- The gated convolution, normalised by groups. -/
def convOut (p : FVec Ideal S8x2064x6144 .bf16) (w : FVec Ideal S1x3x1024 .f32) (g : FVec Ideal S1x2048 .f32) : FVec Ideal S8x2064x1024 .bf16 :=
  fun i => groupAt (fun k => channel p w (i 0) (i 1) ⟨(i 2 : Nat) / 128 * 128 + k, by have h : (i 2 : Nat) < 1024 := (i 2).isLt; omega⟩)
    (channel p w (i 0) (i 1) (i 2)) (g (ix2 0 ⟨(i 2 : Nat), by have h : (i 2 : Nat) < 1024 := (i 2).isLt; omega⟩))

theorem pay2_apply (b c a : FVec Ideal S1x2064x128 .bf16) (w : FVec Ideal S3x128 .f32) (r : Fin 2064) (k : Fin 128) :
    k0_pay2 (F := Ideal) b c w a (ix2 r k)
      = gated (fun s => a (ix3 0 s k)) (fun s => b (ix3 0 s k)) (fun s => c (ix3 0 s k)) (fun t => w (ix2 t k)) r := by
  pointwise [k0_pay2]
  rw [row_sge 2 (by decide), row_sge 1 (by decide)]
  have hr : (r : Nat) < 2064 := r.isLt
  unfold gated
  congr 3
  · by_cases h : 2 ≤ (r : Nat)
    · have e : ∀ p, (⟨((r : Nat) + 2064 - 2) % 2064, p⟩ : Fin 2064) = ⟨r - 2, by omega⟩ := fun p => Fin.ext (by show ((r : Nat) + 2064 - 2) % 2064 = (r : Nat) - 2; omega)
      rw [if_pos h, dif_pos h, e]
    · rw [if_neg h, dif_neg h]
  · by_cases h : 1 ≤ (r : Nat)
    · have e : ∀ p, (⟨((r : Nat) + 2064 - 1) % 2064, p⟩ : Fin 2064) = ⟨r - 1, by omega⟩ := fun p => Fin.ext (by show ((r : Nat) + 2064 - 1) % 2064 = (r : Nat) - 1; omega)
      rw [if_pos h, dif_pos h, e]
    · rw [if_neg h, dif_neg h]

theorem pay3_apply (b c a : FVec Ideal S1x2064x128 .bf16) (w : FVec Ideal S3x128 .f32) (r : Fin 2064) :
    k0_pay3 (F := Ideal) b c w a (ix2 r 0) = ∑ k, k0_pay2 (F := Ideal) b c w a (ix2 r k) * k0_pay2 (F := Ideal) b c w a (ix2 r k) := by
  unfold k0_pay3
  generalize k0_pay2 (F := Ideal) b c w a = y
  pointwise

theorem pay1_apply (y : FVec Ideal S2064x128 .f32) (s : FVec Ideal S2064x1 .f32) (g : FVec Ideal S1x128 .f32) (r : Fin 2064) (k : Fin 128)
    (hs : s (ix2 r 0) = ∑ k, y (ix2 r k) * y (ix2 r k)) :
    k0_pay1 (F := Ideal) y s (k0_pay4 (F := Ideal)) g (ix3 0 r k) = groupAt (fun k => y (ix2 r k)) (y (ix2 r k)) (g (ix2 0 k)) := by
  pointwise [k0_pay1, k0_pay4]
  rw [hs]
  rfl

/-- One block: the convolution of its channels, normalised. -/
theorem block_apply (b c a : FVec Ideal S1x2064x128 .bf16) (w : FVec Ideal S3x128 .f32) (g : FVec Ideal S1x128 .f32) (r : Fin 2064) (k : Fin 128) :
    k0_pay1 (F := Ideal) (k0_pay2 b c w a) (k0_pay3 b c w a) (k0_pay4 (F := Ideal)) g (ix3 0 r k)
      = groupAt (fun k => gated (fun s => a (ix3 0 s k)) (fun s => b (ix3 0 s k)) (fun s => c (ix3 0 s k)) (fun t => w (ix2 t k)) r)
        (gated (fun s => a (ix3 0 s k)) (fun s => b (ix3 0 s k)) (fun s => c (ix3 0 s k)) (fun t => w (ix2 t k)) r) (g (ix2 0 k)) := by
  rw [pay1_apply _ _ _ _ _ (pay3_apply b c a w r), pay2_apply]
  congr 1
  funext k
  exact pay2_apply b c a w r k

variable (m : (ℓ : Loc nD τ sig) → Buf (Elt Ideal) ℓ) (ρ : Dev nD → PrngReg)

theorem V_proj (c : Dev nD) : V m c main_arg0 = m ((c : Thread nD τ).loc main_arg0) := by
  unfold V
  after_results
  all_goals rfl

theorem V_taps (c : Dev nD) (t : Fin 3) (k : Fin 1024) : V m c main_v0 (ix2 t k) = m ((c : Thread nD τ).loc main_arg1) (ix3 0 t k) := by
  unfold V
  after_reads_at

theorem V_gain (c : Dev nD) (k : Fin 2048) : V m c main_v2 (ix2 0 k) = m ((c : Thread nD τ).loc main_arg2) (ix2 0 k) := by
  unfold V
  after_reads_at

theorem index_facts (t : Fin cfg0.N) :
    (win0_0.index t 0 * win0_0.size 0 = t.val / 8 ∧ win0_0.index t 1 * win0_0.size 1 = 0 ∧ win0_0.index t 2 * win0_0.size 2 = 128 * (t.val % 8))
    ∧ (win0_1.index t 0 * win0_1.size 0 = t.val / 8 ∧ win0_1.index t 1 * win0_1.size 1 = 0 ∧ win0_1.index t 2 * win0_1.size 2 = 1024 + 128 * (t.val % 8))
    ∧ (win0_2.index t 0 * win0_2.size 0 = t.val / 8 ∧ win0_2.index t 1 * win0_2.size 1 = 0 ∧ win0_2.index t 2 * win0_2.size 2 = 2048 + 128 * (t.val % 8))
    ∧ (win0_3.index t 0 * win0_3.size 0 = 0 ∧ win0_3.index t 1 * win0_3.size 1 = 128 * (t.val % 8))
    ∧ (win0_4.index t 0 * win0_4.size 0 = 0 ∧ win0_4.index t 1 * win0_4.size 1 = 128 * (t.val % 8))
    ∧ (win0_5.index t 0 * win0_5.size 0 = t.val / 8 ∧ win0_5.index t 1 * win0_5.size 1 = 0 ∧ win0_5.index t 2 * win0_5.size 2 = 128 * (t.val % 8)) := by
  revert t; decide +kernel

theorem blk_b (c : Dev nD) (t : Fin cfg0.N) (s : Fin 2064) (k : Fin 128) (b : Fin 8) (C : Fin 6144) (hb : (b : Nat) = t.val / 8)
    (hC : (C : Nat) = 128 * (t.val % 8) + k) : iblk m c 0 t (ix3 0 s k) = m ((c : Thread nD τ).loc main_arg0) (ix3 b s C) := by
  obtain ⟨a0, a1, a2⟩ := (index_facts t).1
  refine Eq.trans ?_ (congrFun (V_proj m c) (ix3 b s C))
  show V m c main_arg0 ((win0_0.rect t).emb _) = _
  refine congrArg _ (idx3_ext ?_ ?_ ?_)
  · show win0_0.index t 0 * win0_0.size 0 + 1 * 0 = b; rw [a0]; omega
  · show win0_0.index t 1 * win0_0.size 1 + 1 * (s : Nat) = s; rw [a1]; omega
  · show win0_0.index t 2 * win0_0.size 2 + 1 * (k : Nat) = C; rw [a2]; omega

theorem blk_c (c : Dev nD) (t : Fin cfg0.N) (s : Fin 2064) (k : Fin 128) (b : Fin 8) (C : Fin 6144) (hb : (b : Nat) = t.val / 8)
    (hC : (C : Nat) = 1024 + 128 * (t.val % 8) + k) : iblk m c 1 t (ix3 0 s k) = m ((c : Thread nD τ).loc main_arg0) (ix3 b s C) := by
  obtain ⟨a0, a1, a2⟩ := (index_facts t).2.1
  refine Eq.trans ?_ (congrFun (V_proj m c) (ix3 b s C))
  show V m c main_arg0 ((win0_1.rect t).emb _) = _
  refine congrArg _ (idx3_ext ?_ ?_ ?_)
  · show win0_1.index t 0 * win0_1.size 0 + 1 * 0 = b; rw [a0]; omega
  · show win0_1.index t 1 * win0_1.size 1 + 1 * (s : Nat) = s; rw [a1]; omega
  · show win0_1.index t 2 * win0_1.size 2 + 1 * (k : Nat) = C; rw [a2]; omega

theorem blk_a (c : Dev nD) (t : Fin cfg0.N) (s : Fin 2064) (k : Fin 128) (b : Fin 8) (C : Fin 6144) (hb : (b : Nat) = t.val / 8)
    (hC : (C : Nat) = 2048 + 128 * (t.val % 8) + k) : iblk m c 2 t (ix3 0 s k) = m ((c : Thread nD τ).loc main_arg0) (ix3 b s C) := by
  obtain ⟨a0, a1, a2⟩ := (index_facts t).2.2.1
  refine Eq.trans ?_ (congrFun (V_proj m c) (ix3 b s C))
  show V m c main_arg0 ((win0_2.rect t).emb _) = _
  refine congrArg _ (idx3_ext ?_ ?_ ?_)
  · show win0_2.index t 0 * win0_2.size 0 + 1 * 0 = b; rw [a0]; omega
  · show win0_2.index t 1 * win0_2.size 1 + 1 * (s : Nat) = s; rw [a1]; omega
  · show win0_2.index t 2 * win0_2.size 2 + 1 * (k : Nat) = C; rw [a2]; omega

theorem blk_w (c : Dev nD) (t : Fin cfg0.N) (j : Fin 3) (k : Fin 128) (C : Fin 1024) (hC : (C : Nat) = 128 * (t.val % 8) + k) :
    iblk m c 3 t (ix2 j k) = m ((c : Thread nD τ).loc main_arg1) (ix3 0 j C) := by
  obtain ⟨a0, a1⟩ := (index_facts t).2.2.2.1
  refine Eq.trans ?_ (V_taps m c j C)
  show V m c main_v0 ((win0_3.rect t).emb _) = _
  refine congrArg _ (idx2_ext ?_ ?_)
  · show win0_3.index t 0 * win0_3.size 0 + 1 * (j : Nat) = j; rw [a0]; omega
  · show win0_3.index t 1 * win0_3.size 1 + 1 * (k : Nat) = C; rw [a1]; omega

theorem blk_g (c : Dev nD) (t : Fin cfg0.N) (k : Fin 128) (C : Fin 2048) (hC : (C : Nat) = 128 * (t.val % 8) + k) :
    iblk m c 4 t (ix2 0 k) = m ((c : Thread nD τ).loc main_arg2) (ix2 0 C) := by
  obtain ⟨a0, a1⟩ := (index_facts t).2.2.2.2.1
  refine Eq.trans ?_ (V_gain m c C)
  show V m c main_v2 ((win0_4.rect t).emb _) = _
  refine congrArg _ (idx2_ext ?_ ?_)
  · show win0_4.index t 0 * win0_4.size 0 + 1 * 0 = 0; rw [a0]
  · show win0_4.index t 1 * win0_4.size 1 + 1 * (k : Nat) = C; rw [a1]; omega

abbrev result (c : Dev nD) : Buf (Elt Ideal) ((c : Thread nD τ).loc main_v3) :=
  convOut (m ((c : Thread nD τ).loc main_arg0)) (m ((c : Thread nD τ).loc main_arg1)) (m ((c : Thread nD τ).loc main_arg2))

/-- A block's channel is the array's. -/
theorem channel_blk (c : Dev nD) (t : Fin cfg0.N) (r : Fin 2064) (k : Fin 128) (b : Fin 8) (C : Fin 1024) (hb : (b : Nat) = t.val / 8)
    (hC : (C : Nat) = 128 * (t.val % 8) + k) :
    gated (fun s => iblk m c 0 t (ix3 0 s k)) (fun s => iblk m c 1 t (ix3 0 s k)) (fun s => iblk m c 2 t (ix3 0 s k)) (fun j => iblk m c 3 t (ix2 j k)) r
      = channel (m ((c : Thread nD τ).loc main_arg0)) (m ((c : Thread nD τ).loc main_arg1)) b r C := by
  unfold channel
  congr 1
  · funext s; exact blk_b m c t s k b _ hb hC
  · funext s; exact blk_c m c t s k b _ hb (by show 1024 + (C : Nat) = _; omega)
  · funext s; exact blk_a m c t s k b _ hb (by show 2048 + (C : Nat) = _; omega)
  · funext j; exact blk_w m c t j k C hC

/-- What step `t` writes back is its block of the result. -/
theorem flushed_eq (c : Dev nD) (t : Fin cfg0.N) :
    (dats m 0 c).flushed 5 t = (win0_5.blk t).view.read (Elt Ideal) (result m c) := by
  rw [Value.flushed5]
  unfold out0_5
  have hz : (![0, 0] : Fin 2 → Nat) = fun _ => 0 := funext fun a => by fin_cases a <;> rfl
  have hz3 : (![0, 0, 0] : Fin 3 → Nat) = fun _ => 0 := funext fun a => by fin_cases a <;> rfl
  rw [View.canon_unit_zero hz3, View.ld_unit_zero hz3, View.ld_unit_zero hz3, View.ld_unit_zero hz, View.ld_unit_zero hz3, View.ld_unit_zero hz]
  funext y
  obtain ⟨c0, c1, c2⟩ := (index_facts t).2.2.2.2.2
  have hy0 : (y 0 : Nat) < 1 := (y 0).isLt
  have hy2 : (y 2 : Nat) < 128 := (y 2).isLt
  have ht : t.val < 64 := t.isLt
  have e : (win0_5.rect t).emb y = ix3 (n0 := 8) (n1 := 2064) (n2 := 1024) ⟨t.val / 8, by omega⟩ (y 1) ⟨128 * (t.val % 8) + y 2, by omega⟩ := by
    refine idx3_ext ?_ ?_ ?_
    · show win0_5.index t 0 * win0_5.size 0 + 1 * (y 0 : Nat) = t.val / 8; rw [c0]; omega
    · show win0_5.index t 1 * win0_5.size 1 + 1 * (y 1 : Nat) = y 1; rw [c1]; omega
    · show win0_5.index t 2 * win0_5.size 2 + 1 * (y 2 : Nat) = 128 * (t.val % 8) + y 2; rw [c2]; omega
  have ey : y = ix3 (n0 := 1) (n1 := 2064) (n2 := 128) 0 (y 1) (y 2) := idx3_ext (by show (y 0 : Nat) = 0; omega) rfl rfl
  show k0_pay1 (F := Ideal) (k0_pay2 (iblk m c 1 t) (iblk m c 2 t) (iblk m c 3 t) (iblk m c 0 t))
    (k0_pay3 (iblk m c 1 t) (iblk m c 2 t) (iblk m c 3 t) (iblk m c 0 t)) (k0_pay4 (F := Ideal)) (iblk m c 4 t) y = result m c ((win0_5.rect t).emb y)
  rw [e]
  refine (congrArg _ ey).trans ((block_apply _ _ _ _ _ _ _).trans ?_)
  exact groupAt_congr (fun k => channel_blk m c t (y 1) k _ _ rfl (by show (128 * (t.val % 8) + (y 2 : Nat)) / 128 * 128 + (k : Nat) = _; omega))
    (channel_blk m c t (y 1) (y 2) _ _ rfl rfl) (blk_g m c t (y 2) _ rfl)

/-- The blocks of the 64 steps fill the result. -/
theorem cover (i : S8x2064x1024.Idx) : ∃ t : Fin cfg0.N, (cfg0.win 5).flush t = true ∧ i ∈ ((cfg0.win 5).blk t).view.set := by
  have h0 : (i 0 : Nat) < 8 := (i 0).isLt
  have h1 : (i 1 : Nat) < 2064 := (i 1).isLt
  have h2 : (i 2 : Nat) < 1024 := (i 2).isLt
  have ht : (i 0 : Nat) * 8 + (i 2 : Nat) / 128 < 64 := by omega
  refine ⟨⟨(i 0 : Nat) * 8 + (i 2 : Nat) / 128, ht⟩, flush0_5 _, ?_⟩
  obtain ⟨c0, c1, c2⟩ := (index_facts ⟨(i 0 : Nat) * 8 + (i 2 : Nat) / 128, ht⟩).2.2.2.2.2
  show i ∈ ((View.whole main_v3).slice (win0_5.rect (⟨(i 0 : Nat) * 8 + (i 2 : Nat) / 128, ht⟩ : Fin cfg0.N))).set
  rw [View.set_slice_whole, Rect.mem_set_unit]
  intro a
  match a with
  | ⟨0, _⟩ =>
    show win0_5.index _ 0 * win0_5.size 0 ≤ (i 0 : Nat) ∧ (i 0 : Nat) < win0_5.index _ 0 * win0_5.size 0 + 1
    rw [c0]; dsimp only; omega
  | ⟨1, _⟩ =>
    show win0_5.index _ 1 * win0_5.size 1 ≤ (i 1 : Nat) ∧ (i 1 : Nat) < win0_5.index _ 1 * win0_5.size 1 + 2064
    rw [c1]; dsimp only; omega
  | ⟨2, _⟩ =>
    show win0_5.index _ 2 * win0_5.size 2 ≤ (i 2 : Nat) ∧ (i 2 : Nat) < win0_5.index _ 2 * win0_5.size 2 + 128
    rw [c2]; dsimp only; omega

theorem final (c : Dev nD) : (dats m 0 c).arrAt 5 cfg0.N = result m c :=
  (dats m 0 c).arrAt_eq_of_cover 5 (result m c) (fun t _ => flushed_eq m c t) cover

/-- The run, read: the result is the normalised convolution, the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

end Cert.ConvIdeal.Val

/-! ## The reference -/

namespace Cert.ConvRefIdeal.Val

open Cert.ConvRefIdeal Cert.ConvRefIdeal.Gen Cert.Proof

/-- The second gate times the input, as the reference's run composes it. -/
abbrev gatedIn (p : FVec Ideal S8x2064x6144 .bf16) : FVec Ideal S8x2064x1024 .f32 :=
  mulf (extractStridedSlice S8x2064x1024 ![0, 0, 1024] (extf .f32 p bitsLt_bf16_f32) slices_S8x2064x6144_S8x2064x1024_0_0_1024) (extractStridedSlice S8x2064x1024 ![0, 0, 2048] (extf .f32 p bitsLt_bf16_f32) slices_S8x2064x6144_S8x2064x1024_0_0_2048)

/-- Two rows of zeros before every sequence. -/
abbrev padded (u : FVec Ideal S8x2064x1024 .f32) : FVec Ideal S8x2066x1024 .f32 :=
  pad S8x2066x1024 ![0, 2, 0] ![0, 0, 0] ![0, 0, 0] u (sitofp .f32 (constantI S_ 32 0#32)) pads_S8x2064x1024_S8x2066x1024_000_200_000 h_S_

/-- The gated convolution. -/
abbrev convolved (p : FVec Ideal S8x2064x6144 .bf16) (w : FVec Ideal S1x3x1024 .f32) : FVec Ideal S8x2064x1024 .f32 :=
  mulf (extractStridedSlice S8x2064x1024 ![0, 0, 0] (extf .f32 p bitsLt_bf16_f32) slices_S8x2064x6144_S8x2064x1024_0_0_0) (addf (addf (mulf (extractStridedSlice S8x2064x1024 ![0, 0, 0] (padded (gatedIn p)) slices_S8x2066x1024_S8x2064x1024_0_0_0) (broadcastInDim S8x2064x1024 ![0, 1, 2] bcast_S1x1x1024_S8x2064x1024_0_1_2 (broadcastInDim S1x1x1024 ![2] bcast_S1024_S1x1x1024_2 (shapeCast S1024 (extractStridedSlice S1x1024 ![0, 0] (shapeCast S3x1024 w shapeCasts_S1x3x1024_S3x1024) slices_S3x1024_S1x1024_0_0) shapeCasts_S1x1024_S1024)))) (mulf (extractStridedSlice S8x2064x1024 ![0, 1, 0] (padded (gatedIn p)) slices_S8x2066x1024_S8x2064x1024_0_1_0) (broadcastInDim S8x2064x1024 ![0, 1, 2] bcast_S1x1x1024_S8x2064x1024_0_1_2 (broadcastInDim S1x1x1024 ![2] bcast_S1024_S1x1x1024_2 (shapeCast S1024 (extractStridedSlice S1x1024 ![1, 0] (shapeCast S3x1024 w shapeCasts_S1x3x1024_S3x1024) slices_S3x1024_S1x1024_1_0) shapeCasts_S1x1024_S1024))))) (mulf (extractStridedSlice S8x2064x1024 ![0, 2, 0] (padded (gatedIn p)) slices_S8x2066x1024_S8x2064x1024_0_2_0) (broadcastInDim S8x2064x1024 ![0, 1, 2] bcast_S1x1x1024_S8x2064x1024_0_1_2 (broadcastInDim S1x1x1024 ![2] bcast_S1024_S1x1x1024_2 (shapeCast S1024 (extractStridedSlice S1x1024 ![2, 0] (shapeCast S3x1024 w shapeCasts_S1x3x1024_S3x1024) slices_S3x1024_S1x1024_2_0) shapeCasts_S1x1024_S1024)))))

/-- The norm of each group of 128 channels, times the gains. -/
abbrev normed (y : FVec Ideal S8x2064x1024 .f32) (g : FVec Ideal S1x2048 .f32) : FVec Ideal S8x2064x1024 .bf16 :=
  truncf .bf16 (mulf (shapeCast S8x2064x1024 (mulf (mulf (shapeCast S8x2064x8x128 y shapeCasts_S8x2064x1024_S8x2064x8x128) (broadcastInDim S8x2064x8x128 ![0, 1, 2, 3] bcast_S8x2064x8x1_S8x2064x8x128_0_1_2_3 (Host.rsqrt (addf (Host.divf (broadcastInDim S8x2064x8x1 ![0, 1, 2] bcast_S8x2064x8_S8x2064x8x1_0_1_2 (Host.reduceAdd (mulf (shapeCast S8x2064x8x128 y shapeCasts_S8x2064x1024_S8x2064x8x128) (shapeCast S8x2064x8x128 y shapeCasts_S8x2064x1024_S8x2064x8x128)) (constant S_ .f32 0x00000000#32) reducesTo_S8x2064x8x128_S8x2064x8_d3 h_S_)) (broadcastInDim S8x2064x8x1 ![] bcast_S_S8x2064x8x1 (constant S_ .f32 0x43000000#32))) (broadcastInDim S8x2064x8x1 ![] bcast_S_S8x2064x8x1 (constant S_ .f32 0x358637BD#32)))))) (broadcastInDim S8x2064x8x128 ![0, 1, 2, 3] bcast_S1x1x1x128_S8x2064x8x128_0_1_2_3 (broadcastInDim S1x1x1x128 ![3] bcast_S128_S1x1x1x128_3 (broadcastInDim S128 ![] bcast_S_S128 (constant S_ .f32 0x3F800000#32))))) shapeCasts_S8x2064x8x128_S8x2064x1024) (broadcastInDim S8x2064x1024 ![0, 1, 2] bcast_S1x1x1024_S8x2064x1024_0_1_2 (broadcastInDim S1x1x1024 ![2] bcast_S1024_S1x1x1024_2 (extractStridedSlice S1024 ![0] (shapeCast S2048 g shapeCasts_S1x2048_S2048) slices_S2048_S1024_0)))) bitsLt_bf16_f32

theorem res_eq (m : (ℓ : Loc nD τ sig) → Buf (Elt Ideal) ℓ) (c : Dev nD) :
    Cert.ConvRefIdeal.Value.res_main_v49 m c = normed (convolved (m ((c.tc : Thread nD τ).loc main_arg0)) (m ((c.tc : Thread nD τ).loc main_arg1))) (m ((c.tc : Thread nD τ).loc main_arg2)) := rfl

theorem convolved_apply (p : FVec Ideal S8x2064x6144 .bf16) (w : FVec Ideal S1x3x1024 .f32) (b : Fin 8) (s : Fin 2064) (k : Fin 1024) :
    convolved p w (ix3 b s k) = Cert.ConvIdeal.Val.channel p w b s k := by
  pointwise [convolved]
  have hs : (s : Nat) < 2064 := s.isLt
  have z : (FloatOps.sitofp (F := Ideal) FTy.f32 0#32 : EReal) = 0 := by
    show (((0#32 : BitVec 32).toInt : ℝ) : EReal) = 0
    simp
  rw [z]
  unfold Cert.ConvIdeal.Val.channel gated
  congr 3
  · by_cases h : 2 ≤ (s : Nat)
    · rw [dif_pos ⟨h, by omega⟩, dif_pos h]
    · rw [dif_neg (fun x => h x.1), dif_neg h, zero_mul]
  · by_cases h : 1 ≤ (s : Nat)
    · have e : ∀ p, (⟨1 + (s : Nat) - 2, p⟩ : Fin 2064) = ⟨s - 1, by omega⟩ := fun p => Fin.ext (by show 1 + (s : Nat) - 2 = s - 1; omega)
      rw [dif_pos ⟨by omega, by omega⟩, dif_pos h, e]
    · rw [dif_neg (fun x => h (by omega)), dif_neg h, zero_mul]

theorem normed_apply (y : FVec Ideal S8x2064x1024 .f32) (g : FVec Ideal S1x2048 .f32) (b : Fin 8) (s : Fin 2064) (k : Fin 1024) :
    normed y g (ix3 b s k)
      = groupAt (fun x => y (ix3 b s ⟨(k : Nat) / 128 * 128 + x, by omega⟩)) (y (ix3 b s k)) (g (ix2 0 ⟨k, by omega⟩)) := by
  pointwise [normed]
  rfl

theorem ref_eq (p : FVec Ideal S8x2064x6144 .bf16) (w : FVec Ideal S1x3x1024 .f32) (g : FVec Ideal S1x2048 .f32) :
    normed (convolved p w) g = Cert.ConvIdeal.Val.convOut p w g := by
  funext i
  refine (congrArg _ (eq_ix3 i)).trans ((normed_apply _ g (i 0) (i 1) (i 2)).trans ?_)
  show _ = groupAt _ _ _
  congr 1
  · funext x; exact convolved_apply p w (i 0) (i 1) _
  · exact convolved_apply p w (i 0) (i 1) (i 2)

end Cert.ConvRefIdeal.Val

/-! ## The claims -/

namespace Cert.Proof.Conv

theorem frame_kernel : Cert.quiescent_Conv := fun m ρ _ => Cert.Conv.Gen.frame m ρ

theorem frame_ideal : Cert.quiescent_ConvIdeal := fun m ρ _ => Cert.ConvIdeal.Gen.frame m ρ

theorem frame_reference : Cert.quiescent_ConvRefIdeal := fun m ρ _ =>
  (θ_run Cert.ConvRefIdeal.defs _ _).mono (fun r h => ⟨fun c => (h c).2, sem_eq_zero_of_no_sems (by decide) r.2⟩)
    (Cert.ConvRefIdeal.Value.run (F := Ideal) m ρ)

/-- Both end at the normalised gated convolution. -/
theorem algebraic : Cert.algebraic_ConvIdeal_ConvRefIdeal := by
  intro m ρ m' ρ' _ hagree
  refine ⟨fun c => Cert.ConvIdeal.Val.result m c, Cert.ConvIdeal.Val.run m ρ, ?_⟩
  refine (θ_run Cert.ConvRefIdeal.defs _ _).mono (fun _ h c => ⟨(h c).1.trans ?_, (h c).2⟩)
    (Cert.ConvRefIdeal.Value.run (F := Ideal) m' ρ')
  rw [Cert.ConvRefIdeal.Val.res_eq, (hagree c).1, (hagree c).2.1, (hagree c).2.2]
  exact Cert.ConvRefIdeal.Val.ref_eq _ _ _

end Cert.Proof.Conv

end
-- ==== Proof.AttnFrame.lean ====
/-
  The attention call terminates without a fault and leaves its arguments alone. At each grid point the body normalises
  and stores the queries, keys and values of eight heads, runs seventeen query tiles — each with an inner loop over
  the key tiles before it — and writes the output block. Nothing is said here of the numbers.
-/
module

public import proofs.«01_k».proof.Proof.Gen.AttnIdeal.Frame
public import proofs.«01_k».proof.Proof.Gen.AttnIdeal.Loops
public import Idealize.ShloMosaic.Lib.Claim

@[expose] public section

set_option maxRecDepth 16384

noncomputable section

namespace Cert.AttnIdeal.Hand

open Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

section Body

variable (c : Dev nD) (E : Set ℕ) (i : grid0.Coords)
  (arg1 : Memref sig .tc .vmem S1x2064x1024 .bf16) (harg1 : arg1.IsWhole)
  (arg2 : Memref sig .tc .vmem S1x2064x1024 .bf16) (harg2 : arg2.IsWhole)
  (arg3 : Memref sig .tc .vmem S1x2064x1024 .bf16) (harg3 : arg3.IsWhole)
  (arg4 : Memref sig .tc .vmem S1x128 .f32) (harg4 : arg4.IsWhole)
  (arg5 : Memref sig .tc .vmem S1x128 .f32) (harg5 : arg5.IsWhole)
  (arg6 : Memref sig .tc .vmem S1x1024 .f32) (harg6 : arg6.IsWhole)
  (arg7 : Memref sig .tc .vmem S1x2064x1024 .bf16) (harg7 : arg7.IsWhole)
  (arg8 : Memref sig .tc .vmem S2176x1024 .bf16) (harg8 : arg8.IsWhole)
  (arg9 : Memref sig .tc .vmem S2176x1024 .bf16) (harg9 : arg9.IsWhole)
  (arg10 : Memref sig .tc .vmem S2176x1024 .bf16) (harg10 : arg10.IsWhole)
  (arg11 : Memref sig .tc .vmem S2176x1024 .bf16) (harg11 : arg11.IsWhole)
  (arg12 : Memref sig .tc .vmem S1024x128 .f32) (harg12 : arg12.IsWhole)
  (arg13 : Memref sig .tc .vmem S1024x128 .f32) (harg13 : arg13.IsWhole)

/-- What a query tile touches: the gains of the output, the stored queries, keys and values, the output's rows and
    the two accumulators, each at some contents. -/
abbrev tileInv (X6 : BufTy.Contents (Elt F) arg6.view.ty) : sProp 𝕄 :=
  iprop((arg6.view.loc (c : Thread nD τ) ↦[arg6.view.set]{fullShare} X6) ∗ (∃ f, arg8.view.loc (c : Thread nD τ) ↦[arg8.view.set]{fullShare} f) ∗ (∃ f, arg9.view.loc (c : Thread nD τ) ↦[arg9.view.set]{fullShare} f) ∗ (∃ f, arg10.view.loc (c : Thread nD τ) ↦[arg10.view.set]{fullShare} f) ∗ (∃ f, arg11.view.loc (c : Thread nD τ) ↦[arg11.view.set]{fullShare} f) ∗ (∃ f, arg12.view.loc (c : Thread nD τ) ↦[arg12.view.set]{fullShare} f) ∗ (∃ f, arg13.view.loc (c : Thread nD τ) ↦[arg13.view.set]{fullShare} f))

set_option maxHeartbeats 8000000 in
/-- One query tile takes them to themselves. -/
theorem tile_run (X6 : BufTy.Contents (Elt F) arg6.view.ty) (k : Fin k0_t1_loop.trips) (acc : Unit) :
    tileInv (F := F) c arg6 arg8 arg9 arg10 arg11 arg12 arg13 X6
      ⊢ wp frame (wpE (defs₀ (F := F)) Variants.none (c : Thread nD τ) none) E
          (k0_t1_body (F := F) i arg1 harg1 arg2 harg2 arg3 harg3 arg4 harg4 arg5 harg5 arg6 harg6 arg7 harg7 arg8 harg8 arg9 harg9 arg10 harg10 arg11 harg11 arg12 harg12 arg13 harg13 k acc)
          (fun _ => tileInv (F := F) c arg6 arg8 arg9 arg10 arg11 arg12 arg13 X6) := by
  unfold k0_t1_body
  iintro ⟨H6, ⟨%f8, H8⟩, ⟨%f9, H9⟩, ⟨%f10, H10⟩, ⟨%f11, H11⟩, ⟨%f12, H12⟩, ⟨%f13, H13⟩⟩
  sl_exec
  sl_step
  isplitl [H6]; · iexact H6
  isplitl [H8]; · iexists _; iexact H8
  isplitl [H9]; · iexists _; iexact H9
  isplitl [H10]; · iexists _; iexact H10
  isplitl [H11]; · iexists _; iexact H11
  isplitl [H12]; · iexists _; iexact H12
  iexists _; iexact H13

set_option warn.classDefReducibility false in
/-- The loop over the query tiles, by that. -/
@[sl_loop] def loopInv_tiles (X6 : BufTy.Contents (Elt F) arg6.view.ty) : LoopInvTy_k0_t1 (F := F) Unit ℕ (UR sig nD τ) ℕ Variants.none c none E i arg1 harg1 arg2 harg2 arg3 harg3 arg4 harg4 arg5 harg5 arg6 harg6 arg7 harg7 arg8 harg8 arg9 harg9 arg10 harg10 arg11 harg11 arg12 harg12 arg13 harg13 where
  inv _ _ := tileInv (F := F) c arg6 arg8 arg9 arg10 arg11 arg12 arg13 X6
  step k acc := tile_run c E i arg1 harg1 arg2 harg2 arg3 harg3 arg4 harg4 arg5 harg5 arg6 harg6 arg7 harg7 arg8 harg8 arg9 harg9 arg10 harg10 arg11 harg11 arg12 harg12 arg13 harg13 X6 k acc

/-- The body's buffers: its six inputs at their blocks, its output and its scratch at some contents. -/
abbrev bodyRes
    (x1 : Vec F S1x2064x1024 .bf16)
    (x2 : Vec F S1x2064x1024 .bf16)
    (x3 : Vec F S1x2064x1024 .bf16)
    (x4 : Vec F S1x128 .f32)
    (x5 : Vec F S1x128 .f32)
    (x6 : Vec F S1x1024 .f32) : sProp 𝕄 :=
  iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ X, owns (c : Thread nD τ) arg7 fullShare X) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d))

set_option maxHeartbeats 8000000 in
/-- The body takes them to themselves. -/
theorem body_run
    (x1 : Vec F S1x2064x1024 .bf16)
    (x2 : Vec F S1x2064x1024 .bf16)
    (x3 : Vec F S1x2064x1024 .bf16)
    (x4 : Vec F S1x128 .f32)
    (x5 : Vec F S1x128 .f32)
    (x6 : Vec F S1x1024 .f32) :
    bodyRes (F := F) c arg1 arg2 arg3 arg4 arg5 arg6 arg7 arg8 arg9 arg10 arg11 arg12 arg13 x1 x2 x3 x4 x5 x6
      ⊢ wp frame (wpE (defs₀ (F := F)) Variants.none (c : Thread nD τ) none) E
          (cc0_attn_group (F := F) i arg1 harg1 arg2 harg2 arg3 harg3 arg4 harg4 arg5 harg5 arg6 harg6 arg7 harg7 arg8 harg8 arg9 harg9 arg10 harg10 arg11 harg11 arg12 harg12 arg13 harg13)
          (fun _ => bodyRes (F := F) c arg1 arg2 arg3 arg4 arg5 arg6 arg7 arg8 arg9 arg10 arg11 arg12 arg13 x1 x2 x3 x4 x5 x6) := by
  simp only [cc0_attn_group_eq_skeleton]; unfold cc0_attn_group_skel
  unfold bodyRes owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩,
    ⟨%d8, %f8, -, H8⟩, ⟨%d9, %f9, -, H9⟩, ⟨%d10, %f10, -, H10⟩, ⟨%d11, %f11, -, H11⟩, ⟨%d12, %f12, -, H12⟩, ⟨%d13, %f13, -, H13⟩⟩
  sl_exec
  sl_step
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  iexists _, _; isplitr; swap; · iexact H13
  ipureintro; rfl

end Body

/-! ## The pipeline's proof data and the launch -/

variable (m : (ℓ : Loc nD τ sig) → Buf (Elt F) ℓ) (ρ : Dev nD → PrngReg)

/-- The output's block is the one of which nothing is said. -/
abbrev forgets0 : Fin 7 → Bool := fun w => w = 6

/-- Each input's buffer holds its block; nothing is said of the output's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => Pipeline.Dat.unnamed (cfg := cfg0) 6 t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body is called with at a grid point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (∃ d, owns (c : Thread nD τ) (st0_6 t) fullShare d))

/-- The invariant of the launch: the six scratch buffers at some contents, and the generator's register. -/
theorem inv_eq (c : Dev nD) : (Pipeline.ΦA spec0 c : sProp 𝕄)
    = iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d)) ∗ ∃ r, prngReg c r) := by
  unfold Pipeline.ΦA
  rw [scopedRest0_eq]; simp only [owns_whole]; try rfl

set_option maxHeartbeats 1600000 in
/-- The body at any grid point. -/
theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5,
    show (dats m 0 c).Φ t.castSucc = Pipeline.ΦA spec0 c from rfl]
  rw [inv_eq]
  iintro ⟨⟨⟨⟨%f8, H8⟩, ⟨%f9, H9⟩, ⟨%f10, H10⟩, ⟨%f11, H11⟩, ⟨%f12, H12⟩, ⟨%f13, H13⟩⟩, Hg⟩, Ho, ⟨%d0, H1⟩, ⟨%d1, H2⟩, ⟨%d2, H3⟩, ⟨%d3, H4⟩, ⟨%d4, H5⟩, ⟨%d5, H6⟩, ⟨%d6, H7⟩⟩
  iapply (wp_wand_r frame (wpE (defs₀ (F := F)) Variants.none (c : Thread nD τ) none) Set.univ)
  isplitl [H1 H2 H3 H4 H5 H6 H7 H8 H9 H10 H11 H12 H13]
  · iapply (body_run c Set.univ (grid0.coords t) _ _ _ _ _ _ _ _ _ _ _ _ _ _ _ _ _ _ _ _ _ _ _ _ _ _
      (iblk m c 0 t) (iblk m c 1 t) (iblk m c 2 t) (iblk m c 3 t) (iblk m c 4 t) (iblk m c 5 t))
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    iexists _; iexact H13
  · iintro %_ ⟨H1, H2, H3, H4, H5, H6, H7, ⟨%g8, H8⟩, ⟨%g9, H9⟩, ⟨%g10, H10⟩, ⟨%g11, H11⟩, ⟨%g12, H12⟩, ⟨%g13, H13⟩⟩
    isplitl [H8 H9 H10 H11 H12 H13 Hg]
    · isplitr [Hg]
      · isplitl [H8]; · iexists _; iexact H8
        isplitl [H9]; · iexists _; iexact H9
        isplitl [H10]; · iexists _; iexact H10
        isplitl [H11]; · iexists _; iexact H11
        isplitl [H12]; · iexists _; iexact H12
        iexists _; iexact H13
      iexact Hg
    isplitl [Ho]; · iexact Ho
    isplitl [H1]; · iexact H1
    isplitl [H2]; · iexact H2
    isplitl [H3]; · iexact H3
    isplitl [H4]; · iexact H4
    isplitl [H5]; · iexact H5
    isplitl [H6]; · iexact H6
    iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
set_option maxHeartbeats 800000 in
/-- The run: it terminates, every buffer the kernel does not write ends as it was, every counter at zero. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

/-- The frame. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
    ⟨(h.1.arr_in c 2 rfl).trans ((A_eq m c 2).trans (V_main_arg0 m c)),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, h.2⟩) (run_main m ρ)

end Cert.AttnIdeal.Hand

end
-- ==== Proof.AttnRun.lean ====
/-
  The attention's run with its numbers: what the two accumulators hold after some of a query tile's inner trips, what the
  output's rows hold after some of the query tiles, each as what was stored. Values are read off these in the modules after it.
-/
module

public import proofs.«01_k».proof.Proof.Gen.AttnIdeal.Skeleton
public import Idealize.ShloMosaic.Lib.Exec
public import Idealize.ShloMosaic.Lib.Tactic
public import Idealize.ShloMosaic.Lib.Pipeline.Kit

@[expose] public section

set_option maxRecDepth 16384

noncomputable section

namespace Cert.AttnIdeal.Run

open Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section Body

variable (c : Dev nD) (E : Set ℕ) (i : grid0.Coords)
  (arg1 : Memref sig .tc .vmem S1x2064x1024 .bf16) (harg1 : arg1.IsWhole)
  (arg2 : Memref sig .tc .vmem S1x2064x1024 .bf16) (harg2 : arg2.IsWhole)
  (arg3 : Memref sig .tc .vmem S1x2064x1024 .bf16) (harg3 : arg3.IsWhole)
  (arg4 : Memref sig .tc .vmem S1x128 .f32) (harg4 : arg4.IsWhole)
  (arg5 : Memref sig .tc .vmem S1x128 .f32) (harg5 : arg5.IsWhole)
  (arg6 : Memref sig .tc .vmem S1x1024 .f32) (harg6 : arg6.IsWhole)
  (arg7 : Memref sig .tc .vmem S1x2064x1024 .bf16) (harg7 : arg7.IsWhole)
  (arg8 : Memref sig .tc .vmem S2176x1024 .bf16) (harg8 : arg8.IsWhole)
  (arg9 : Memref sig .tc .vmem S2176x1024 .bf16) (harg9 : arg9.IsWhole)
  (arg10 : Memref sig .tc .vmem S2176x1024 .bf16) (harg10 : arg10.IsWhole)
  (arg11 : Memref sig .tc .vmem S2176x1024 .bf16) (harg11 : arg11.IsWhole)
  (arg12 : Memref sig .tc .vmem S1024x128 .f32) (harg12 : arg12.IsWhole)
  (arg13 : Memref sig .tc .vmem S1024x128 .f32) (harg13 : arg13.IsWhole)

/-- What key tile `k` of the query tile `t` stores into the two accumulators, found at `f12` and `f13`. -/
def accStep (w : FVec F S256x256 .bf16) (X8 : BufTy.Contents (Elt F) arg8.view.ty) (X9 : BufTy.Contents (Elt F) arg9.view.ty) (X10 : BufTy.Contents (Elt F) arg10.view.ty) (t : Fin k0_t1_loop.trips) (k : Fin (k0_t2_loop t).trips)
(f12 : BufTy.Contents (Elt F) arg12.view.ty) (f13 : BufTy.Contents (Elt F) arg13.view.ty) :
    View.Piece (Elt F) S1024x128 .f32 × View.Piece (Elt F) S1024x128 .f32 :=
  have z0 := k0_pay7 (View.readAt (Elt F) arg8.view (Rect.unit (s := S2176x1024) (k0_off9 t) S128x128.size (k0_off9_inb t)).toLoadRect X8) (View.readAt (Elt F) arg9.view (Rect.unit (s := S2176x1024) (k0_off10 t k) S128x128.size (k0_off10_inb t k)).toLoadRect X9)
  have z1 := k0_pay8 (View.readAt (Elt F) arg8.view (Rect.unit (s := S2176x1024) (k0_off11 t) S128x128.size (k0_off11_inb t)).toLoadRect X8) (View.readAt (Elt F) arg9.view (Rect.unit (s := S2176x1024) (k0_off12 t k) S128x128.size (k0_off12_inb t k)).toLoadRect X9)
  have z2 := k0_pay9 (View.readAt (Elt F) arg8.view (Rect.unit (s := S2176x1024) (k0_off13 t) S128x128.size (k0_off13_inb t)).toLoadRect X8) (View.readAt (Elt F) arg9.view (Rect.unit (s := S2176x1024) (k0_off14 t k) S128x128.size (k0_off14_inb t k)).toLoadRect X9)
  have z3 := k0_pay10 (View.readAt (Elt F) arg8.view (Rect.unit (s := S2176x1024) (k0_off15 t) S128x128.size (k0_off15_inb t)).toLoadRect X8) (View.readAt (Elt F) arg9.view (Rect.unit (s := S2176x1024) (k0_off16 t k) S128x128.size (k0_off16_inb t k)).toLoadRect X9)
  have z4 := k0_pay11 (View.readAt (Elt F) arg8.view (Rect.unit (s := S2176x1024) (k0_off17 t) S128x128.size (k0_off17_inb t)).toLoadRect X8) (View.readAt (Elt F) arg9.view (Rect.unit (s := S2176x1024) (k0_off18 t k) S128x128.size (k0_off18_inb t k)).toLoadRect X9)
  have z5 := k0_pay12 (View.readAt (Elt F) arg8.view (Rect.unit (s := S2176x1024) (k0_off19 t) S128x128.size (k0_off19_inb t)).toLoadRect X8) (View.readAt (Elt F) arg9.view (Rect.unit (s := S2176x1024) (k0_off20 t k) S128x128.size (k0_off20_inb t k)).toLoadRect X9)
  have q6 := (View.readAt (Elt F) arg8.view (Rect.unit (s := S2176x1024) (k0_off21 t) S128x128.size (k0_off21_inb t)).toLoadRect X8)
  have k6 := (View.readAt (Elt F) arg9.view (Rect.unit (s := S2176x1024) (k0_off22 t k) S128x128.size (k0_off22_inb t k)).toLoadRect X9)
  have q7 := (View.readAt (Elt F) arg8.view (Rect.unit (s := S2176x1024) (k0_off23 t) S128x128.size (k0_off23_inb t)).toLoadRect X8)
  have k7 := (View.readAt (Elt F) arg9.view (Rect.unit (s := S2176x1024) (k0_off24 t k) S128x128.size (k0_off24_inb t k)).toLoadRect X9)
  have l := View.readAt (Elt F) arg13.view (Rect.unit (s := S1024x128) ![0, 0] S1024x128.size inb_S1024x128_S1024x128_0_0).toLoadRect f13
  (⟨(Rect.unit (s := S1024x128) ![0, 0] S1024x128.size inb_S1024x128_S1024x128_0_0),
      k0_pay49 (k0_pay16 w z0 z1 z2 z3 z4 z5 q6 k6 q7 k7 l)
        (k0_pay17 w z0 z1 z2 z3 z4 z5 q6 k6 q7 k7 l (View.readAt (Elt F) arg10.view (Rect.unit (s := S2176x1024) (k0_off10 t k) S128x128.size (k0_off10_inb t k)).toLoadRect X10))
        (k0_pay18 w z0 z1 z2 z3 z4 z5 q6 k6 q7 k7 l (View.readAt (Elt F) arg10.view (Rect.unit (s := S2176x1024) (k0_off12 t k) S128x128.size (k0_off12_inb t k)).toLoadRect X10))
        (k0_pay19 w z0 z1 z2 z3 z4 z5 q6 k6 q7 k7 l)
        (View.readAt (Elt F) arg10.view (Rect.unit (s := S2176x1024) (k0_off14 t k) S128x128.size (k0_off14_inb t k)).toLoadRect X10)
        (View.readAt (Elt F) arg10.view (Rect.unit (s := S2176x1024) (k0_off16 t k) S128x128.size (k0_off16_inb t k)).toLoadRect X10)
        (View.readAt (Elt F) arg10.view (Rect.unit (s := S2176x1024) (k0_off18 t k) S128x128.size (k0_off18_inb t k)).toLoadRect X10)
        (View.readAt (Elt F) arg10.view (Rect.unit (s := S2176x1024) (k0_off20 t k) S128x128.size (k0_off20_inb t k)).toLoadRect X10)
        (View.readAt (Elt F) arg10.view (Rect.unit (s := S2176x1024) (k0_off22 t k) S128x128.size (k0_off22_inb t k)).toLoadRect X10)
        (View.readAt (Elt F) arg10.view (Rect.unit (s := S2176x1024) (k0_off24 t k) S128x128.size (k0_off24_inb t k)).toLoadRect X10)
        (View.readAt (Elt F) arg12.view (Rect.unit (s := S1024x128) ![0, 0] S1024x128.size inb_S1024x128_S1024x128_0_0).toLoadRect f12)⟩,
   ⟨(Rect.unit (s := S1024x128) ![0, 0] S1024x128.size inb_S1024x128_S1024x128_0_0),
      k0_pay50 (k0_pay15 w z0 z1 z2 z3 z4 z5 q6 k6 q7 k7) l⟩)

/-- What `n` key tiles store, the last first, from the contents `G12` and `G13`. -/
def accs (w : FVec F S256x256 .bf16) (X8 : BufTy.Contents (Elt F) arg8.view.ty) (X9 : BufTy.Contents (Elt F) arg9.view.ty) (X10 : BufTy.Contents (Elt F) arg10.view.ty) (t : Fin k0_t1_loop.trips)
    (G12 : BufTy.Contents (Elt F) arg12.view.ty) (G13 : BufTy.Contents (Elt F) arg13.view.ty) : ℕ → List (View.Piece (Elt F) S1024x128 .f32) × List (View.Piece (Elt F) S1024x128 .f32)
  | 0 => ([], [])
  | n + 1 =>
    if h : n < (k0_t2_loop t).trips then
      ((accStep arg8 arg9 arg10 arg12 arg13 w X8 X9 X10 t ⟨n, h⟩ (arg12.view.writes (Elt F) G12 (accs w X8 X9 X10 t G12 G13 n).1) (arg13.view.writes (Elt F) G13 (accs w X8 X9 X10 t G12 G13 n).2)).1 :: (accs w X8 X9 X10 t G12 G13 n).1,
       (accStep arg8 arg9 arg10 arg12 arg13 w X8 X9 X10 t ⟨n, h⟩ (arg12.view.writes (Elt F) G12 (accs w X8 X9 X10 t G12 G13 n).1) (arg13.view.writes (Elt F) G13 (accs w X8 X9 X10 t G12 G13 n).2)).2 :: (accs w X8 X9 X10 t G12 G13 n).2)
    else accs w X8 X9 X10 t G12 G13 n

/-- The first accumulator after `n` key tiles. -/
abbrev acc12 (w : FVec F S256x256 .bf16) (X8 : BufTy.Contents (Elt F) arg8.view.ty) (X9 : BufTy.Contents (Elt F) arg9.view.ty) (X10 : BufTy.Contents (Elt F) arg10.view.ty) (t : Fin k0_t1_loop.trips) (G12 : BufTy.Contents (Elt F) arg12.view.ty) (G13 : BufTy.Contents (Elt F) arg13.view.ty) (n : ℕ) : BufTy.Contents (Elt F) arg12.view.ty :=
  arg12.view.writes (Elt F) G12 (accs arg8 arg9 arg10 arg12 arg13 w X8 X9 X10 t G12 G13 n).1

/-- The second accumulator after `n` key tiles. -/
abbrev acc13 (w : FVec F S256x256 .bf16) (X8 : BufTy.Contents (Elt F) arg8.view.ty) (X9 : BufTy.Contents (Elt F) arg9.view.ty) (X10 : BufTy.Contents (Elt F) arg10.view.ty) (t : Fin k0_t1_loop.trips) (G12 : BufTy.Contents (Elt F) arg12.view.ty) (G13 : BufTy.Contents (Elt F) arg13.view.ty) (n : ℕ) : BufTy.Contents (Elt F) arg13.view.ty :=
  arg13.view.writes (Elt F) G13 (accs arg8 arg9 arg10 arg12 arg13 w X8 X9 X10 t G12 G13 n).2

theorem accs_succ (w : FVec F S256x256 .bf16) (X8 : BufTy.Contents (Elt F) arg8.view.ty) (X9 : BufTy.Contents (Elt F) arg9.view.ty) (X10 : BufTy.Contents (Elt F) arg10.view.ty) (t : Fin k0_t1_loop.trips) (G12 : BufTy.Contents (Elt F) arg12.view.ty) (G13 : BufTy.Contents (Elt F) arg13.view.ty) (k : Fin (k0_t2_loop t).trips) :
    accs arg8 arg9 arg10 arg12 arg13 w X8 X9 X10 t G12 G13 (k + 1)
      = ((accStep arg8 arg9 arg10 arg12 arg13 w X8 X9 X10 t k (acc12 arg8 arg9 arg10 arg12 arg13 w X8 X9 X10 t G12 G13 k) (acc13 arg8 arg9 arg10 arg12 arg13 w X8 X9 X10 t G12 G13 k)).1 :: (accs arg8 arg9 arg10 arg12 arg13 w X8 X9 X10 t G12 G13 k).1,
         (accStep arg8 arg9 arg10 arg12 arg13 w X8 X9 X10 t k (acc12 arg8 arg9 arg10 arg12 arg13 w X8 X9 X10 t G12 G13 k) (acc13 arg8 arg9 arg10 arg12 arg13 w X8 X9 X10 t G12 G13 k)).2 :: (accs arg8 arg9 arg10 arg12 arg13 w X8 X9 X10 t G12 G13 k).2) := by
  rw [accs, dif_pos k.isLt]

/-- What the loop over the key tiles holds before trip `n`. -/
abbrev innerInv (w : FVec F S256x256 .bf16) (X8 : BufTy.Contents (Elt F) arg8.view.ty) (X9 : BufTy.Contents (Elt F) arg9.view.ty) (X10 : BufTy.Contents (Elt F) arg10.view.ty) (X12 : BufTy.Contents (Elt F) arg12.view.ty) (X13 : BufTy.Contents (Elt F) arg13.view.ty) (t : Fin k0_t1_loop.trips) (n : ℕ) : sProp 𝕄 :=
  iprop((arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (∃ f, (arg12.view.loc (c : Thread nD τ) ↦[arg12.view.set]{fullShare} f) ∗ ⌜f = arg12.view.writes (Elt F) X12 (accs arg8 arg9 arg10 arg12 arg13 w X8 X9 X10 t X12 X13 n).1⌝) ∗ (∃ f, (arg13.view.loc (c : Thread nD τ) ↦[arg13.view.set]{fullShare} f) ∗ ⌜f = arg13.view.writes (Elt F) X13 (accs arg8 arg9 arg10 arg12 arg13 w X8 X9 X10 t X12 X13 n).2⌝))

set_option maxHeartbeats 8000000 in
/-- One key tile. -/
theorem inner_run (v361 : FVec F S256x256 .bf16) (k0_t1 : Fin k0_t1_loop.trips) (arg14 : BitVec 32) (v368 : BitVec 32) (v431 : FVec F S1024x256 .f32) (v438 : FVec F S1024x128 .bf16) (v442 : FVec F S128x128 .f32) (v446 : FVec F S128x128 .f32) (v447 : FVec F S128x128 .bf16)
    (X8 : BufTy.Contents (Elt F) arg8.view.ty) (X9 : BufTy.Contents (Elt F) arg9.view.ty) (X10 : BufTy.Contents (Elt F) arg10.view.ty) (X12 : BufTy.Contents (Elt F) arg12.view.ty) (X13 : BufTy.Contents (Elt F) arg13.view.ty) (k : Fin (k0_t2_loop k0_t1).trips) (acc : Unit) :
    innerInv (F := F) c arg8 arg9 arg10 arg12 arg13 v361 X8 X9 X10 X12 X13 k0_t1 k
      ⊢ wp frame (wpE (defs₀ (F := F)) Variants.none (c : Thread nD τ) none) E (k0_t2_body (F := F) i arg1 harg1 arg2 harg2 arg3 harg3 arg4 harg4 arg5 harg5 arg6 harg6 arg7 harg7 arg8 harg8 arg9 harg9 arg10 harg10 arg11 harg11 arg12 harg12 arg13 harg13 v361 k0_t1 arg14 v368 v431 v438 v442 v446 v447 k acc)
          (fun _ => innerInv (F := F) c arg8 arg9 arg10 arg12 arg13 v361 X8 X9 X10 X12 X13 k0_t1 (k + 1)) := by
  unfold innerInv k0_t2_body
  rw [accs_succ]
  iintro ⟨H8, H9, H10, ⟨%f12, H12, %e12⟩, ⟨%f13, H13, %e13⟩⟩
  sl_exec
  sl_step
  isplitl [H8]; · iexact H8
  isplitl [H9]; · iexact H9
  isplitl [H10]; · iexact H10
  isplitl [H12]
  · iexists _
    isplitl [H12]; · iexact H12
    ipureintro; rw [e12, e13]; rfl
  iexists _
  isplitl [H13]; · iexact H13
  ipureintro; rw [e13]; rfl

set_option warn.classDefReducibility false in
/-- The loop over the key tiles, by that. -/
@[sl_loop] def loopInv_inner (v361 : FVec F S256x256 .bf16) (k0_t1 : Fin k0_t1_loop.trips) (arg14 : BitVec 32) (v368 : BitVec 32) (v431 : FVec F S1024x256 .f32) (v438 : FVec F S1024x128 .bf16) (v442 : FVec F S128x128 .f32) (v446 : FVec F S128x128 .f32) (v447 : FVec F S128x128 .bf16)
    (X8 : BufTy.Contents (Elt F) arg8.view.ty) (X9 : BufTy.Contents (Elt F) arg9.view.ty) (X10 : BufTy.Contents (Elt F) arg10.view.ty) (X12 : BufTy.Contents (Elt F) arg12.view.ty) (X13 : BufTy.Contents (Elt F) arg13.view.ty) :
    LoopInv (M := 𝕄) frame (wpE (defs₀ (F := F)) Variants.none (c : Thread nD τ) none) E
      (k0_t2_loop k0_t1).lb (k0_t2_loop k0_t1).ub (k0_t2_loop k0_t1).st (k0_t2_ok k0_t1) () (k0_t2_body (F := F) i arg1 harg1 arg2 harg2 arg3 harg3 arg4 harg4 arg5 harg5 arg6 harg6 arg7 harg7 arg8 harg8 arg9 harg9 arg10 harg10 arg11 harg11 arg12 harg12 arg13 harg13 v361 k0_t1 arg14 v368 v431 v438 v442 v446 v447) where
  inv n _ := innerInv (F := F) c arg8 arg9 arg10 arg12 arg13 v361 X8 X9 X10 X12 X13 k0_t1 n
  step k acc := inner_run c E i arg1 harg1 arg2 harg2 arg3 harg3 arg4 harg4 arg5 harg5 arg6 harg6 arg7 harg7 arg8 harg8 arg9 harg9 arg10 harg10 arg11 harg11 arg12 harg12 arg13 harg13 v361 k0_t1 arg14 v368 v431 v438 v442 v446 v447 X8 X9 X10 X12 X13 k acc

/-- What the tile on the diagonal stores into the first accumulator. -/
def diag12 (X8 : BufTy.Contents (Elt F) arg8.view.ty) (X9 : BufTy.Contents (Elt F) arg9.view.ty) (X10 : BufTy.Contents (Elt F) arg10.view.ty) (t : Fin k0_t1_loop.trips) : List (View.Piece (Elt F) S1024x128 .f32) :=
  have z0 := k0_pay33 (View.readAt (Elt F) arg8.view (Rect.unit (s := S2176x1024) (k0_off1 t) S128x128.size (k0_off1_inb t)).toLoadRect X8) (View.readAt (Elt F) arg9.view (Rect.unit (s := S2176x1024) (k0_off1 t) S128x128.size (k0_off1_inb t)).toLoadRect X9)
  have z1 := k0_pay34 (View.readAt (Elt F) arg8.view (Rect.unit (s := S2176x1024) (k0_off2 t) S128x128.size (k0_off2_inb t)).toLoadRect X8) (View.readAt (Elt F) arg9.view (Rect.unit (s := S2176x1024) (k0_off2 t) S128x128.size (k0_off2_inb t)).toLoadRect X9)
  have z2 := k0_pay35 (View.readAt (Elt F) arg8.view (Rect.unit (s := S2176x1024) (k0_off3 t) S128x128.size (k0_off3_inb t)).toLoadRect X8) (View.readAt (Elt F) arg9.view (Rect.unit (s := S2176x1024) (k0_off3 t) S128x128.size (k0_off3_inb t)).toLoadRect X9)
  have z3 := k0_pay36 (View.readAt (Elt F) arg8.view (Rect.unit (s := S2176x1024) (k0_off4 t) S128x128.size (k0_off4_inb t)).toLoadRect X8) (View.readAt (Elt F) arg9.view (Rect.unit (s := S2176x1024) (k0_off4 t) S128x128.size (k0_off4_inb t)).toLoadRect X9)
  have z4 := k0_pay37 (View.readAt (Elt F) arg8.view (Rect.unit (s := S2176x1024) (k0_off5 t) S128x128.size (k0_off5_inb t)).toLoadRect X8) (View.readAt (Elt F) arg9.view (Rect.unit (s := S2176x1024) (k0_off5 t) S128x128.size (k0_off5_inb t)).toLoadRect X9)
  have z5 := k0_pay38 (View.readAt (Elt F) arg8.view (Rect.unit (s := S2176x1024) (k0_off6 t) S128x128.size (k0_off6_inb t)).toLoadRect X8) (View.readAt (Elt F) arg9.view (Rect.unit (s := S2176x1024) (k0_off6 t) S128x128.size (k0_off6_inb t)).toLoadRect X9)
  have z6 := k0_pay39 (View.readAt (Elt F) arg8.view (Rect.unit (s := S2176x1024) (k0_off7 t) S128x128.size (k0_off7_inb t)).toLoadRect X8) (View.readAt (Elt F) arg9.view (Rect.unit (s := S2176x1024) (k0_off7 t) S128x128.size (k0_off7_inb t)).toLoadRect X9)
  have q7 := (View.readAt (Elt F) arg8.view (Rect.unit (s := S2176x1024) (k0_off8 t) S128x128.size (k0_off8_inb t)).toLoadRect X8)
  have k7 := (View.readAt (Elt F) arg9.view (Rect.unit (s := S2176x1024) (k0_off8 t) S128x128.size (k0_off8_inb t)).toLoadRect X9)
  [⟨(Rect.unit (s := S1024x128) ![0, 0] S1024x128.size inb_S1024x128_S1024x128_0_0),
    k0_pay47 (k0_pay43 k0_pay2 k0_pay3 z0 z1 z2 z3 z4 z5 z6 q7 k7)
      (k0_pay44 k0_pay2 k0_pay3 z0 z1 z2 z3 z4 z5 z6 q7 k7 (View.readAt (Elt F) arg10.view (Rect.unit (s := S2176x1024) (k0_off1 t) S128x128.size (k0_off1_inb t)).toLoadRect X10))
      (k0_pay45 k0_pay2 k0_pay3 z0 z1 z2 z3 z4 z5 z6 q7 k7 (View.readAt (Elt F) arg10.view (Rect.unit (s := S2176x1024) (k0_off2 t) S128x128.size (k0_off2_inb t)).toLoadRect X10))
      (k0_pay46 k0_pay2 k0_pay3 z0 z1 z2 z3 z4 z5 z6 q7 k7)
      (View.readAt (Elt F) arg10.view (Rect.unit (s := S2176x1024) (k0_off3 t) S128x128.size (k0_off3_inb t)).toLoadRect X10)
      (View.readAt (Elt F) arg10.view (Rect.unit (s := S2176x1024) (k0_off4 t) S128x128.size (k0_off4_inb t)).toLoadRect X10)
      (View.readAt (Elt F) arg10.view (Rect.unit (s := S2176x1024) (k0_off5 t) S128x128.size (k0_off5_inb t)).toLoadRect X10)
      (View.readAt (Elt F) arg10.view (Rect.unit (s := S2176x1024) (k0_off6 t) S128x128.size (k0_off6_inb t)).toLoadRect X10)
      (View.readAt (Elt F) arg10.view (Rect.unit (s := S2176x1024) (k0_off7 t) S128x128.size (k0_off7_inb t)).toLoadRect X10)
      (View.readAt (Elt F) arg10.view (Rect.unit (s := S2176x1024) (k0_off8 t) S128x128.size (k0_off8_inb t)).toLoadRect X10)⟩]

/-- What it stores into the second. -/
def diag13 (X8 : BufTy.Contents (Elt F) arg8.view.ty) (X9 : BufTy.Contents (Elt F) arg9.view.ty) (t : Fin k0_t1_loop.trips) : List (View.Piece (Elt F) S1024x128 .f32) :=
  have z0 := k0_pay33 (View.readAt (Elt F) arg8.view (Rect.unit (s := S2176x1024) (k0_off1 t) S128x128.size (k0_off1_inb t)).toLoadRect X8) (View.readAt (Elt F) arg9.view (Rect.unit (s := S2176x1024) (k0_off1 t) S128x128.size (k0_off1_inb t)).toLoadRect X9)
  have z1 := k0_pay34 (View.readAt (Elt F) arg8.view (Rect.unit (s := S2176x1024) (k0_off2 t) S128x128.size (k0_off2_inb t)).toLoadRect X8) (View.readAt (Elt F) arg9.view (Rect.unit (s := S2176x1024) (k0_off2 t) S128x128.size (k0_off2_inb t)).toLoadRect X9)
  have z2 := k0_pay35 (View.readAt (Elt F) arg8.view (Rect.unit (s := S2176x1024) (k0_off3 t) S128x128.size (k0_off3_inb t)).toLoadRect X8) (View.readAt (Elt F) arg9.view (Rect.unit (s := S2176x1024) (k0_off3 t) S128x128.size (k0_off3_inb t)).toLoadRect X9)
  have z3 := k0_pay36 (View.readAt (Elt F) arg8.view (Rect.unit (s := S2176x1024) (k0_off4 t) S128x128.size (k0_off4_inb t)).toLoadRect X8) (View.readAt (Elt F) arg9.view (Rect.unit (s := S2176x1024) (k0_off4 t) S128x128.size (k0_off4_inb t)).toLoadRect X9)
  have z4 := k0_pay37 (View.readAt (Elt F) arg8.view (Rect.unit (s := S2176x1024) (k0_off5 t) S128x128.size (k0_off5_inb t)).toLoadRect X8) (View.readAt (Elt F) arg9.view (Rect.unit (s := S2176x1024) (k0_off5 t) S128x128.size (k0_off5_inb t)).toLoadRect X9)
  have z5 := k0_pay38 (View.readAt (Elt F) arg8.view (Rect.unit (s := S2176x1024) (k0_off6 t) S128x128.size (k0_off6_inb t)).toLoadRect X8) (View.readAt (Elt F) arg9.view (Rect.unit (s := S2176x1024) (k0_off6 t) S128x128.size (k0_off6_inb t)).toLoadRect X9)
  have z6 := k0_pay39 (View.readAt (Elt F) arg8.view (Rect.unit (s := S2176x1024) (k0_off7 t) S128x128.size (k0_off7_inb t)).toLoadRect X8) (View.readAt (Elt F) arg9.view (Rect.unit (s := S2176x1024) (k0_off7 t) S128x128.size (k0_off7_inb t)).toLoadRect X9)
  have q7 := (View.readAt (Elt F) arg8.view (Rect.unit (s := S2176x1024) (k0_off8 t) S128x128.size (k0_off8_inb t)).toLoadRect X8)
  have k7 := (View.readAt (Elt F) arg9.view (Rect.unit (s := S2176x1024) (k0_off8 t) S128x128.size (k0_off8_inb t)).toLoadRect X9)
  [⟨(Rect.unit (s := S1024x128) ![0, 0] S1024x128.size inb_S1024x128_S1024x128_0_0), k0_pay48 (k0_pay42 k0_pay2 k0_pay3 z0 z1 z2 z3 z4 z5 z6 q7 k7)⟩]

/-- The first accumulator when the query tile `t` is done with its key tiles. -/
def fin12 (X8 : BufTy.Contents (Elt F) arg8.view.ty) (X9 : BufTy.Contents (Elt F) arg9.view.ty) (X10 : BufTy.Contents (Elt F) arg10.view.ty) (t : Fin k0_t1_loop.trips) : BufTy.Contents (Elt F) arg12.view.ty :=
  arg12.view.writes (Elt F) arg12.view.junk
    ((accs arg8 arg9 arg10 arg12 arg13 k0_pay3 X8 X9 X10 t (arg12.view.writes (Elt F) arg12.view.junk (diag12 arg8 arg9 arg10 X8 X9 X10 t))
      (arg13.view.writes (Elt F) arg13.view.junk (diag13 arg8 arg9 X8 X9 t)) (k0_t2_loop t).trips).1 ++ diag12 arg8 arg9 arg10 X8 X9 X10 t)

/-- What the query tile `t` stores into the output's rows, the last head first. -/
def tilePieces (X6 : BufTy.Contents (Elt F) arg6.view.ty) (X8 : BufTy.Contents (Elt F) arg8.view.ty) (X9 : BufTy.Contents (Elt F) arg9.view.ty) (X10 : BufTy.Contents (Elt F) arg10.view.ty) (t : Fin k0_t1_loop.trips) : List (View.Piece (Elt F) S2176x1024 .bf16) :=
  [⟨Rect.unit (s := S2176x1024) (k0_off8 t) S128x128.size (k0_off8_inb t), k0_pay5 (View.readAt (Elt F) arg12.view (Rect.unit (s := S1024x128) ![896, 0] S128x128.size inb_S1024x128_S128x128_896_0).toLoadRect (fin12 arg8 arg9 arg10 arg12 arg13 X8 X9 X10 t)) (View.readAt (Elt F) arg6.view (Rect.unit (s := S1x1024) ![0, 896] S1x128.size inb_S1x1024_S1x128_0_896).toLoadRect X6)⟩,
    ⟨Rect.unit (s := S2176x1024) (k0_off7 t) S128x128.size (k0_off7_inb t), k0_pay4 (View.readAt (Elt F) arg12.view (Rect.unit (s := S1024x128) ![768, 0] S128x128.size inb_S1024x128_S128x128_768_0).toLoadRect (fin12 arg8 arg9 arg10 arg12 arg13 X8 X9 X10 t)) (k0_pay60 (View.readAt (Elt F) arg12.view (Rect.unit (s := S1024x128) ![768, 0] S128x128.size inb_S1024x128_S128x128_768_0).toLoadRect (fin12 arg8 arg9 arg10 arg12 arg13 X8 X9 X10 t))) (View.readAt (Elt F) arg6.view (Rect.unit (s := S1x1024) ![0, 768] S1x128.size inb_S1x1024_S1x128_0_768).toLoadRect X6)⟩,
    ⟨Rect.unit (s := S2176x1024) (k0_off6 t) S128x128.size (k0_off6_inb t), k0_pay59 (View.readAt (Elt F) arg12.view (Rect.unit (s := S1024x128) ![640, 0] S128x128.size inb_S1024x128_S128x128_640_0).toLoadRect (fin12 arg8 arg9 arg10 arg12 arg13 X8 X9 X10 t)) (View.readAt (Elt F) arg6.view (Rect.unit (s := S1x1024) ![0, 640] S1x128.size inb_S1x1024_S1x128_0_640).toLoadRect X6)⟩,
    ⟨Rect.unit (s := S2176x1024) (k0_off5 t) S128x128.size (k0_off5_inb t), k0_pay58 (View.readAt (Elt F) arg12.view (Rect.unit (s := S1024x128) ![512, 0] S128x128.size inb_S1024x128_S128x128_512_0).toLoadRect (fin12 arg8 arg9 arg10 arg12 arg13 X8 X9 X10 t)) (k0_pay57 (View.readAt (Elt F) arg12.view (Rect.unit (s := S1024x128) ![512, 0] S128x128.size inb_S1024x128_S128x128_512_0).toLoadRect (fin12 arg8 arg9 arg10 arg12 arg13 X8 X9 X10 t))) (View.readAt (Elt F) arg6.view (Rect.unit (s := S1x1024) ![0, 512] S1x128.size inb_S1x1024_S1x128_0_512).toLoadRect X6)⟩,
    ⟨Rect.unit (s := S2176x1024) (k0_off4 t) S128x128.size (k0_off4_inb t), k0_pay56 (View.readAt (Elt F) arg12.view (Rect.unit (s := S1024x128) ![384, 0] S128x128.size inb_S1024x128_S128x128_384_0).toLoadRect (fin12 arg8 arg9 arg10 arg12 arg13 X8 X9 X10 t)) (View.readAt (Elt F) arg6.view (Rect.unit (s := S1x1024) ![0, 384] S1x128.size inb_S1x1024_S1x128_0_384).toLoadRect X6)⟩,
    ⟨Rect.unit (s := S2176x1024) (k0_off3 t) S128x128.size (k0_off3_inb t), k0_pay55 (View.readAt (Elt F) arg12.view (Rect.unit (s := S1024x128) ![256, 0] S128x128.size inb_S1024x128_S128x128_256_0).toLoadRect (fin12 arg8 arg9 arg10 arg12 arg13 X8 X9 X10 t)) (View.readAt (Elt F) arg6.view (Rect.unit (s := S1x1024) ![0, 256] S1x128.size inb_S1x1024_S1x128_0_256).toLoadRect X6)⟩,
    ⟨Rect.unit (s := S2176x1024) (k0_off2 t) S128x128.size (k0_off2_inb t), k0_pay54 (View.readAt (Elt F) arg12.view (Rect.unit (s := S1024x128) ![128, 0] S128x128.size inb_S1024x128_S128x128_128_0).toLoadRect (fin12 arg8 arg9 arg10 arg12 arg13 X8 X9 X10 t)) (View.readAt (Elt F) arg6.view (Rect.unit (s := S1x1024) ![0, 128] S1x128.size inb_S1x1024_S1x128_0_128).toLoadRect X6)⟩,
    ⟨Rect.unit (s := S2176x1024) (k0_off1 t) S128x128.size (k0_off1_inb t), k0_pay53 (View.readAt (Elt F) arg12.view (Rect.unit (s := S1024x128) ![0, 0] S128x128.size inb_S1024x128_S128x128_0_0).toLoadRect (fin12 arg8 arg9 arg10 arg12 arg13 X8 X9 X10 t)) (View.readAt (Elt F) arg6.view (Rect.unit (s := S1x1024) ![0, 0] S1x128.size inb_S1x1024_S1x128_0_0).toLoadRect X6)⟩]

/-- What the first `n` query tiles store. -/
def outs (X6 : BufTy.Contents (Elt F) arg6.view.ty) (X8 : BufTy.Contents (Elt F) arg8.view.ty) (X9 : BufTy.Contents (Elt F) arg9.view.ty) (X10 : BufTy.Contents (Elt F) arg10.view.ty) : ℕ → List (View.Piece (Elt F) S2176x1024 .bf16)
  | 0 => []
  | n + 1 => if h : n < k0_t1_loop.trips then tilePieces arg6 arg8 arg9 arg10 arg12 arg13 X6 X8 X9 X10 ⟨n, h⟩ ++ outs X6 X8 X9 X10 n
      else outs X6 X8 X9 X10 n

theorem outs_succ (X6 : BufTy.Contents (Elt F) arg6.view.ty) (X8 : BufTy.Contents (Elt F) arg8.view.ty) (X9 : BufTy.Contents (Elt F) arg9.view.ty) (X10 : BufTy.Contents (Elt F) arg10.view.ty) (t : Fin k0_t1_loop.trips) :
    outs arg6 arg8 arg9 arg10 arg12 arg13 X6 X8 X9 X10 (t + 1)
      = tilePieces arg6 arg8 arg9 arg10 arg12 arg13 X6 X8 X9 X10 t ++ outs arg6 arg8 arg9 arg10 arg12 arg13 X6 X8 X9 X10 t := by
  rw [outs, dif_pos t.isLt]

/-- What the loop over the query tiles holds before tile `n`. -/
abbrev outerInv (X6 : BufTy.Contents (Elt F) arg6.view.ty) (X8 : BufTy.Contents (Elt F) arg8.view.ty) (X9 : BufTy.Contents (Elt F) arg9.view.ty) (X10 : BufTy.Contents (Elt F) arg10.view.ty) (X11 : BufTy.Contents (Elt F) arg11.view.ty) (n : ℕ) : sProp 𝕄 :=
  iprop((arg6.view.loc (c : Thread nD τ) ↦[arg6.view.set]{fullShare} X6) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (∃ f, (arg11.view.loc (c : Thread nD τ) ↦[arg11.view.set]{fullShare} f) ∗ ⌜f = arg11.view.writes (Elt F) X11 (outs arg6 arg8 arg9 arg10 arg12 arg13 X6 X8 X9 X10 n)⌝) ∗ (∃ f, (arg12.view.loc (c : Thread nD τ) ↦[arg12.view.set]{fullShare} f)) ∗ (∃ f, (arg13.view.loc (c : Thread nD τ) ↦[arg13.view.set]{fullShare} f)))

/-- No key tile is left over for the second loop. -/
theorem trips3 (t : Fin k0_t1_loop.trips) : (k0_t3_loop t).trips = 0 := by revert t; decide +kernel

set_option maxHeartbeats 8000000 in
/-- One query tile. -/
theorem tile_run (X6 : BufTy.Contents (Elt F) arg6.view.ty) (X8 : BufTy.Contents (Elt F) arg8.view.ty) (X9 : BufTy.Contents (Elt F) arg9.view.ty) (X10 : BufTy.Contents (Elt F) arg10.view.ty) (X11 : BufTy.Contents (Elt F) arg11.view.ty) (k : Fin k0_t1_loop.trips) (acc : Unit) :
    outerInv (F := F) c arg6 arg8 arg9 arg10 arg11 arg12 arg13 X6 X8 X9 X10 X11 k
      ⊢ wp frame (wpE (defs₀ (F := F)) Variants.none (c : Thread nD τ) none) E
          (k0_t1_body (F := F) i arg1 harg1 arg2 harg2 arg3 harg3 arg4 harg4 arg5 harg5 arg6 harg6 arg7 harg7 arg8 harg8 arg9 harg9 arg10 harg10 arg11 harg11 arg12 harg12 arg13 harg13 k acc)
          (fun _ => outerInv (F := F) c arg6 arg8 arg9 arg10 arg11 arg12 arg13 X6 X8 X9 X10 X11 (k + 1)) := by
  have htr := trips3 k
  unfold outerInv k0_t1_body
  rw [outs_succ]
  iintro ⟨H6, H8, H9, H10, ⟨%f11, H11, %e11⟩, ⟨%f12, H12⟩, ⟨%f13, H13⟩⟩
  sl_exec
  sl_step
  isplitl [H6]; · iexact H6
  isplitl [H8]; · iexact H8
  isplitl [H9]; · iexact H9
  isplitl [H10]; · iexact H10
  isplitl [H11]
  · iexists _
    isplitl [H11]; · iexact H11
    ipureintro
    rw [View.writes_append, e11]
    rfl
  isplitl [H12]; · iexists _; iexact H12
  iexists _; iexact H13

set_option warn.classDefReducibility false in
/-- The loop over the query tiles, by that. -/
@[sl_loop] def loopInv_outer (X6 : BufTy.Contents (Elt F) arg6.view.ty) (X8 : BufTy.Contents (Elt F) arg8.view.ty) (X9 : BufTy.Contents (Elt F) arg9.view.ty) (X10 : BufTy.Contents (Elt F) arg10.view.ty) (X11 : BufTy.Contents (Elt F) arg11.view.ty) :
    LoopInv (M := 𝕄) frame (wpE (defs₀ (F := F)) Variants.none (c : Thread nD τ) none) E
      k0_t1_loop.lb k0_t1_loop.ub k0_t1_loop.st k0_t1_ok () (k0_t1_body (F := F) i arg1 harg1 arg2 harg2 arg3 harg3 arg4 harg4 arg5 harg5 arg6 harg6 arg7 harg7 arg8 harg8 arg9 harg9 arg10 harg10 arg11 harg11 arg12 harg12 arg13 harg13) where
  inv n _ := outerInv (F := F) c arg6 arg8 arg9 arg10 arg11 arg12 arg13 X6 X8 X9 X10 X11 n
  step k acc := tile_run c E i arg1 harg1 arg2 harg2 arg3 harg3 arg4 harg4 arg5 harg5 arg6 harg6 arg7 harg7 arg8 harg8 arg9 harg9 arg10 harg10 arg11 harg11 arg12 harg12 arg13 harg13 X6 X8 X9 X10 X11 k acc

/-- What is stored of the queries: their eight heads normalised, zeros after the last token. -/
def setQ (f1 : BufTy.Contents (Elt F) arg1.view.ty) (f4 : BufTy.Contents (Elt F) arg4.view.ty) : List (View.Piece (Elt F) S2176x1024 .bf16) :=
  [⟨Rect.unit (s := S2176x1024) ![2064, 0] S112x1024.size inb_S2176x1024_S112x1024_2064_0, k0_pay93⟩,
    ⟨Rect.unit (s := S2176x1024) ![0, 896] S2064x128.size inb_S2176x1024_S2064x128_0_896, k0_pay89 (View.readAt (Elt F) arg1.view (Rect.unit (s := S1x2064x1024) ![0, 0, 896] S1x2064x128.size inb_S1x2064x1024_S1x2064x128_0_0_896).toLoadRect f1) (View.readAt (Elt F) arg4.view (Rect.unit (s := S1x128) ![0, 0] S1x128.size inb_S1x128_S1x128_0_0).toLoadRect f4)⟩,
    ⟨Rect.unit (s := S2176x1024) ![0, 768] S2064x128.size inb_S2176x1024_S2064x128_0_768, k0_pay87 (View.readAt (Elt F) arg1.view (Rect.unit (s := S1x2064x1024) ![0, 0, 768] S1x2064x128.size inb_S1x2064x1024_S1x2064x128_0_0_768).toLoadRect f1) (View.readAt (Elt F) arg4.view (Rect.unit (s := S1x128) ![0, 0] S1x128.size inb_S1x128_S1x128_0_0).toLoadRect f4)⟩,
    ⟨Rect.unit (s := S2176x1024) ![0, 640] S2064x128.size inb_S2176x1024_S2064x128_0_640, k0_pay84 (View.readAt (Elt F) arg1.view (Rect.unit (s := S1x2064x1024) ![0, 0, 640] S1x2064x128.size inb_S1x2064x1024_S1x2064x128_0_0_640).toLoadRect f1) (View.readAt (Elt F) arg4.view (Rect.unit (s := S1x128) ![0, 0] S1x128.size inb_S1x128_S1x128_0_0).toLoadRect f4)⟩,
    ⟨Rect.unit (s := S2176x1024) ![0, 512] S2064x128.size inb_S2176x1024_S2064x128_0_512, k0_pay79 (View.readAt (Elt F) arg1.view (Rect.unit (s := S1x2064x1024) ![0, 0, 512] S1x2064x128.size inb_S1x2064x1024_S1x2064x128_0_0_512).toLoadRect f1) (View.readAt (Elt F) arg4.view (Rect.unit (s := S1x128) ![0, 0] S1x128.size inb_S1x128_S1x128_0_0).toLoadRect f4)⟩,
    ⟨Rect.unit (s := S2176x1024) ![0, 384] S2064x128.size inb_S2176x1024_S2064x128_0_384, k0_pay74 (View.readAt (Elt F) arg1.view (Rect.unit (s := S1x2064x1024) ![0, 0, 384] S1x2064x128.size inb_S1x2064x1024_S1x2064x128_0_0_384).toLoadRect f1) (View.readAt (Elt F) arg4.view (Rect.unit (s := S1x128) ![0, 0] S1x128.size inb_S1x128_S1x128_0_0).toLoadRect f4)⟩,
    ⟨Rect.unit (s := S2176x1024) ![0, 256] S2064x128.size inb_S2176x1024_S2064x128_0_256, k0_pay68 (View.readAt (Elt F) arg1.view (Rect.unit (s := S1x2064x1024) ![0, 0, 256] S1x2064x128.size inb_S1x2064x1024_S1x2064x128_0_0_256).toLoadRect f1) (View.readAt (Elt F) arg4.view (Rect.unit (s := S1x128) ![0, 0] S1x128.size inb_S1x128_S1x128_0_0).toLoadRect f4)⟩,
    ⟨Rect.unit (s := S2176x1024) ![0, 128] S2064x128.size inb_S2176x1024_S2064x128_0_128, k0_pay64 (View.readAt (Elt F) arg1.view (Rect.unit (s := S1x2064x1024) ![0, 0, 128] S1x2064x128.size inb_S1x2064x1024_S1x2064x128_0_0_128).toLoadRect f1) (View.readAt (Elt F) arg4.view (Rect.unit (s := S1x128) ![0, 0] S1x128.size inb_S1x128_S1x128_0_0).toLoadRect f4)⟩,
    ⟨Rect.unit (s := S2176x1024) ![0, 0] S2064x128.size inb_S2176x1024_S2064x128_0_0, k0_pay61 (View.readAt (Elt F) arg1.view (Rect.unit (s := S1x2064x1024) ![0, 0, 0] S1x2064x128.size inb_S1x2064x1024_S1x2064x128_0_0_0).toLoadRect f1) (View.readAt (Elt F) arg4.view (Rect.unit (s := S1x128) ![0, 0] S1x128.size inb_S1x128_S1x128_0_0).toLoadRect f4)⟩]

/-- What is stored of the keys. -/
def setK (f2 : BufTy.Contents (Elt F) arg2.view.ty) (f5 : BufTy.Contents (Elt F) arg5.view.ty) : List (View.Piece (Elt F) S2176x1024 .bf16) :=
  [⟨Rect.unit (s := S2176x1024) ![2064, 0] S112x1024.size inb_S2176x1024_S112x1024_2064_0, k0_pay94⟩,
    ⟨Rect.unit (s := S2176x1024) ![0, 896] S2064x128.size inb_S2176x1024_S2064x128_0_896, k0_pay90 (View.readAt (Elt F) arg2.view (Rect.unit (s := S1x2064x1024) ![0, 0, 896] S1x2064x128.size inb_S1x2064x1024_S1x2064x128_0_0_896).toLoadRect f2) (View.readAt (Elt F) arg5.view (Rect.unit (s := S1x128) ![0, 0] S1x128.size inb_S1x128_S1x128_0_0).toLoadRect f5)⟩,
    ⟨Rect.unit (s := S2176x1024) ![0, 768] S2064x128.size inb_S2176x1024_S2064x128_0_768, k0_pay88 (View.readAt (Elt F) arg2.view (Rect.unit (s := S1x2064x1024) ![0, 0, 768] S1x2064x128.size inb_S1x2064x1024_S1x2064x128_0_0_768).toLoadRect f2) (View.readAt (Elt F) arg5.view (Rect.unit (s := S1x128) ![0, 0] S1x128.size inb_S1x128_S1x128_0_0).toLoadRect f5)⟩,
    ⟨Rect.unit (s := S2176x1024) ![0, 640] S2064x128.size inb_S2176x1024_S2064x128_0_640, k0_pay86 (k0_pay85 (View.readAt (Elt F) arg2.view (Rect.unit (s := S1x2064x1024) ![0, 0, 640] S1x2064x128.size inb_S1x2064x1024_S1x2064x128_0_0_640).toLoadRect f2)) (View.readAt (Elt F) arg5.view (Rect.unit (s := S1x128) ![0, 0] S1x128.size inb_S1x128_S1x128_0_0).toLoadRect f5)⟩,
    ⟨Rect.unit (s := S2176x1024) ![0, 512] S2064x128.size inb_S2176x1024_S2064x128_0_512, k0_pay83 (k0_pay80 (View.readAt (Elt F) arg5.view (Rect.unit (s := S1x128) ![0, 0] S1x128.size inb_S1x128_S1x128_0_0).toLoadRect f5)) (k0_pay81 (View.readAt (Elt F) arg2.view (Rect.unit (s := S1x2064x1024) ![0, 0, 512] S1x2064x128.size inb_S1x2064x1024_S1x2064x128_0_0_512).toLoadRect f2)) (k0_pay82 (View.readAt (Elt F) arg2.view (Rect.unit (s := S1x2064x1024) ![0, 0, 512] S1x2064x128.size inb_S1x2064x1024_S1x2064x128_0_0_512).toLoadRect f2))⟩,
    ⟨Rect.unit (s := S2176x1024) ![0, 384] S2064x128.size inb_S2176x1024_S2064x128_0_384, k0_pay78 (k0_pay75 (View.readAt (Elt F) arg5.view (Rect.unit (s := S1x128) ![0, 0] S1x128.size inb_S1x128_S1x128_0_0).toLoadRect f5)) (k0_pay76 (View.readAt (Elt F) arg2.view (Rect.unit (s := S1x2064x1024) ![0, 0, 384] S1x2064x128.size inb_S1x2064x1024_S1x2064x128_0_0_384).toLoadRect f2)) (k0_pay77 (View.readAt (Elt F) arg2.view (Rect.unit (s := S1x2064x1024) ![0, 0, 384] S1x2064x128.size inb_S1x2064x1024_S1x2064x128_0_0_384).toLoadRect f2)) (Scalar.ofBits .f32 0x43000000#32)⟩,
    ⟨Rect.unit (s := S2176x1024) ![0, 256] S2064x128.size inb_S2176x1024_S2064x128_0_256, k0_pay73 (k0_pay69 (View.readAt (Elt F) arg5.view (Rect.unit (s := S1x128) ![0, 0] S1x128.size inb_S1x128_S1x128_0_0).toLoadRect f5)) (k0_pay70 (View.readAt (Elt F) arg2.view (Rect.unit (s := S1x2064x1024) ![0, 0, 256] S1x2064x128.size inb_S1x2064x1024_S1x2064x128_0_0_256).toLoadRect f2)) (k0_pay71 (View.readAt (Elt F) arg2.view (Rect.unit (s := S1x2064x1024) ![0, 0, 256] S1x2064x128.size inb_S1x2064x1024_S1x2064x128_0_0_256).toLoadRect f2)) k0_pay72⟩,
    ⟨Rect.unit (s := S2176x1024) ![0, 128] S2064x128.size inb_S2176x1024_S2064x128_0_128, k0_pay67 (k0_pay65 (View.readAt (Elt F) arg5.view (Rect.unit (s := S1x128) ![0, 0] S1x128.size inb_S1x128_S1x128_0_0).toLoadRect f5)) (k0_pay66 (View.readAt (Elt F) arg2.view (Rect.unit (s := S1x2064x1024) ![0, 0, 128] S1x2064x128.size inb_S1x2064x1024_S1x2064x128_0_0_128).toLoadRect f2))⟩,
    ⟨Rect.unit (s := S2176x1024) ![0, 0] S2064x128.size inb_S2176x1024_S2064x128_0_0, k0_pay63 (k0_pay62 (View.readAt (Elt F) arg2.view (Rect.unit (s := S1x2064x1024) ![0, 0, 0] S1x2064x128.size inb_S1x2064x1024_S1x2064x128_0_0_0).toLoadRect f2) (View.readAt (Elt F) arg5.view (Rect.unit (s := S1x128) ![0, 0] S1x128.size inb_S1x128_S1x128_0_0).toLoadRect f5))⟩]

/-- What is stored of the values: the values themselves, zeros after the last token. -/
def setV (f3 : BufTy.Contents (Elt F) arg3.view.ty) : List (View.Piece (Elt F) S2176x1024 .bf16) :=
  [⟨Rect.unit (s := S2176x1024) ![2064, 0] S112x1024.size inb_S2176x1024_S112x1024_2064_0, k0_pay1 k0_pay92⟩,
    ⟨Rect.unit (s := S2176x1024) ![0, 0] S2064x1024.size inb_S2176x1024_S2064x1024_0_0,
      k0_pay91 (View.readAt (Elt F) arg3.view (Rect.unit (s := S1x2064x1024) ![0, 0, 0] S1x2064x1024.size inb_S1x2064x1024_S1x2064x1024_0_0_0).toLoadRect f3)⟩]

/-- The stored queries. -/
def stQ (f1 : BufTy.Contents (Elt F) arg1.view.ty) (f4 : BufTy.Contents (Elt F) arg4.view.ty) : BufTy.Contents (Elt F) arg8.view.ty := arg8.view.writes (Elt F) arg8.view.junk (setQ arg1 arg4 f1 f4)

/-- The stored keys. -/
def stK (f2 : BufTy.Contents (Elt F) arg2.view.ty) (f5 : BufTy.Contents (Elt F) arg5.view.ty) : BufTy.Contents (Elt F) arg9.view.ty := arg9.view.writes (Elt F) arg9.view.junk (setK arg2 arg5 f2 f5)

/-- The stored values. -/
def stV (f3 : BufTy.Contents (Elt F) arg3.view.ty) : BufTy.Contents (Elt F) arg10.view.ty := arg10.view.writes (Elt F) arg10.view.junk (setV arg3 f3)

/-- The output's rows when the last query tile is done. -/
def rowsOut (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) : List (View.Piece (Elt F) S2176x1024 .bf16) :=
    (outs arg6 arg8 arg9 arg10 arg12 arg13 f6 (stQ arg1 arg4 arg8 f1 f4) (stK arg2 arg5 arg9 f2 f5) (stV arg3 arg10 f3) k0_t1_loop.trips)

/-- What the body stores into its output block. -/
def outPiece (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) : View.Piece (Elt F) S1x2064x1024 .bf16 :=
  ⟨Rect.unit (s := S1x2064x1024) ![0, 0, 0] S1x2064x1024.size inb_S1x2064x1024_S1x2064x1024_0_0_0,
    k0_pay6 (arg11.view.readCov (rowsOut arg1 arg2 arg3 arg4 arg5 arg6 arg8 arg9 arg10 arg12 arg13 f1 f2 f3 f4 f5 f6) (Rect.unit (s := S2176x1024) ![0, 0] S2064x1024.size inb_S2176x1024_S2064x1024_0_0).toLoadRect)⟩

set_option maxHeartbeats 8000000 in
/-- The body. -/
theorem body_run (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) :
    (iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13)) : sProp 𝕄)
      ⊢ wp frame (wpE (defs₀ (F := F)) Variants.none (c : Thread nD τ) none) E
          (cc0_attn_group (F := F) i arg1 harg1 arg2 harg2 arg3 harg3 arg4 harg4 arg5 harg5 arg6 harg6 arg7 harg7 arg8 harg8 arg9 harg9 arg10 harg10 arg11 harg11 arg12 harg12 arg13 harg13)
          (fun _ => iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} (arg7.view.writes (Elt F) f7 [outPiece arg1 arg2 arg3 arg4 arg5 arg6 arg8 arg9 arg10 arg11 arg12 arg13 f1 f2 f3 f4 f5 f6])) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)))) := by
  simp only [cc0_attn_group_eq_skeleton]; unfold cc0_attn_group_skel
  iintro ⟨H1, H2, H3, H4, H5, H6, H7, H8, H9, H10, H11, H12, H13⟩
  sl_exec
  sl_step
  have e : k0_pay6 (body_run.sl.v363 arg1 arg2 arg3 arg4 arg5 arg6 arg8 arg9 arg10 arg11 arg12 arg13 f1 f2 f3 f4 f5 f6) =
      k0_pay6 (arg11.view.readCov (rowsOut arg1 arg2 arg3 arg4 arg5 arg6 arg8 arg9 arg10 arg12 arg13 f1 f2 f3 f4 f5 f6) (Rect.unit (s := S2176x1024) ![0, 0] S2064x1024.size inb_S2176x1024_S2064x1024_0_0).toLoadRect) := by
    have eQ : body_run.sl.H8_9 arg1 arg4 f1 f4 = setQ arg1 arg4 f1 f4 := by
      unfold body_run.sl.H8_9 setQ
      rfl
    have eK : body_run.sl.H9_9 arg2 arg5 f2 f5 = setK arg2 arg5 f2 f5 := by
      unfold body_run.sl.H9_9 setK
      rfl
    have eV : body_run.sl.H10_2 arg3 f3 = setV arg3 f3 := by
      unfold body_run.sl.H10_2 setV
      rfl
    unfold body_run.sl.v363 rowsOut stQ stK stV
    rw [eQ, eK, eV]
  unfold outPiece
  rw [← e]
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [H12]; · iexists _; iexact H12
  iexists _; iexact H13

end Body

end Cert.AttnIdeal.Run
-- ==== Proof.AttnTile.lean ====
module

public import proofs.«01_k».proof.Proof.Norm
public import proofs.«01_k».proof.Proof.Gen.AttnIdeal.Skeleton
public import Idealize.ShloMosaic.Lib.Pipeline.Value

@[expose] public section

set_option maxRecDepth 16384

noncomputable section

namespace Cert.AttnIdeal.Tile

open Cert.AttnIdeal.Gen
open Idealize.ShloMosaic Idealize.ShloMosaic.TcCoe

/-- Row `r` of head `h` where eight heads' tiles are stacked. -/
def hrow (h : Fin 8) (r : Fin 128) : Fin 1024 := ⟨128 * h + r, by omega⟩

/-- A stack of eight tiles read at row `r` of tile `h`. -/
theorem stack_at {α : Type} (f : Fin 8 → S128x128.Idx → α) (hc) (h : Fin 8) (r c : Fin 128) :
    concatenate S1024x128 0 [⟨S128x128, f 0⟩, ⟨S128x128, f 1⟩, ⟨S128x128, f 2⟩, ⟨S128x128, f 3⟩, ⟨S128x128, f 4⟩, ⟨S128x128, f 5⟩,
      ⟨S128x128, f 6⟩, ⟨S128x128, f 7⟩] hc (ix2 (hrow h r) c) = f h (ix2 r c) :=
  concatenate_ofFn_apply (t := S1024x128) (s₁ := S128x128) 0 f hc rfl 128 rfl _ h
    (by show (128 * (h : Nat) + r) / 128 = h; omega) (ix2 r c) (by show (r : Nat) = (128 * (h : Nat) + r) % 128; omega)
    (fun b hb => by
      match b with
      | ⟨0, _⟩ => exact absurd rfl hb
      | ⟨1, _⟩ => rfl)

/-- The attention's scale, 1/√128 rounded. -/
abbrev scale : EReal := Ideal.ofBits .f32 0x3DB504F3#32

theorem dot_at (q k : Vec Ideal S128x128 .bf16) (r c : Fin 128) :
    k0_pay7 (F := Ideal) q k (ix2 r c) = ∑ d : Fin 128, q (ix2 r d) * k (ix2 c d) := by
  pointwise [k0_pay7]

theorem slt_at (a b : Fin 128) : IntOp.cmpi .slt (BitVec.ofNat 32 (a : Nat)) (BitVec.ofNat 32 (b : Nat)) = if (a : Nat) < b then 1#1 else 0#1 := by
  revert a b; decide +kernel

theorem past_at (h : Fin 8) (r c : Fin 128) : k0_pay2 (ix2 (hrow h r) c) = if (c : Nat) < (r : Nat) then 1#1 else 0#1 := by
  unfold k0_pay2
  refine (stack_at (fun _ => cmpi .slt (iota .tc S128x128 32 [1] iota_S128x128_d1_w32) (iota .tc S128x128 32 [0] iota_S128x128_d0_w32)) _ h r c).trans ?_
  pointwise []
  exact slt_at c r

/-- The tiles of the eight heads stacked and scaled. -/
theorem z_at (f : Fin 8 → FVec Ideal S128x128 .f32) (q6 k6 q7 k7 : Vec Ideal S128x128 .bf16) (h6 : f 6 = k0_pay7 q6 k6) (h7 : f 7 = k0_pay7 q7 k7)
    (h : Fin 8) (r c : Fin 128) :
    k0_pay13 (F := Ideal) (f 0) (f 1) (f 2) (f 3) (f 4) (f 5) q6 k6 q7 k7 (ix2 (hrow h r) c) = f h (ix2 r c) * scale := by
  have e := stack_at f concatenates_S128x128_S128x128_S128x128_S128x128_S128x128_S128x128_S128x128_S128x128_S1024x128_d0 h r c
  rw [← e, h6, h7]
  rfl

theorem zd_at (f : Fin 8 → FVec Ideal S128x128 .f32) (q7 k7 : Vec Ideal S128x128 .bf16) (h7 : f 7 = k0_pay7 q7 k7)
    (h : Fin 8) (r c : Fin 128) :
    k0_pay40 (F := Ideal) (f 0) (f 1) (f 2) (f 3) (f 4) (f 5) (f 6) q7 k7 (ix2 (hrow h r) c) = f h (ix2 r c) * scale := by
  have e := stack_at f concatenates_S128x128_S128x128_S128x128_S128x128_S128x128_S128x128_S128x128_S128x128_S1024x128_d0 h r c
  rw [← e, h7]
  rfl

/-- The lower or the upper half of 256. -/
def lowH (x : Fin 128) : Fin 256 := ⟨x, by omega⟩
def upH (x : Fin 128) : Fin 256 := ⟨128 + x, by omega⟩

theorem sgt_at (a b : Fin 128) : (BitVec.setWidth 32 (IntOp.cmpi .sgt (BitVec.ofNat 32 (a : Nat)) (BitVec.ofNat 32 (b : Nat)))).toInt = if (b : Nat) < a then 1 else 0 := by
  revert a b; decide +kernel

/-- The matrix that adds up what is later: an entry is one where its row is below its column, and everywhere in the right half. -/
theorem cum_low (a : Fin 256) (b : Fin 128) : k0_pay3 (F := Ideal) (ix2 a (lowH b)) = if (b : Nat) < (a : Nat) % 128 then 1 else 0 := by
  unfold k0_pay3
  pointwise []
  have hb : ((lowH b : Fin 256) : Nat) < 128 := b.isLt
  rw [dif_pos hb, dif_pos hb]
  have key : ∀ x : Fin 128, (FloatOps.sitofp (F := Ideal) FTy.f32 (BitVec.setWidth 32 (IntOp.cmpi .sgt (BitVec.ofNat 32 (x : Nat)) (BitVec.ofNat 32 (b : Nat)))) : EReal)
      = if (b : Nat) < x then 1 else 0 := fun x => by
    show (((BitVec.setWidth 32 (IntOp.cmpi .sgt (BitVec.ofNat 32 (x : Nat)) (BitVec.ofNat 32 (b : Nat)))).toInt : ℝ) : EReal) = _
    rw [sgt_at]
    split <;> simp
  by_cases ha : (a : Nat) < 128
  · rw [dif_pos ha, Nat.mod_eq_of_lt ha]
    exact key ⟨a, ha⟩
  · rw [dif_neg ha]
    have e : (a : Nat) % 128 = a - 128 := by omega
    rw [e]
    exact key ⟨(a : Nat) - 128, by omega⟩

theorem cum_up (a : Fin 256) (b : Fin 128) : k0_pay3 (F := Ideal) (ix2 a (upH b)) = 1 := by
  unfold k0_pay3
  pointwise []
  have hb : ¬ ((upH b : Fin 256) : Nat) < 128 := by show ¬ 128 + (b : Nat) < 128; omega
  rw [dif_neg hb, dif_neg hb]
  split <;> rfl

theorem coe_max' (x y : ℝ) : ((max x y : ℝ) : EReal) = max (x : EReal) (y : EReal) := EReal.coe_strictMono.monotone.map_max

/-- A sum of numbers is a number. -/
theorem coe_sum' {ι : Type} (s : Finset ι) (f : ι → ℝ) : ((∑ x ∈ s, f x : ℝ) : EReal) = ∑ x ∈ s, (f x : EReal) :=
  map_sum (AddMonoidHom.mk ⟨Real.toEReal, EReal.coe_zero⟩ EReal.coe_add) f s

/-- The softplus as the kernel computes it. -/
def sp (z : EReal) : EReal := max z 0 + Ideal.log (1 + Ideal.exp (0 - FloatOps.absf (F := Ideal) (φ := .f32) z))

/-- The softplus. -/
def spR (z : ℝ) : ℝ := max z 0 + Real.log (1 + Real.exp (-|z|))

theorem sp_coe (z : ℝ) : sp (z : EReal) = (spR z : EReal) := by
  have ha : FloatOps.absf (F := Ideal) (φ := .f32) (z : EReal) = ((|z| : ℝ) : EReal) := by
    show max (z : EReal) (-(z : EReal)) = _
    rw [abs, ← EReal.coe_neg]; exact (coe_max' _ _).symm
  have h1 : (0 : EReal) - ((|z| : ℝ) : EReal) = ((-|z| : ℝ) : EReal) := by
    rw [zero_sub, EReal.coe_neg]
  have h2 : Ideal.exp ((-|z| : ℝ) : EReal) = ((Real.exp (-|z|) : ℝ) : EReal) := rfl
  have h3 : (1 : EReal) + ((Real.exp (-|z|) : ℝ) : EReal) = ((1 + Real.exp (-|z|) : ℝ) : EReal) := by
    rw [EReal.coe_add]; rfl
  have hp : ¬ (1 + Real.exp (-|z|)) ≤ 0 := by have := Real.exp_pos (-|z|); linarith
  have h4 : Ideal.log ((1 + Real.exp (-|z|) : ℝ) : EReal) = ((Real.log (1 + Real.exp (-|z|)) : ℝ) : EReal) := by
    show (if _ then _ else _) = _
    exact if_neg hp
  unfold sp spR
  rw [ha, h1, h2, h3, h4, EReal.coe_add, coe_max']
  rfl

/-- A sum of numbers, added up over what is later. -/
theorem later_sum (g : Fin 128 → ℝ) (j : Fin 128) :
    (∑ x : Fin 128, (g x : EReal) * k0_pay3 (F := Ideal) (ix2 ⟨x, by omega⟩ (lowH j))
      + ∑ x : Fin 128, ((g x : EReal) - (g x : EReal)) * k0_pay3 (F := Ideal) (ix2 ⟨128 + x, by omega⟩ (lowH j)))
      = ((∑ x : Fin 128, if (j : Nat) < x then g x else 0 : ℝ) : EReal) := by
  have h0 : (∑ x : Fin 128, ((g x : EReal) - (g x : EReal)) * k0_pay3 (F := Ideal) (ix2 ⟨128 + x, by omega⟩ (lowH j))) = 0 :=
    Finset.sum_eq_zero fun x _ => by rw [← EReal.coe_sub, sub_self]; simp
  rw [h0, add_zero, coe_sum']
  refine Finset.sum_congr rfl fun x _ => ?_
  rw [cum_low, Nat.mod_eq_of_lt x.isLt]
  split <;> simp

theorem total_sum (g : Fin 128 → ℝ) (j : Fin 128) :
    (∑ x : Fin 128, (g x : EReal) * k0_pay3 (F := Ideal) (ix2 ⟨x, by omega⟩ (upH j))
      + ∑ x : Fin 128, ((g x : EReal) - (g x : EReal)) * k0_pay3 (F := Ideal) (ix2 ⟨128 + x, by omega⟩ (upH j)))
      = ((∑ x : Fin 128, g x : ℝ) : EReal) := by
  have h0 : (∑ x : Fin 128, ((g x : EReal) - (g x : EReal)) * k0_pay3 (F := Ideal) (ix2 ⟨128 + x, by omega⟩ (upH j))) = 0 :=
    Finset.sum_eq_zero fun x _ => by rw [← EReal.coe_sub, sub_self]; simp
  rw [h0, add_zero, coe_sum']
  refine Finset.sum_congr rfl fun x _ => ?_
  rw [cum_up, mul_one]

section Tile

variable (z0 z1 z2 z3 z4 z5 z6 : FVec Ideal S128x128 .f32) (q6 k6 q7 k7 : Vec Ideal S128x128 .bf16)

theorem sp_at (i : Fin 1024) (j : Fin 128) (z : ℝ) (hz : k0_pay13 (F := Ideal) z0 z1 z2 z3 z4 z5 q6 k6 q7 k7 (ix2 i j) = (z : EReal)) :
    k0_pay14 (F := Ideal) z0 z1 z2 z3 z4 z5 q6 k6 q7 k7 (ix2 i j) = (spR z : EReal) := by
  rw [← sp_coe, ← hz]
  unfold sp
  pointwise [k0_pay14]

theorem spd_at (i : Fin 1024) (j : Fin 128) (z : ℝ) (hz : k0_pay40 (F := Ideal) z0 z1 z2 z3 z4 z5 z6 q7 k7 (ix2 i j) = (z : EReal)) :
    k0_pay41 (F := Ideal) z0 z1 z2 z3 z4 z5 z6 q7 k7 (ix2 i j) = (spR z : EReal) := by
  rw [← sp_coe, ← hz]
  unfold sp
  pointwise [k0_pay41]

variable (i : Fin 1024) (Z : Fin 128 → ℝ)

/-- What a key tile off the diagonal adds up of the keys after `j`. -/
theorem later_at (hz : ∀ x, k0_pay13 (F := Ideal) z0 z1 z2 z3 z4 z5 q6 k6 q7 k7 (ix2 i x) = (Z x : EReal)) (j : Fin 128) :
    k0_pay15 (F := Ideal) k0_pay3 z0 z1 z2 z3 z4 z5 q6 k6 q7 k7 (ix2 i (lowH j)) = ((∑ x : Fin 128, if (j : Nat) < x then -spR (Z x) else 0 : ℝ) : EReal) := by
  rw [← later_sum (fun x => -spR (Z x)) j]
  pointwise [k0_pay15]
  simp only [sp_at z0 z1 z2 z3 z4 z5 q6 k6 q7 k7 i _ _ (hz _), zero_sub, EReal.coe_neg]

theorem total_at (hz : ∀ x, k0_pay13 (F := Ideal) z0 z1 z2 z3 z4 z5 q6 k6 q7 k7 (ix2 i x) = (Z x : EReal)) (j : Fin 128) :
    k0_pay15 (F := Ideal) k0_pay3 z0 z1 z2 z3 z4 z5 q6 k6 q7 k7 (ix2 i (upH j)) = ((∑ x : Fin 128, -spR (Z x) : ℝ) : EReal) := by
  rw [← total_sum (fun x => -spR (Z x)) j]
  pointwise [k0_pay15]
  simp only [sp_at z0 z1 z2 z3 z4 z5 q6 k6 q7 k7 i _ _ (hz _), zero_sub, EReal.coe_neg]

/-- The weight of key `j` of a key tile off the diagonal. -/
theorem weight_at (hz : ∀ x, k0_pay13 (F := Ideal) z0 z1 z2 z3 z4 z5 q6 k6 q7 k7 (ix2 i x) = (Z x : EReal)) (l : Vec Ideal S1024x128 .f32) (L : ℝ)
    (j : Fin 128) (hl : l (ix2 i j) = (L : EReal)) :
    k0_pay16 (F := Ideal) k0_pay3 z0 z1 z2 z3 z4 z5 q6 k6 q7 k7 l (ix2 i j)
      = ((Real.exp (Z j - spR (Z j) + ((∑ x : Fin 128, if (j : Nat) < x then -spR (Z x) else 0) + L)) : ℝ) : EReal) := by
  have e := later_at z0 z1 z2 z3 z4 z5 q6 k6 q7 k7 i Z hz j
  have s := sp_at z0 z1 z2 z3 z4 z5 q6 k6 q7 k7 i j _ (hz j)
  unfold lowH at e
  pointwise [k0_pay16]
  rw [hz, s, e, hl, ← EReal.coe_sub, ← EReal.coe_add, ← EReal.coe_add]
  rfl

/-- Those of the tile on the diagonal: only the keys before the query. -/
theorem laterd_at (h : Fin 8) (r : Fin 128) (hz : ∀ x, k0_pay40 (F := Ideal) z0 z1 z2 z3 z4 z5 z6 q7 k7 (ix2 (hrow h r) x) = (Z x : EReal)) (j : Fin 128) :
    k0_pay42 (F := Ideal) k0_pay2 k0_pay3 z0 z1 z2 z3 z4 z5 z6 q7 k7 (ix2 (hrow h r) (lowH j))
      = ((∑ x : Fin 128, if (j : Nat) < x then (if (x : Nat) < r then -spR (Z x) else 0) else 0 : ℝ) : EReal) := by
  rw [← later_sum (fun x => if (x : Nat) < r then -spR (Z x) else 0) j]
  pointwise [k0_pay42]
  simp only [spd_at z0 z1 z2 z3 z4 z5 z6 q7 k7 (hrow h r) _ _ (hz _), zero_sub, past_at]
  congr 1 <;> refine Finset.sum_congr rfl fun x _ => ?_ <;> by_cases hx : (x : Nat) < r <;> simp [hx, Scalar.select, EReal.coe_neg]

theorem totald_at (h : Fin 8) (r : Fin 128) (hz : ∀ x, k0_pay40 (F := Ideal) z0 z1 z2 z3 z4 z5 z6 q7 k7 (ix2 (hrow h r) x) = (Z x : EReal)) (j : Fin 128) :
    k0_pay42 (F := Ideal) k0_pay2 k0_pay3 z0 z1 z2 z3 z4 z5 z6 q7 k7 (ix2 (hrow h r) (upH j))
      = ((∑ x : Fin 128, (if (x : Nat) < r then -spR (Z x) else 0) : ℝ) : EReal) := by
  rw [← total_sum (fun x => if (x : Nat) < r then -spR (Z x) else 0) j]
  pointwise [k0_pay42]
  simp only [spd_at z0 z1 z2 z3 z4 z5 z6 q7 k7 (hrow h r) _ _ (hz _), zero_sub, past_at]
  congr 1 <;> refine Finset.sum_congr rfl fun x _ => ?_ <;> by_cases hx : (x : Nat) < r <;> simp [hx, Scalar.select, EReal.coe_neg]

theorem weightd_at (h : Fin 8) (r : Fin 128) (hz : ∀ x, k0_pay40 (F := Ideal) z0 z1 z2 z3 z4 z5 z6 q7 k7 (ix2 (hrow h r) x) = (Z x : EReal)) (j : Fin 128) :
    k0_pay43 (F := Ideal) k0_pay2 k0_pay3 z0 z1 z2 z3 z4 z5 z6 q7 k7 (ix2 (hrow h r) j)
      = if (j : Nat) < r then ((Real.exp (Z j - spR (Z j) + (∑ x : Fin 128, if (j : Nat) < x then (if (x : Nat) < r then -spR (Z x) else 0) else 0)) : ℝ) : EReal) else 0 := by
  have e := laterd_at z0 z1 z2 z3 z4 z5 z6 q7 k7 Z h r hz j
  have s := spd_at z0 z1 z2 z3 z4 z5 z6 q7 k7 (hrow h r) j _ (hz j)
  unfold lowH at e
  pointwise [k0_pay43]
  rw [hz, s, e, past_at, ← EReal.coe_sub, ← EReal.coe_add]
  by_cases hx : (j : Nat) < r
  · rw [if_pos hx, if_pos hx]; rfl
  · rw [if_neg hx, if_neg hx]; rfl

end Tile

section Products

/-- The tile of head `h` of the weights times the values. -/
def headProd (p : FVec Ideal S1024x128 .bf16) (v : Fin 8 → FVec Ideal S128x128 .bf16) (hs : ∀ h : Fin 8, S1024x128.Slices ![128 * (h : Nat), 0] S128x128) (h : Fin 8) : FVec Ideal S128x128 .f32 :=
  matmul dot_S128x128_S128x128_S128x128_1_0_0_1_n_n none (extractStridedSlice S128x128 ![128 * (h : Nat), 0] p (hs h)) (v h) (constant S128x128 .f32 0x00000000#32)

theorem headProd_at (p : FVec Ideal S1024x128 .bf16) (v : Fin 8 → FVec Ideal S128x128 .bf16) (hs) (h : Fin 8) (r d : Fin 128) :
    headProd p v hs h (ix2 r d) = ∑ x : Fin 128, p (ix2 (hrow h r) x) * v h (ix2 x d) := by
  pointwise [headProd]
  rfl

variable (w : FVec Ideal S256x256 .bf16) (z0 z1 z2 z3 z4 z5 z6 : FVec Ideal S128x128 .f32) (q6 k6 q7 k7 : Vec Ideal S128x128 .bf16)
  (v : Fin 8 → FVec Ideal S128x128 .bf16) (l a : Vec Ideal S1024x128 .f32)

/-- The product of the weights with the values, added to what was there. -/
theorem out_at (h : Fin 8) (r d : Fin 128) :
    k0_pay49 (F := Ideal) (k0_pay16 w z0 z1 z2 z3 z4 z5 q6 k6 q7 k7 l) (k0_pay17 w z0 z1 z2 z3 z4 z5 q6 k6 q7 k7 l (v 0)) (k0_pay18 w z0 z1 z2 z3 z4 z5 q6 k6 q7 k7 l (v 1))
        (k0_pay19 w z0 z1 z2 z3 z4 z5 q6 k6 q7 k7 l) (v 2) (v 3) (v 4) (v 5) (v 6) (v 7) a (ix2 (hrow h r) d)
      = a (ix2 (hrow h r) d) + ∑ x : Fin 128, k0_pay16 w z0 z1 z2 z3 z4 z5 q6 k6 q7 k7 l (ix2 (hrow h r) x) * v h (ix2 x d) := by
  have hs : ∀ h : Fin 8, S1024x128.Slices ![128 * (h : Nat), 0] S128x128 := by decide
  rw [← headProd_at _ v hs, ← stack_at (headProd (k0_pay16 w z0 z1 z2 z3 z4 z5 q6 k6 q7 k7 l) v hs) concatenates_S128x128_S128x128_S128x128_S128x128_S128x128_S128x128_S128x128_S128x128_S1024x128_d0]
  unfold k0_pay49 k0_pay17 k0_pay18 k0_pay19
  rw [shapeCast_self]
  rfl

theorem outd_at (h : Fin 8) (r d : Fin 128) :
    k0_pay47 (F := Ideal) (k0_pay43 k0_pay2 w z0 z1 z2 z3 z4 z5 z6 q7 k7) (k0_pay44 k0_pay2 w z0 z1 z2 z3 z4 z5 z6 q7 k7 (v 0)) (k0_pay45 k0_pay2 w z0 z1 z2 z3 z4 z5 z6 q7 k7 (v 1))
        (k0_pay46 k0_pay2 w z0 z1 z2 z3 z4 z5 z6 q7 k7) (v 2) (v 3) (v 4) (v 5) (v 6) (v 7) (ix2 (hrow h r) d)
      = ∑ x : Fin 128, k0_pay43 k0_pay2 w z0 z1 z2 z3 z4 z5 z6 q7 k7 (ix2 (hrow h r) x) * v h (ix2 x d) := by
  have hs : ∀ h : Fin 8, S1024x128.Slices ![128 * (h : Nat), 0] S128x128 := by decide
  rw [← headProd_at _ v hs, ← stack_at (headProd (k0_pay43 k0_pay2 w z0 z1 z2 z3 z4 z5 z6 q7 k7) v hs) concatenates_S128x128_S128x128_S128x128_S128x128_S128x128_S128x128_S128x128_S128x128_S1024x128_d0]
  unfold k0_pay47 k0_pay44 k0_pay45 k0_pay46
  rw [shapeCast_self]
  rfl

end Products

end Cert.AttnIdeal.Tile

end
-- ==== Proof.AttnMath.lean ====
module

public import proofs.«01_k».proof.Proof.AttnTile

@[expose] public section

noncomputable section

namespace Cert.AttnIdeal.Tile

open Idealize.ShloMosaic

/-- A sum over a tile of 128 is a sum over its keys. -/
theorem tile_sum {M : Type} [AddCommMonoid M] (f : ℕ → M) (B : ℕ) : (∑ x : Fin 128, f (B + x)) = ∑ s ∈ Finset.Ico B (B + 128), f s := by
  rw [Finset.sum_Ico_eq_sum_range, Nat.add_sub_cancel_left, Finset.sum_range]

/-- A sum over those of a tile's keys from `a` on and before `b`. -/
theorem tile_sum_part {M : Type} [AddCommMonoid M] (f : ℕ → M) (B a b : ℕ) (hb : b ≤ 128) (p : Fin 128 → Prop) [DecidablePred p]
    (hp : ∀ x : Fin 128, p x ↔ a ≤ (x : ℕ) ∧ (x : ℕ) < b) :
    (∑ x : Fin 128, if p x then f (B + x) else 0) = ∑ s ∈ Finset.Ico (B + a) (B + b), f s := by
  have e : ∀ x : Fin 128, (if p x then f (B + x) else 0) = (fun s => if B + a ≤ s ∧ s < B + b then f s else 0) (B + x) := fun x => by
    refine if_congr ((hp x).trans ?_) rfl rfl
    omega
  rw [Finset.sum_congr rfl fun x _ => e x, tile_sum (fun s => if B + a ≤ s ∧ s < B + b then f s else 0), ← Finset.sum_filter]
  refine Finset.sum_congr (Finset.ext fun s => ?_) fun _ _ => rfl
  simp only [Finset.mem_filter, Finset.mem_Ico]
  omega

/-- The logarithms of what is left of the stick, added up over the keys from `a` on and before `b`. -/
def lateS (Z : ℕ → ℝ) (a b : ℕ) : ℝ := ∑ s ∈ Finset.Ico a b, -spR (Z s)

/-- The weight of key `s` for query `q`. -/
def weightS (Z : ℕ → ℝ) (q s : ℕ) : ℝ := Real.exp (Z s - spR (Z s) + lateS Z (s + 1) q)

/-- The values of the keys from `a` on and before the query, weighted. -/
def outS (Z : ℕ → ℝ) (V : ℕ → EReal) (q a : ℕ) : EReal := ∑ s ∈ Finset.Ico a q, (weightS Z q s : EReal) * V s

theorem lateS_add (Z : ℕ → ℝ) {a b c : ℕ} (h : a ≤ b) (h' : b ≤ c) : lateS Z a b + lateS Z b c = lateS Z a c :=
  Finset.sum_Ico_consecutive _ h h'

/-- The tile on the diagonal, its keys the 128 from `B` on and the query `B + r`. -/
theorem diag_late (Z : ℕ → ℝ) (B : ℕ) (r j : Fin 128) :
    (∑ x : Fin 128, if (j : ℕ) < x then (if (x : ℕ) < r then -spR (Z (B + x)) else 0) else 0) = lateS Z (B + j + 1) (B + r) := by
  refine Eq.trans (Finset.sum_congr rfl fun x _ => ?_)
    (tile_sum_part (fun s => -spR (Z s)) B (j + 1) r r.isLt.le (fun x => (j : ℕ) < x ∧ (x : ℕ) < r) fun x => Iff.rfl)
  by_cases h1 : (j : ℕ) < x <;> by_cases h2 : (x : ℕ) < r <;> simp [h1, h2]

theorem diag_total (Z : ℕ → ℝ) (B : ℕ) (r : Fin 128) :
    (∑ x : Fin 128, if (x : ℕ) < r then -spR (Z (B + x)) else 0) = lateS Z B (B + r) := by
  rw [tile_sum_part (fun s => -spR (Z s)) B 0 r r.isLt.le (fun x => (x : ℕ) < r) fun x => ⟨fun h => ⟨Nat.zero_le _, h⟩, fun h => h.2⟩]
  rfl

theorem diag_out (Z : ℕ → ℝ) (V : ℕ → EReal) (B : ℕ) (r : Fin 128) :
    (∑ x : Fin 128, (if (x : ℕ) < r then ((Real.exp (Z (B + x) - spR (Z (B + x)) + lateS Z (B + x + 1) (B + r)) : ℝ) : EReal) else 0) * V (B + x))
      = outS Z V (B + r) B := by
  have e := tile_sum_part (fun s => (weightS Z (B + r) s : EReal) * V s) B 0 r r.isLt.le (fun x => (x : ℕ) < r) fun x => ⟨fun h => ⟨Nat.zero_le _, h⟩, fun h => h.2⟩
  refine Eq.trans (Finset.sum_congr rfl fun x _ => ?_) e
  split
  · rfl
  · exact zero_mul _

/-- A tile before the diagonal. -/
theorem tile_late (Z : ℕ → ℝ) (B q : ℕ) (hq : B + 128 ≤ q) (j : Fin 128) :
    (∑ x : Fin 128, if (j : ℕ) < x then -spR (Z (B + x)) else 0) + lateS Z (B + 128) q = lateS Z (B + j + 1) q := by
  rw [tile_sum_part (fun s => -spR (Z s)) B (j + 1) 128 le_rfl (fun x => (j : ℕ) < x) fun x => ⟨fun h => ⟨h, x.isLt⟩, fun h => h.1⟩]
  exact lateS_add Z (by omega) hq

theorem tile_total (Z : ℕ → ℝ) (B q : ℕ) (hq : B + 128 ≤ q) :
    (∑ x : Fin 128, -spR (Z (B + x))) + lateS Z (B + 128) q = lateS Z B q := by
  rw [tile_sum (fun s => -spR (Z s))]
  exact lateS_add Z (by omega) hq

theorem tile_out (Z : ℕ → ℝ) (V : ℕ → EReal) (B q : ℕ) (hq : B + 128 ≤ q) :
    outS Z V q (B + 128) + (∑ x : Fin 128, ((Real.exp (Z (B + x) - spR (Z (B + x)) + lateS Z (B + x + 1) q) : ℝ) : EReal) * V (B + x)) = outS Z V q B := by
  have e := tile_sum (fun s => (weightS Z q s : EReal) * V s) B
  unfold outS
  rw [add_comm, ← Finset.sum_Ico_consecutive _ (Nat.le_add_right B 128) hq, ← e]
  rfl

end Cert.AttnIdeal.Tile

end
-- ==== Proof.AttnAcc.lean ====
module

public import proofs.«01_k».proof.Proof.AttnRun
public import proofs.«01_k».proof.Proof.AttnMath
public import Idealize.ShloMosaic.Lib.WritesUnit

@[expose] public section

set_option maxRecDepth 16384

noncomputable section

namespace Cert.AttnIdeal.Tile

open Cert.AttnIdeal.Gen Cert.AttnIdeal.Run
open Idealize.ShloMosaic Idealize.ShloMosaic.TcCoe

/-- The stored rows by their numbers. -/
def rowsAt (A : S2176x1024.Idx → EReal) (a b : ℕ) : EReal := if h : a < 2176 ∧ b < 1024 then A (ix2 ⟨a, h.1⟩ ⟨b, h.2⟩) else 0

/-- Tile `a` of head `h`. -/
def tileOf (A : S2176x1024.Idx → EReal) (a : ℕ) (h : Fin 8) : S128x128.Idx → EReal := fun x => rowsAt A (128 * a + (x 0 : ℕ)) (128 * (h : ℕ) + (x 1 : ℕ))

/-- A tile loaded. -/
theorem load_tile (m : Memref sig .tc .vmem S2176x1024 .bf16) (X : m.view.ty.Contents (Elt Ideal)) (off : Fin 2 → ℕ) (inb : ∀ a, off a + S128x128.size a ≤ S2176x1024.size a)
    (a : ℕ) (h : Fin 8) (e : off = ![128 * a, 128 * (h : ℕ)]) :
    View.readAt (Elt Ideal) m.view (Rect.unit (s := S2176x1024) off S128x128.size inb).toLoadRect X = tileOf (m.view.read (Elt Ideal) X) a h := by
  subst e
  funext x
  have h0 : 128 * a + (x 0 : ℕ) < 2176 := by
    have := inb 0
    have h' : (x 0 : ℕ) < 128 := (x 0).isLt
    change 128 * a + 128 ≤ 2176 at this
    omega
  have h1 : 128 * (h : ℕ) + (x 1 : ℕ) < 1024 := by
    have h' : (x 1 : ℕ) < 128 := (x 1).isLt
    omega
  show m.view.read (Elt Ideal) X _ = rowsAt _ _ _
  rw [rowsAt, dif_pos ⟨h0, h1⟩]
  congr 1
  funext b
  match b with
  | ⟨0, _⟩ => exact Fin.ext (by show 128 * a + 1 * (x 0 : ℕ) = _; rw [Nat.one_mul]; rfl)
  | ⟨1, _⟩ => exact Fin.ext (by show 128 * (h : ℕ) + 1 * (x 1 : ℕ) = _; rw [Nat.one_mul]; rfl)

/-- A whole accumulator loaded. -/
theorem load_acc (m : Memref sig .tc .vmem S1024x128 .f32) (X : m.view.ty.Contents (Elt Ideal)) (i : Fin 1024) (j : Fin 128) :
    View.readAt (Elt Ideal) m.view (Rect.unit (s := S1024x128) ![0, 0] S1024x128.size inb_S1024x128_S1024x128_0_0).toLoadRect X (ix2 i j) = m.view.read (Elt Ideal) X (ix2 i j) := by
  show m.view.read (Elt Ideal) X _ = _
  congr 1
  funext b
  match b with
  | ⟨0, _⟩ => exact Fin.ext (by show 0 + 1 * (i : ℕ) = i; omega)
  | ⟨1, _⟩ => exact Fin.ext (by show 0 + 1 * (j : ℕ) = j; omega)

/-- An accumulator stored whole and read. -/
theorem acc_hit (m : Memref sig .tc .vmem S1024x128 .f32) (f : m.view.ty.Contents (Elt Ideal)) (w : FVec Ideal S1024x128 .f32) (L : List (View.Piece (Elt Ideal) S1024x128 .f32)) (i : Fin 1024) (j : Fin 128) :
    m.view.read (Elt Ideal) (m.view.writes (Elt Ideal) f ((⟨Rect.unit (s := S1024x128) ![0, 0] S1024x128.size inb_S1024x128_S1024x128_0_0, w⟩ : View.Piece (Elt Ideal) S1024x128 .f32) :: L)) (ix2 i j) = w (ix2 i j) :=
  View.read_writes_cons_unit_of_mem m.view f inb_S1024x128_S1024x128_0_0 w L (ix2 i j) (ix2 i j) rfl fun a => match a with
    | ⟨0, _⟩ => (Nat.zero_add _).symm
    | ⟨1, _⟩ => (Nat.zero_add _).symm

theorem trips2 (t : Fin k0_t1_loop.trips) : (k0_t2_loop t).trips = t := by revert t; decide +kernel

theorem qoff0 (t : Fin k0_t1_loop.trips) : k0_off9 t = ![128 * (t : ℕ), 128 * ((0 : Fin 8) : ℕ)] := by revert t; decide +kernel
theorem koff0 (t : Fin k0_t1_loop.trips) (k : Fin (k0_t2_loop t).trips) : k0_off10 t k = ![128 * ((t : ℕ) - 1 - (k : ℕ)), 128 * ((0 : Fin 8) : ℕ)] := by revert t k; decide +kernel
theorem doff0 (t : Fin k0_t1_loop.trips) : k0_off1 t = ![128 * (t : ℕ), 128 * ((0 : Fin 8) : ℕ)] := by revert t; decide +kernel

theorem qoff1 (t : Fin k0_t1_loop.trips) : k0_off11 t = ![128 * (t : ℕ), 128 * ((1 : Fin 8) : ℕ)] := by revert t; decide +kernel
theorem koff1 (t : Fin k0_t1_loop.trips) (k : Fin (k0_t2_loop t).trips) : k0_off12 t k = ![128 * ((t : ℕ) - 1 - (k : ℕ)), 128 * ((1 : Fin 8) : ℕ)] := by revert t k; decide +kernel
theorem doff1 (t : Fin k0_t1_loop.trips) : k0_off2 t = ![128 * (t : ℕ), 128 * ((1 : Fin 8) : ℕ)] := by revert t; decide +kernel

theorem qoff2 (t : Fin k0_t1_loop.trips) : k0_off13 t = ![128 * (t : ℕ), 128 * ((2 : Fin 8) : ℕ)] := by revert t; decide +kernel
theorem koff2 (t : Fin k0_t1_loop.trips) (k : Fin (k0_t2_loop t).trips) : k0_off14 t k = ![128 * ((t : ℕ) - 1 - (k : ℕ)), 128 * ((2 : Fin 8) : ℕ)] := by revert t k; decide +kernel
theorem doff2 (t : Fin k0_t1_loop.trips) : k0_off3 t = ![128 * (t : ℕ), 128 * ((2 : Fin 8) : ℕ)] := by revert t; decide +kernel

theorem qoff3 (t : Fin k0_t1_loop.trips) : k0_off15 t = ![128 * (t : ℕ), 128 * ((3 : Fin 8) : ℕ)] := by revert t; decide +kernel
theorem koff3 (t : Fin k0_t1_loop.trips) (k : Fin (k0_t2_loop t).trips) : k0_off16 t k = ![128 * ((t : ℕ) - 1 - (k : ℕ)), 128 * ((3 : Fin 8) : ℕ)] := by revert t k; decide +kernel
theorem doff3 (t : Fin k0_t1_loop.trips) : k0_off4 t = ![128 * (t : ℕ), 128 * ((3 : Fin 8) : ℕ)] := by revert t; decide +kernel

theorem qoff4 (t : Fin k0_t1_loop.trips) : k0_off17 t = ![128 * (t : ℕ), 128 * ((4 : Fin 8) : ℕ)] := by revert t; decide +kernel
theorem koff4 (t : Fin k0_t1_loop.trips) (k : Fin (k0_t2_loop t).trips) : k0_off18 t k = ![128 * ((t : ℕ) - 1 - (k : ℕ)), 128 * ((4 : Fin 8) : ℕ)] := by revert t k; decide +kernel
theorem doff4 (t : Fin k0_t1_loop.trips) : k0_off5 t = ![128 * (t : ℕ), 128 * ((4 : Fin 8) : ℕ)] := by revert t; decide +kernel

theorem qoff5 (t : Fin k0_t1_loop.trips) : k0_off19 t = ![128 * (t : ℕ), 128 * ((5 : Fin 8) : ℕ)] := by revert t; decide +kernel
theorem koff5 (t : Fin k0_t1_loop.trips) (k : Fin (k0_t2_loop t).trips) : k0_off20 t k = ![128 * ((t : ℕ) - 1 - (k : ℕ)), 128 * ((5 : Fin 8) : ℕ)] := by revert t k; decide +kernel
theorem doff5 (t : Fin k0_t1_loop.trips) : k0_off6 t = ![128 * (t : ℕ), 128 * ((5 : Fin 8) : ℕ)] := by revert t; decide +kernel

theorem qoff6 (t : Fin k0_t1_loop.trips) : k0_off21 t = ![128 * (t : ℕ), 128 * ((6 : Fin 8) : ℕ)] := by revert t; decide +kernel
theorem koff6 (t : Fin k0_t1_loop.trips) (k : Fin (k0_t2_loop t).trips) : k0_off22 t k = ![128 * ((t : ℕ) - 1 - (k : ℕ)), 128 * ((6 : Fin 8) : ℕ)] := by revert t k; decide +kernel
theorem doff6 (t : Fin k0_t1_loop.trips) : k0_off7 t = ![128 * (t : ℕ), 128 * ((6 : Fin 8) : ℕ)] := by revert t; decide +kernel

theorem qoff7 (t : Fin k0_t1_loop.trips) : k0_off23 t = ![128 * (t : ℕ), 128 * ((7 : Fin 8) : ℕ)] := by revert t; decide +kernel
theorem koff7 (t : Fin k0_t1_loop.trips) (k : Fin (k0_t2_loop t).trips) : k0_off24 t k = ![128 * ((t : ℕ) - 1 - (k : ℕ)), 128 * ((7 : Fin 8) : ℕ)] := by revert t k; decide +kernel
theorem doff7 (t : Fin k0_t1_loop.trips) : k0_off8 t = ![128 * (t : ℕ), 128 * ((7 : Fin 8) : ℕ)] := by revert t; decide +kernel

/-- The products of tile `a` of the queries with tile `b` of the keys, one head each. -/
def zTile (Q K : S2176x1024.Idx → EReal) (a b : ℕ) (h : Fin 8) : FVec Ideal S128x128 .f32 := k0_pay7 (F := Ideal) (tileOf Q a h) (tileOf K b h)

variable {arg8 : Memref sig .tc .vmem S2176x1024 .bf16} {arg9 : Memref sig .tc .vmem S2176x1024 .bf16} {arg10 : Memref sig .tc .vmem S2176x1024 .bf16} {arg12 : Memref sig .tc .vmem S1024x128 .f32} {arg13 : Memref sig .tc .vmem S1024x128 .f32}
  (X8 : BufTy.Contents (Elt Ideal) arg8.view.ty) (X9 : BufTy.Contents (Elt Ideal) arg9.view.ty) (X10 : BufTy.Contents (Elt Ideal) arg10.view.ty) (t : Fin k0_t1_loop.trips)

/-- What a key tile stores, by the tiles. -/
theorem accStep_eq (k : Fin (k0_t2_loop t).trips) (f12 : BufTy.Contents (Elt Ideal) arg12.view.ty) (f13 : BufTy.Contents (Elt Ideal) arg13.view.ty) :
    accStep (F := Ideal) arg8 arg9 arg10 arg12 arg13 k0_pay3 X8 X9 X10 t k f12 f13
      = have Z := zTile (arg8.view.read (Elt Ideal) X8) (arg9.view.read (Elt Ideal) X9) t ((t : ℕ) - 1 - (k : ℕ))
        have v := tileOf (arg10.view.read (Elt Ideal) X10) ((t : ℕ) - 1 - (k : ℕ))
        have q6 := tileOf (arg8.view.read (Elt Ideal) X8) t 6
        have k6 := tileOf (arg9.view.read (Elt Ideal) X9) ((t : ℕ) - 1 - (k : ℕ)) 6
        have q7 := tileOf (arg8.view.read (Elt Ideal) X8) t 7
        have k7 := tileOf (arg9.view.read (Elt Ideal) X9) ((t : ℕ) - 1 - (k : ℕ)) 7
        have l := View.readAt (Elt Ideal) arg13.view (Rect.unit (s := S1024x128) ![0, 0] S1024x128.size inb_S1024x128_S1024x128_0_0).toLoadRect f13
        (⟨Rect.unit (s := S1024x128) ![0, 0] S1024x128.size inb_S1024x128_S1024x128_0_0,
          k0_pay49 (F := Ideal) (k0_pay16 k0_pay3 (Z 0) (Z 1) (Z 2) (Z 3) (Z 4) (Z 5) q6 k6 q7 k7 l) (k0_pay17 k0_pay3 (Z 0) (Z 1) (Z 2) (Z 3) (Z 4) (Z 5) q6 k6 q7 k7 l (v 0)) (k0_pay18 k0_pay3 (Z 0) (Z 1) (Z 2) (Z 3) (Z 4) (Z 5) q6 k6 q7 k7 l (v 1))
            (k0_pay19 k0_pay3 (Z 0) (Z 1) (Z 2) (Z 3) (Z 4) (Z 5) q6 k6 q7 k7 l) (v 2) (v 3) (v 4) (v 5) (v 6) (v 7)
            (View.readAt (Elt Ideal) arg12.view (Rect.unit (s := S1024x128) ![0, 0] S1024x128.size inb_S1024x128_S1024x128_0_0).toLoadRect f12)⟩,
        ⟨Rect.unit (s := S1024x128) ![0, 0] S1024x128.size inb_S1024x128_S1024x128_0_0,
          k0_pay50 (F := Ideal) (k0_pay15 k0_pay3 (Z 0) (Z 1) (Z 2) (Z 3) (Z 4) (Z 5) q6 k6 q7 k7) l⟩) := by
  unfold accStep
  rw [load_tile arg8 X8 (k0_off9 t) (k0_off9_inb t) (t) 0 (qoff0 t), load_tile arg8 X8 (k0_off11 t) (k0_off11_inb t) (t) 1 (qoff1 t), load_tile arg8 X8 (k0_off13 t) (k0_off13_inb t) (t) 2 (qoff2 t), load_tile arg8 X8 (k0_off15 t) (k0_off15_inb t) (t) 3 (qoff3 t), load_tile arg8 X8 (k0_off17 t) (k0_off17_inb t) (t) 4 (qoff4 t), load_tile arg8 X8 (k0_off19 t) (k0_off19_inb t) (t) 5 (qoff5 t), load_tile arg8 X8 (k0_off21 t) (k0_off21_inb t) (t) 6 (qoff6 t), load_tile arg8 X8 (k0_off23 t) (k0_off23_inb t) (t) 7 (qoff7 t),
    load_tile arg9 X9 (k0_off10 t k) (k0_off10_inb t k) ((t : ℕ) - 1 - (k : ℕ)) 0 (koff0 t k), load_tile arg9 X9 (k0_off12 t k) (k0_off12_inb t k) ((t : ℕ) - 1 - (k : ℕ)) 1 (koff1 t k), load_tile arg9 X9 (k0_off14 t k) (k0_off14_inb t k) ((t : ℕ) - 1 - (k : ℕ)) 2 (koff2 t k), load_tile arg9 X9 (k0_off16 t k) (k0_off16_inb t k) ((t : ℕ) - 1 - (k : ℕ)) 3 (koff3 t k), load_tile arg9 X9 (k0_off18 t k) (k0_off18_inb t k) ((t : ℕ) - 1 - (k : ℕ)) 4 (koff4 t k), load_tile arg9 X9 (k0_off20 t k) (k0_off20_inb t k) ((t : ℕ) - 1 - (k : ℕ)) 5 (koff5 t k), load_tile arg9 X9 (k0_off22 t k) (k0_off22_inb t k) ((t : ℕ) - 1 - (k : ℕ)) 6 (koff6 t k), load_tile arg9 X9 (k0_off24 t k) (k0_off24_inb t k) ((t : ℕ) - 1 - (k : ℕ)) 7 (koff7 t k),
    load_tile arg10 X10 (k0_off10 t k) (k0_off10_inb t k) ((t : ℕ) - 1 - (k : ℕ)) 0 (koff0 t k), load_tile arg10 X10 (k0_off12 t k) (k0_off12_inb t k) ((t : ℕ) - 1 - (k : ℕ)) 1 (koff1 t k), load_tile arg10 X10 (k0_off14 t k) (k0_off14_inb t k) ((t : ℕ) - 1 - (k : ℕ)) 2 (koff2 t k), load_tile arg10 X10 (k0_off16 t k) (k0_off16_inb t k) ((t : ℕ) - 1 - (k : ℕ)) 3 (koff3 t k), load_tile arg10 X10 (k0_off18 t k) (k0_off18_inb t k) ((t : ℕ) - 1 - (k : ℕ)) 4 (koff4 t k), load_tile arg10 X10 (k0_off20 t k) (k0_off20_inb t k) ((t : ℕ) - 1 - (k : ℕ)) 5 (koff5 t k), load_tile arg10 X10 (k0_off22 t k) (k0_off22_inb t k) ((t : ℕ) - 1 - (k : ℕ)) 6 (koff6 t k), load_tile arg10 X10 (k0_off24 t k) (k0_off24_inb t k) ((t : ℕ) - 1 - (k : ℕ)) 7 (koff7 t k)]
  rfl

theorem diag12_eq :
    diag12 (F := Ideal) arg8 arg9 arg10 X8 X9 X10 t
      = have Z := zTile (arg8.view.read (Elt Ideal) X8) (arg9.view.read (Elt Ideal) X9) t t
        have v := tileOf (arg10.view.read (Elt Ideal) X10) t
        have q7 := tileOf (arg8.view.read (Elt Ideal) X8) t 7
        have k7 := tileOf (arg9.view.read (Elt Ideal) X9) t 7
        [⟨Rect.unit (s := S1024x128) ![0, 0] S1024x128.size inb_S1024x128_S1024x128_0_0,
          k0_pay47 (F := Ideal) (k0_pay43 k0_pay2 k0_pay3 (Z 0) (Z 1) (Z 2) (Z 3) (Z 4) (Z 5) (Z 6) q7 k7) (k0_pay44 k0_pay2 k0_pay3 (Z 0) (Z 1) (Z 2) (Z 3) (Z 4) (Z 5) (Z 6) q7 k7 (v 0)) (k0_pay45 k0_pay2 k0_pay3 (Z 0) (Z 1) (Z 2) (Z 3) (Z 4) (Z 5) (Z 6) q7 k7 (v 1))
            (k0_pay46 k0_pay2 k0_pay3 (Z 0) (Z 1) (Z 2) (Z 3) (Z 4) (Z 5) (Z 6) q7 k7) (v 2) (v 3) (v 4) (v 5) (v 6) (v 7)⟩] := by
  unfold diag12
  rw [load_tile arg8 X8 (k0_off1 t) (k0_off1_inb t) (t) 0 (doff0 t), load_tile arg8 X8 (k0_off2 t) (k0_off2_inb t) (t) 1 (doff1 t), load_tile arg8 X8 (k0_off3 t) (k0_off3_inb t) (t) 2 (doff2 t), load_tile arg8 X8 (k0_off4 t) (k0_off4_inb t) (t) 3 (doff3 t), load_tile arg8 X8 (k0_off5 t) (k0_off5_inb t) (t) 4 (doff4 t), load_tile arg8 X8 (k0_off6 t) (k0_off6_inb t) (t) 5 (doff5 t), load_tile arg8 X8 (k0_off7 t) (k0_off7_inb t) (t) 6 (doff6 t), load_tile arg8 X8 (k0_off8 t) (k0_off8_inb t) (t) 7 (doff7 t),
    load_tile arg9 X9 (k0_off1 t) (k0_off1_inb t) (t) 0 (doff0 t), load_tile arg9 X9 (k0_off2 t) (k0_off2_inb t) (t) 1 (doff1 t), load_tile arg9 X9 (k0_off3 t) (k0_off3_inb t) (t) 2 (doff2 t), load_tile arg9 X9 (k0_off4 t) (k0_off4_inb t) (t) 3 (doff3 t), load_tile arg9 X9 (k0_off5 t) (k0_off5_inb t) (t) 4 (doff4 t), load_tile arg9 X9 (k0_off6 t) (k0_off6_inb t) (t) 5 (doff5 t), load_tile arg9 X9 (k0_off7 t) (k0_off7_inb t) (t) 6 (doff6 t), load_tile arg9 X9 (k0_off8 t) (k0_off8_inb t) (t) 7 (doff7 t),
    load_tile arg10 X10 (k0_off1 t) (k0_off1_inb t) (t) 0 (doff0 t), load_tile arg10 X10 (k0_off2 t) (k0_off2_inb t) (t) 1 (doff1 t), load_tile arg10 X10 (k0_off3 t) (k0_off3_inb t) (t) 2 (doff2 t), load_tile arg10 X10 (k0_off4 t) (k0_off4_inb t) (t) 3 (doff3 t), load_tile arg10 X10 (k0_off5 t) (k0_off5_inb t) (t) 4 (doff4 t), load_tile arg10 X10 (k0_off6 t) (k0_off6_inb t) (t) 5 (doff5 t), load_tile arg10 X10 (k0_off7 t) (k0_off7_inb t) (t) 6 (doff6 t), load_tile arg10 X10 (k0_off8 t) (k0_off8_inb t) (t) 7 (doff7 t)]
  rfl

theorem diag13_eq :
    diag13 (F := Ideal) arg8 arg9 X8 X9 t
      = have Z := zTile (arg8.view.read (Elt Ideal) X8) (arg9.view.read (Elt Ideal) X9) t t
        have q7 := tileOf (arg8.view.read (Elt Ideal) X8) t 7
        have k7 := tileOf (arg9.view.read (Elt Ideal) X9) t 7
        [⟨Rect.unit (s := S1024x128) ![0, 0] S1024x128.size inb_S1024x128_S1024x128_0_0,
          k0_pay48 (F := Ideal) (k0_pay42 k0_pay2 k0_pay3 (Z 0) (Z 1) (Z 2) (Z 3) (Z 4) (Z 5) (Z 6) q7 k7)⟩] := by
  unfold diag13
  rw [load_tile arg8 X8 (k0_off1 t) (k0_off1_inb t) (t) 0 (doff0 t), load_tile arg8 X8 (k0_off2 t) (k0_off2_inb t) (t) 1 (doff1 t), load_tile arg8 X8 (k0_off3 t) (k0_off3_inb t) (t) 2 (doff2 t), load_tile arg8 X8 (k0_off4 t) (k0_off4_inb t) (t) 3 (doff3 t), load_tile arg8 X8 (k0_off5 t) (k0_off5_inb t) (t) 4 (doff4 t), load_tile arg8 X8 (k0_off6 t) (k0_off6_inb t) (t) 5 (doff5 t), load_tile arg8 X8 (k0_off7 t) (k0_off7_inb t) (t) 6 (doff6 t), load_tile arg8 X8 (k0_off8 t) (k0_off8_inb t) (t) 7 (doff7 t),
    load_tile arg9 X9 (k0_off1 t) (k0_off1_inb t) (t) 0 (doff0 t), load_tile arg9 X9 (k0_off2 t) (k0_off2_inb t) (t) 1 (doff1 t), load_tile arg9 X9 (k0_off3 t) (k0_off3_inb t) (t) 2 (doff2 t), load_tile arg9 X9 (k0_off4 t) (k0_off4_inb t) (t) 3 (doff3 t), load_tile arg9 X9 (k0_off5 t) (k0_off5_inb t) (t) 4 (doff4 t), load_tile arg9 X9 (k0_off6 t) (k0_off6_inb t) (t) 5 (doff5 t), load_tile arg9 X9 (k0_off7 t) (k0_off7_inb t) (t) 6 (doff6 t), load_tile arg9 X9 (k0_off8 t) (k0_off8_inb t) (t) 7 (doff7 t)]
  rfl

/-- The product of query `q` with key `s`, scaled. -/
def dotS (Q K : S2176x1024.Idx → EReal) (h : Fin 8) (q s : ℕ) : EReal := (∑ d : Fin 128, rowsAt Q q (128 * (h : ℕ) + d) * rowsAt K s (128 * (h : ℕ) + d)) * scale

theorem zTile_at (Q K : S2176x1024.Idx → EReal) (a b : ℕ) (h : Fin 8) (r c : Fin 128) : zTile Q K a b h (ix2 r c) * scale = dotS Q K h (128 * a + r) (128 * b + c) := by
  unfold zTile dotS
  rw [dot_at]
  rfl

variable (z : Fin 8 → ℕ → ℕ → ℝ) (hz : ∀ h q s, dotS (arg8.view.read (Elt Ideal) X8) (arg9.view.read (Elt Ideal) X9) h q s = (z h q s : EReal))
include hz

theorem diag13_at (G : BufTy.Contents (Elt Ideal) arg13.view.ty) (h : Fin 8) (r c : Fin 128) :
    arg13.view.read (Elt Ideal) (arg13.view.writes (Elt Ideal) G (diag13 (F := Ideal) arg8 arg9 X8 X9 t)) (ix2 (hrow h r) c) = ((lateS (z h (128 * t + r)) (128 * t) (128 * t + r) : ℝ) : EReal) := by
  rw [diag13_eq]
  refine (acc_hit arg13 G _ [] _ _).trans ?_
  have e := totald_at (zTile (arg8.view.read (Elt Ideal) X8) (arg9.view.read (Elt Ideal) X9) t (t) 0) (zTile (arg8.view.read (Elt Ideal) X8) (arg9.view.read (Elt Ideal) X9) t (t) 1) (zTile (arg8.view.read (Elt Ideal) X8) (arg9.view.read (Elt Ideal) X9) t (t) 2) (zTile (arg8.view.read (Elt Ideal) X8) (arg9.view.read (Elt Ideal) X9) t (t) 3) (zTile (arg8.view.read (Elt Ideal) X8) (arg9.view.read (Elt Ideal) X9) t (t) 4) (zTile (arg8.view.read (Elt Ideal) X8) (arg9.view.read (Elt Ideal) X9) t (t) 5) (zTile (arg8.view.read (Elt Ideal) X8) (arg9.view.read (Elt Ideal) X9) t (t) 6) (tileOf (arg8.view.read (Elt Ideal) X8) t 7) (tileOf (arg9.view.read (Elt Ideal) X9) t 7)
    (fun x => z h (128 * t + r) (128 * t + x)) h r (fun x => by rw [zd_at (zTile (arg8.view.read (Elt Ideal) X8) (arg9.view.read (Elt Ideal) X9) t (t)) _ _ rfl, zTile_at, hz]) c
  rw [diag_total (z h (128 * t + r)) (128 * t) r] at e
  rw [← e]
  unfold upH
  pointwise [k0_pay48]

theorem diag12_at (G : BufTy.Contents (Elt Ideal) arg12.view.ty) (h : Fin 8) (r d : Fin 128) :
    arg12.view.read (Elt Ideal) (arg12.view.writes (Elt Ideal) G (diag12 (F := Ideal) arg8 arg9 arg10 X8 X9 X10 t)) (ix2 (hrow h r) d)
      = outS (z h (128 * t + r)) (fun s => rowsAt (arg10.view.read (Elt Ideal) X10) s (128 * (h : ℕ) + d)) (128 * t + r) (128 * t) := by
  rw [diag12_eq]
  refine (acc_hit arg12 G _ [] _ _).trans ?_
  refine (outd_at k0_pay3 (zTile (arg8.view.read (Elt Ideal) X8) (arg9.view.read (Elt Ideal) X9) t (t) 0) (zTile (arg8.view.read (Elt Ideal) X8) (arg9.view.read (Elt Ideal) X9) t (t) 1) (zTile (arg8.view.read (Elt Ideal) X8) (arg9.view.read (Elt Ideal) X9) t (t) 2) (zTile (arg8.view.read (Elt Ideal) X8) (arg9.view.read (Elt Ideal) X9) t (t) 3) (zTile (arg8.view.read (Elt Ideal) X8) (arg9.view.read (Elt Ideal) X9) t (t) 4) (zTile (arg8.view.read (Elt Ideal) X8) (arg9.view.read (Elt Ideal) X9) t (t) 5) (zTile (arg8.view.read (Elt Ideal) X8) (arg9.view.read (Elt Ideal) X9) t (t) 6) (tileOf (arg8.view.read (Elt Ideal) X8) t 7) (tileOf (arg9.view.read (Elt Ideal) X9) t 7) (tileOf (arg10.view.read (Elt Ideal) X10) t) h r d).trans ?_
  rw [← diag_out]
  refine Finset.sum_congr rfl fun x _ => ?_
  rw [weightd_at (zTile (arg8.view.read (Elt Ideal) X8) (arg9.view.read (Elt Ideal) X9) t (t) 0) (zTile (arg8.view.read (Elt Ideal) X8) (arg9.view.read (Elt Ideal) X9) t (t) 1) (zTile (arg8.view.read (Elt Ideal) X8) (arg9.view.read (Elt Ideal) X9) t (t) 2) (zTile (arg8.view.read (Elt Ideal) X8) (arg9.view.read (Elt Ideal) X9) t (t) 3) (zTile (arg8.view.read (Elt Ideal) X8) (arg9.view.read (Elt Ideal) X9) t (t) 4) (zTile (arg8.view.read (Elt Ideal) X8) (arg9.view.read (Elt Ideal) X9) t (t) 5) (zTile (arg8.view.read (Elt Ideal) X8) (arg9.view.read (Elt Ideal) X9) t (t) 6) (tileOf (arg8.view.read (Elt Ideal) X8) t 7) (tileOf (arg9.view.read (Elt Ideal) X9) t 7)
    (fun x => z h (128 * t + r) (128 * t + x)) h r (fun x => by rw [zd_at (zTile (arg8.view.read (Elt Ideal) X8) (arg9.view.read (Elt Ideal) X9) t (t)) _ _ rfl, zTile_at, hz]) x, diag_late (z h (128 * t + r))]
  rfl

/-- One key tile before the diagonal, from accumulators that hold what the tiles after it give. -/
theorem step13_at (k : Fin (k0_t2_loop t).trips) (f12 : BufTy.Contents (Elt Ideal) arg12.view.ty) (f13 G : BufTy.Contents (Elt Ideal) arg13.view.ty) (L : List (View.Piece (Elt Ideal) S1024x128 .f32)) (h : Fin 8) (r c : Fin 128)
    (hf : arg13.view.read (Elt Ideal) f13 (ix2 (hrow h r) c) = ((lateS (z h (128 * t + r)) (128 * (t - k)) (128 * t + r) : ℝ) : EReal)) :
    arg13.view.read (Elt Ideal) (arg13.view.writes (Elt Ideal) G ((accStep (F := Ideal) arg8 arg9 arg10 arg12 arg13 k0_pay3 X8 X9 X10 t k f12 f13).2 :: L)) (ix2 (hrow h r) c)
      = ((lateS (z h (128 * t + r)) (128 * (t - (k + 1))) (128 * t + r) : ℝ) : EReal) := by
  have hk : (k : ℕ) < t := lt_of_lt_of_eq k.isLt (trips2 t)
  rw [accStep_eq]
  refine (acc_hit arg13 G _ L _ _).trans ?_
  have e := total_at (zTile (arg8.view.read (Elt Ideal) X8) (arg9.view.read (Elt Ideal) X9) t ((t : ℕ) - 1 - (k : ℕ)) 0) (zTile (arg8.view.read (Elt Ideal) X8) (arg9.view.read (Elt Ideal) X9) t ((t : ℕ) - 1 - (k : ℕ)) 1) (zTile (arg8.view.read (Elt Ideal) X8) (arg9.view.read (Elt Ideal) X9) t ((t : ℕ) - 1 - (k : ℕ)) 2) (zTile (arg8.view.read (Elt Ideal) X8) (arg9.view.read (Elt Ideal) X9) t ((t : ℕ) - 1 - (k : ℕ)) 3) (zTile (arg8.view.read (Elt Ideal) X8) (arg9.view.read (Elt Ideal) X9) t ((t : ℕ) - 1 - (k : ℕ)) 4) (zTile (arg8.view.read (Elt Ideal) X8) (arg9.view.read (Elt Ideal) X9) t ((t : ℕ) - 1 - (k : ℕ)) 5) (tileOf (arg8.view.read (Elt Ideal) X8) t 6) (tileOf (arg9.view.read (Elt Ideal) X9) ((t : ℕ) - 1 - (k : ℕ)) 6) (tileOf (arg8.view.read (Elt Ideal) X8) t 7) (tileOf (arg9.view.read (Elt Ideal) X9) ((t : ℕ) - 1 - (k : ℕ)) 7) (hrow h r)
    (fun x => z h (128 * t + r) (128 * ((t : ℕ) - 1 - (k : ℕ)) + x)) (fun x => by rw [z_at (zTile (arg8.view.read (Elt Ideal) X8) (arg9.view.read (Elt Ideal) X9) t ((t : ℕ) - 1 - (k : ℕ))) _ _ _ _ rfl rfl, zTile_at, hz]) c
  have hb : 128 * ((t : ℕ) - k) = 128 * ((t : ℕ) - 1 - (k : ℕ)) + 128 := by omega
  rw [hb] at hf
  rw [show (t : ℕ) - (k + 1) = (t : ℕ) - 1 - (k : ℕ) by omega, ← tile_total (z h (128 * t + r)) (128 * ((t : ℕ) - 1 - (k : ℕ))) (128 * t + r) (by omega), EReal.coe_add, ← hf, ← e, add_comm, ← load_acc]
  unfold upH
  pointwise [k0_pay50]

theorem step12_at (k : Fin (k0_t2_loop t).trips) (f12 G : BufTy.Contents (Elt Ideal) arg12.view.ty) (f13 : BufTy.Contents (Elt Ideal) arg13.view.ty) (L : List (View.Piece (Elt Ideal) S1024x128 .f32)) (h : Fin 8) (r d : Fin 128)
    (hf : ∀ c, arg13.view.read (Elt Ideal) f13 (ix2 (hrow h r) c) = ((lateS (z h (128 * t + r)) (128 * (t - k)) (128 * t + r) : ℝ) : EReal))
    (hg : arg12.view.read (Elt Ideal) f12 (ix2 (hrow h r) d) = outS (z h (128 * t + r)) (fun s => rowsAt (arg10.view.read (Elt Ideal) X10) s (128 * (h : ℕ) + d)) (128 * t + r) (128 * (t - k))) :
    arg12.view.read (Elt Ideal) (arg12.view.writes (Elt Ideal) G ((accStep (F := Ideal) arg8 arg9 arg10 arg12 arg13 k0_pay3 X8 X9 X10 t k f12 f13).1 :: L)) (ix2 (hrow h r) d)
      = outS (z h (128 * t + r)) (fun s => rowsAt (arg10.view.read (Elt Ideal) X10) s (128 * (h : ℕ) + d)) (128 * t + r) (128 * (t - (k + 1))) := by
  have hk : (k : ℕ) < t := lt_of_lt_of_eq k.isLt (trips2 t)
  rw [accStep_eq]
  refine (acc_hit arg12 G _ L _ _).trans ?_
  refine (out_at k0_pay3 (zTile (arg8.view.read (Elt Ideal) X8) (arg9.view.read (Elt Ideal) X9) t ((t : ℕ) - 1 - (k : ℕ)) 0) (zTile (arg8.view.read (Elt Ideal) X8) (arg9.view.read (Elt Ideal) X9) t ((t : ℕ) - 1 - (k : ℕ)) 1) (zTile (arg8.view.read (Elt Ideal) X8) (arg9.view.read (Elt Ideal) X9) t ((t : ℕ) - 1 - (k : ℕ)) 2) (zTile (arg8.view.read (Elt Ideal) X8) (arg9.view.read (Elt Ideal) X9) t ((t : ℕ) - 1 - (k : ℕ)) 3) (zTile (arg8.view.read (Elt Ideal) X8) (arg9.view.read (Elt Ideal) X9) t ((t : ℕ) - 1 - (k : ℕ)) 4) (zTile (arg8.view.read (Elt Ideal) X8) (arg9.view.read (Elt Ideal) X9) t ((t : ℕ) - 1 - (k : ℕ)) 5) (tileOf (arg8.view.read (Elt Ideal) X8) t 6) (tileOf (arg9.view.read (Elt Ideal) X9) ((t : ℕ) - 1 - (k : ℕ)) 6) (tileOf (arg8.view.read (Elt Ideal) X8) t 7) (tileOf (arg9.view.read (Elt Ideal) X9) ((t : ℕ) - 1 - (k : ℕ)) 7) (tileOf (arg10.view.read (Elt Ideal) X10) ((t : ℕ) - 1 - (k : ℕ))) _ _ h r d).trans ?_
  have hb : 128 * ((t : ℕ) - k) = 128 * ((t : ℕ) - 1 - (k : ℕ)) + 128 := by omega
  rw [hb] at hg
  rw [show (t : ℕ) - (k + 1) = (t : ℕ) - 1 - (k : ℕ) by omega, ← tile_out (z h (128 * t + r)) _ (128 * ((t : ℕ) - 1 - (k : ℕ))) (128 * t + r) (by omega), ← hg, load_acc]
  congr 1
  refine Finset.sum_congr rfl fun x _ => ?_
  rw [weight_at (zTile (arg8.view.read (Elt Ideal) X8) (arg9.view.read (Elt Ideal) X9) t ((t : ℕ) - 1 - (k : ℕ)) 0) (zTile (arg8.view.read (Elt Ideal) X8) (arg9.view.read (Elt Ideal) X9) t ((t : ℕ) - 1 - (k : ℕ)) 1) (zTile (arg8.view.read (Elt Ideal) X8) (arg9.view.read (Elt Ideal) X9) t ((t : ℕ) - 1 - (k : ℕ)) 2) (zTile (arg8.view.read (Elt Ideal) X8) (arg9.view.read (Elt Ideal) X9) t ((t : ℕ) - 1 - (k : ℕ)) 3) (zTile (arg8.view.read (Elt Ideal) X8) (arg9.view.read (Elt Ideal) X9) t ((t : ℕ) - 1 - (k : ℕ)) 4) (zTile (arg8.view.read (Elt Ideal) X8) (arg9.view.read (Elt Ideal) X9) t ((t : ℕ) - 1 - (k : ℕ)) 5) (tileOf (arg8.view.read (Elt Ideal) X8) t 6) (tileOf (arg9.view.read (Elt Ideal) X9) ((t : ℕ) - 1 - (k : ℕ)) 6) (tileOf (arg8.view.read (Elt Ideal) X8) t 7) (tileOf (arg9.view.read (Elt Ideal) X9) ((t : ℕ) - 1 - (k : ℕ)) 7) (hrow h r)
    (fun x => z h (128 * t + r) (128 * ((t : ℕ) - 1 - (k : ℕ)) + x)) (fun x => by rw [z_at (zTile (arg8.view.read (Elt Ideal) X8) (arg9.view.read (Elt Ideal) X9) t ((t : ℕ) - 1 - (k : ℕ))) _ _ _ _ rfl rfl, zTile_at, hz]) _ (lateS (z h (128 * t + r)) (128 * ((t : ℕ) - 1 - (k : ℕ)) + 128) (128 * t + r)) x ((load_acc arg13 f13 _ x).trans ((hf x).trans (by rw [hb]))),
    tile_late (z h (128 * t + r)) (128 * ((t : ℕ) - 1 - (k : ℕ))) (128 * t + r) (by omega)]
  rfl

/-- The accumulators after `n` key tiles. -/
theorem accs_at (G12 : BufTy.Contents (Elt Ideal) arg12.view.ty) (G13 : BufTy.Contents (Elt Ideal) arg13.view.ty) (n : ℕ) (hn : n ≤ (k0_t2_loop t).trips) :
    (∀ (h : Fin 8) (r c : Fin 128), arg13.view.read (Elt Ideal) (acc13 (F := Ideal) arg8 arg9 arg10 arg12 arg13 k0_pay3 X8 X9 X10 t (arg12.view.writes (Elt Ideal) G12 (diag12 (F := Ideal) arg8 arg9 arg10 X8 X9 X10 t)) (arg13.view.writes (Elt Ideal) G13 (diag13 (F := Ideal) arg8 arg9 X8 X9 t)) n) (ix2 (hrow h r) c)
        = ((lateS (z h (128 * t + r)) (128 * (t - n)) (128 * t + r) : ℝ) : EReal))
    ∧ (∀ (h : Fin 8) (r d : Fin 128), arg12.view.read (Elt Ideal) (acc12 (F := Ideal) arg8 arg9 arg10 arg12 arg13 k0_pay3 X8 X9 X10 t (arg12.view.writes (Elt Ideal) G12 (diag12 (F := Ideal) arg8 arg9 arg10 X8 X9 X10 t)) (arg13.view.writes (Elt Ideal) G13 (diag13 (F := Ideal) arg8 arg9 X8 X9 t)) n) (ix2 (hrow h r) d)
        = outS (z h (128 * t + r)) (fun s => rowsAt (arg10.view.read (Elt Ideal) X10) s (128 * (h : ℕ) + d)) (128 * t + r) (128 * (t - n))) := by
  induction n with
  | zero =>
    have e : accs (F := Ideal) arg8 arg9 arg10 arg12 arg13 k0_pay3 X8 X9 X10 t (arg12.view.writes (Elt Ideal) G12 (diag12 (F := Ideal) arg8 arg9 arg10 X8 X9 X10 t)) (arg13.view.writes (Elt Ideal) G13 (diag13 (F := Ideal) arg8 arg9 X8 X9 t)) 0 = ([], []) := rfl
    unfold acc12 acc13
    rw [e, View.writes_nil, View.writes_nil]
    exact ⟨fun h r c => diag13_at X8 X9 t z hz G13 h r c, fun h r d => diag12_at X8 X9 X10 t z hz G12 h r d⟩
  | succ n ih =>
    have ih := ih (Nat.le_of_succ_le hn)
    have e := accs_succ (F := Ideal) arg8 arg9 arg10 arg12 arg13 k0_pay3 X8 X9 X10 t (arg12.view.writes (Elt Ideal) G12 (diag12 (F := Ideal) arg8 arg9 arg10 X8 X9 X10 t)) (arg13.view.writes (Elt Ideal) G13 (diag13 (F := Ideal) arg8 arg9 X8 X9 t)) ⟨n, hn⟩
    unfold acc12 acc13
    rw [e]
    exact ⟨fun h r c => step13_at X8 X9 X10 t z hz ⟨n, hn⟩ _ _ _ _ h r c (ih.1 h r c),
      fun h r d => step12_at X8 X9 X10 t z hz ⟨n, hn⟩ _ _ _ _ h r d (ih.1 h r) (ih.2 h r d)⟩

/-- The first accumulator when the query tile is done with its key tiles. -/
theorem fin12_at (h : Fin 8) (r d : Fin 128) :
    arg12.view.read (Elt Ideal) (fin12 (F := Ideal) arg8 arg9 arg10 arg12 arg13 X8 X9 X10 t) (ix2 (hrow h r) d)
      = outS (z h (128 * t + r)) (fun s => rowsAt (arg10.view.read (Elt Ideal) X10) s (128 * (h : ℕ) + d)) (128 * t + r) 0 := by
  unfold fin12
  rw [View.writes_append]
  have e := (accs_at (arg12 := arg12) (arg13 := arg13) X8 X9 X10 t z hz arg12.view.junk arg13.view.junk _ le_rfl).2 h r d
  rw [trips2, Nat.sub_self, Nat.mul_zero] at e
  rw [← e, trips2]

end Cert.AttnIdeal.Tile

end
-- ==== Proof.AttnRows.lean ====
/-
  WHAT THE ATTENTION'S BODY STORES, READ: the normalised queries and keys, the values, and the output's rows.
-/
module

public import proofs.«01_k».proof.Proof.ConvValue
public import proofs.«01_k».proof.Proof.AttnAcc

@[expose] public section

set_option maxRecDepth 16384

noncomputable section

open Idealize.ShloMosaic Idealize.ShloMosaic.TcCoe Idealize.SL.Sem

namespace Cert.AttnIdeal.Tile

open Cert.AttnIdeal.Gen Cert.AttnIdeal.Run Cert.Proof

/-! ## The payloads -/

section
variable (x : FVec Ideal S128x128 .f32) (g : FVec Ideal S1x128 .f32) (r d : Fin 128)

/-- A feature of a head's normalised output, with its gain. -/
def rowOut : EReal := groupAt (fun k => x (ix2 r k)) (x (ix2 r d)) (g (ix2 0 d))

theorem pay53_at : k0_pay53 (F := Ideal) x g (ix2 r d) = rowOut x g r d := by
  pointwise [k0_pay53]
  rfl
theorem pay54_at : k0_pay54 (F := Ideal) x g (ix2 r d) = rowOut x g r d := by
  pointwise [k0_pay54]
  rfl
theorem pay55_at : k0_pay55 (F := Ideal) x g (ix2 r d) = rowOut x g r d := by
  pointwise [k0_pay55]
  rfl
theorem pay56_at : k0_pay56 (F := Ideal) x g (ix2 r d) = rowOut x g r d := by
  pointwise [k0_pay56]
  rfl
theorem pay58_at : k0_pay58 (F := Ideal) x (k0_pay57 (F := Ideal) x) g (ix2 r d) = rowOut x g r d := by
  pointwise [k0_pay58, k0_pay57]
  rfl
theorem pay59_at : k0_pay59 (F := Ideal) x g (ix2 r d) = rowOut x g r d := by
  pointwise [k0_pay59]
  rfl
theorem pay4_at : k0_pay4 (F := Ideal) x (k0_pay60 (F := Ideal) x) g (ix2 r d) = rowOut x g r d := by
  pointwise [k0_pay4, k0_pay60]
  rfl
theorem pay5_at : k0_pay5 (F := Ideal) x g (ix2 r d) = rowOut x g r d := by
  pointwise [k0_pay5]
  rfl
end

section
variable (x : FVec Ideal S1x2064x128 .bf16) (g : FVec Ideal S1x128 .f32) (r : Fin 2064) (d : Fin 128)

/-- A feature of a normalised query or key. -/
def rowQ : EReal := groupAt (fun k => x (ix3 0 r k)) (x (ix3 0 r d)) (g (ix2 0 d))

theorem pay61_at : k0_pay61 (F := Ideal) x g (ix2 r d) = rowQ x g r d := by
  pointwise [k0_pay61]
  rfl
theorem pay64_at : k0_pay64 (F := Ideal) x g (ix2 r d) = rowQ x g r d := by
  pointwise [k0_pay64]
  rfl
theorem pay68_at : k0_pay68 (F := Ideal) x g (ix2 r d) = rowQ x g r d := by
  pointwise [k0_pay68]
  rfl
theorem pay74_at : k0_pay74 (F := Ideal) x g (ix2 r d) = rowQ x g r d := by
  pointwise [k0_pay74]
  rfl
theorem pay79_at : k0_pay79 (F := Ideal) x g (ix2 r d) = rowQ x g r d := by
  pointwise [k0_pay79]
  rfl
theorem pay84_at : k0_pay84 (F := Ideal) x g (ix2 r d) = rowQ x g r d := by
  pointwise [k0_pay84]
  rfl
theorem pay87_at : k0_pay87 (F := Ideal) x g (ix2 r d) = rowQ x g r d := by
  pointwise [k0_pay87]
  rfl
theorem pay89_at : k0_pay89 (F := Ideal) x g (ix2 r d) = rowQ x g r d := by
  pointwise [k0_pay89]
  rfl
theorem pay63_at : k0_pay63 (F := Ideal) (k0_pay62 (F := Ideal) x g) (ix2 r d) = rowQ x g r d := by
  pointwise [k0_pay63, k0_pay62]
  rfl
theorem pay67_at : k0_pay67 (F := Ideal) (k0_pay65 (F := Ideal) g) (k0_pay66 (F := Ideal) x) (ix2 r d) = rowQ x g r d := by
  pointwise [k0_pay67, k0_pay65, k0_pay66]
  rfl
theorem pay73_at : k0_pay73 (F := Ideal) (k0_pay69 (F := Ideal) g) (k0_pay70 (F := Ideal) x) (k0_pay71 (F := Ideal) x) (k0_pay72 (F := Ideal)) (ix2 r d) = rowQ x g r d := by
  pointwise [k0_pay73, k0_pay69, k0_pay70, k0_pay71, k0_pay72]
  rfl
theorem pay78_at : k0_pay78 (F := Ideal) (k0_pay75 (F := Ideal) g) (k0_pay76 (F := Ideal) x) (k0_pay77 (F := Ideal) x) (Scalar.ofBits .f32 0x43000000#32) (ix2 r d) = rowQ x g r d := by
  pointwise [k0_pay78, k0_pay75, k0_pay76, k0_pay77]
  rfl
theorem pay83_at : k0_pay83 (F := Ideal) (k0_pay80 (F := Ideal) g) (k0_pay81 (F := Ideal) x) (k0_pay82 (F := Ideal) x) (ix2 r d) = rowQ x g r d := by
  pointwise [k0_pay83, k0_pay80, k0_pay81, k0_pay82]
  rfl
theorem pay86_at : k0_pay86 (F := Ideal) (k0_pay85 (F := Ideal) x) g (ix2 r d) = rowQ x g r d := by
  pointwise [k0_pay86, k0_pay85]
  rfl
theorem pay88_at : k0_pay88 (F := Ideal) x g (ix2 r d) = rowQ x g r d := by
  pointwise [k0_pay88]
  rfl
theorem pay90_at : k0_pay90 (F := Ideal) x g (ix2 r d) = rowQ x g r d := by
  pointwise [k0_pay90]
  rfl
end

theorem pay93_at (r : Fin 112) (c : Fin 1024) : k0_pay93 (F := Ideal) (ix2 r c) = (0 : EReal) := by
  pointwise [k0_pay93, k0_pay92]
theorem pay94_at (r : Fin 112) (c : Fin 1024) : k0_pay94 (F := Ideal) (ix2 r c) = (0 : EReal) := by
  pointwise [k0_pay94, k0_pay92]
theorem pay1_at (r : Fin 112) (c : Fin 1024) : k0_pay1 (F := Ideal) (k0_pay92 (F := Ideal)) (ix2 r c) = (0 : EReal) := by
  pointwise [k0_pay1, k0_pay92]
theorem pay91_at (x : FVec Ideal S1x2064x1024 .bf16) (r : Fin 2064) (c : Fin 1024) : k0_pay91 (F := Ideal) x (ix2 r c) = x (ix3 0 r c) := by
  pointwise [k0_pay91]
theorem pay6_at (x : FVec Ideal S2064x1024 .bf16) (r : Fin 2064) (c : Fin 1024) : k0_pay6 (F := Ideal) x (ix3 0 r c) = x (ix2 r c) := by
  pointwise [k0_pay6]

/-! ## Stores by heads -/

section
variable (m : Memref sig .tc .vmem S2176x1024 .bf16) (f : m.view.ty.Contents (Elt Ideal))

/-- Feature `d` of head `h`. -/
abbrev col (h : Fin 8) (d : Fin 128) : Fin 1024 := ⟨128 * (h : ℕ) + d, by omega⟩

/-- A head's store, read there. -/
theorem head_hit {N a : ℕ} (off : Fin 2 → ℕ) (inb : ∀ k, off k + (![N, 128] : Fin 2 → ℕ) k ≤ S2176x1024.size k) (w : FVec Ideal ⟨2, ![N, 128]⟩ .bf16) (L) (h : Fin 8) (e : off = ![a, 128 * (h : ℕ)])
    (q : Fin 2176) (r : Fin N) (hq : (q : ℕ) = a + r) (d : Fin 128) :
    m.view.read (Elt Ideal) (m.view.writes (Elt Ideal) f ((⟨Rect.unit (s := S2176x1024) off (![N, 128] : Fin 2 → ℕ) inb, w⟩ : View.Piece (Elt Ideal) S2176x1024 .bf16) :: L)) (ix2 q (col h d)) = w (ix2 r d) :=
  View.read_writes_cons_unit_of_mem m.view f inb w L (ix2 q (col h d)) (ix2 r d) e fun k => match k with
    | ⟨0, _⟩ => hq
    | ⟨1, _⟩ => rfl

/-- A head's store, read at another head. -/
theorem head_skip {N a : ℕ} (off : Fin 2 → ℕ) (inb : ∀ k, off k + (![N, 128] : Fin 2 → ℕ) k ≤ S2176x1024.size k) (w : FVec Ideal ⟨2, ![N, 128]⟩ .bf16) (L) (h j : Fin 8) (e : off = ![a, 128 * (j : ℕ)])
    (q : Fin 2176) (d : Fin 128) (hj : h ≠ j) :
    m.view.read (Elt Ideal) (m.view.writes (Elt Ideal) f ((⟨Rect.unit (s := S2176x1024) off (![N, 128] : Fin 2 → ℕ) inb, w⟩ : View.Piece (Elt Ideal) S2176x1024 .bf16) :: L)) (ix2 q (col h d))
      = m.view.read (Elt Ideal) (m.view.writes (Elt Ideal) f L) (ix2 q (col h d)) :=
  View.read_writes_cons_unit_of_not_mem m.view f inb w L (ix2 q (col h d)) e 1 (by
    have hne : (h : ℕ) ≠ j := fun x => hj (Fin.ext x)
    show 128 * (h : ℕ) + d < 128 * (j : ℕ) ∨ 128 * (j : ℕ) + 128 ≤ 128 * (h : ℕ) + d
    omega)

/-- Rows stored, read at another row. -/
theorem rows_skip {N C a b : ℕ} (off : Fin 2 → ℕ) (inb : ∀ k, off k + (![N, C] : Fin 2 → ℕ) k ≤ S2176x1024.size k) (w : FVec Ideal ⟨2, ![N, C]⟩ .bf16) (L) (e : off = ![a, b])
    (q : Fin 2176) (c : Fin 1024) (hq : (q : ℕ) < a ∨ a + N ≤ q) :
    m.view.read (Elt Ideal) (m.view.writes (Elt Ideal) f ((⟨Rect.unit (s := S2176x1024) off (![N, C] : Fin 2 → ℕ) inb, w⟩ : View.Piece (Elt Ideal) S2176x1024 .bf16) :: L)) (ix2 q c)
      = m.view.read (Elt Ideal) (m.view.writes (Elt Ideal) f L) (ix2 q c) :=
  View.read_writes_cons_unit_of_not_mem m.view f inb w L (ix2 q c) e 0 hq

/-- Whole rows stored, read there. -/
theorem rows_hit {N a : ℕ} (off : Fin 2 → ℕ) (inb : ∀ k, off k + (![N, 1024] : Fin 2 → ℕ) k ≤ S2176x1024.size k) (w : FVec Ideal ⟨2, ![N, 1024]⟩ .bf16) (L) (e : off = ![a, 0])
    (q : Fin 2176) (r : Fin N) (hq : (q : ℕ) = a + r) (c : Fin 1024) :
    m.view.read (Elt Ideal) (m.view.writes (Elt Ideal) f ((⟨Rect.unit (s := S2176x1024) off (![N, 1024] : Fin 2 → ℕ) inb, w⟩ : View.Piece (Elt Ideal) S2176x1024 .bf16) :: L)) (ix2 q c) = w (ix2 r c) :=
  View.read_writes_cons_unit_of_mem m.view f inb w L (ix2 q c) (ix2 r c) e fun k => match k with
    | ⟨0, _⟩ => hq
    | ⟨1, _⟩ => (Nat.zero_add _).symm

/-- The store of head `j` from row `a` on. -/
abbrev headPiece {N : ℕ} (off : Fin 2 → ℕ) (inb : ∀ k, off k + (![N, 128] : Fin 2 → ℕ) k ≤ S2176x1024.size k) (w : FVec Ideal ⟨2, ![N, 128]⟩ .bf16) : View.Piece (Elt Ideal) S2176x1024 .bf16 :=
  ⟨Rect.unit (s := S2176x1024) off (![N, 128] : Fin 2 → ℕ) inb, w⟩

/-- Eight heads stored one after the other, read at one of them. -/
theorem heads_hit {N a : ℕ} {o7 o6 o5 o4 o3 o2 o1 o0 : Fin 2 → ℕ} (i7 i6 i5 i4 i3 i2 i1 i0) (w7 w6 w5 w4 w3 w2 w1 w0 : FVec Ideal ⟨2, ![N, 128]⟩ .bf16) (L)
    (e7 : o7 = ![a, 128 * ((7 : Fin 8) : ℕ)]) (e6 : o6 = ![a, 128 * ((6 : Fin 8) : ℕ)]) (e5 : o5 = ![a, 128 * ((5 : Fin 8) : ℕ)]) (e4 : o4 = ![a, 128 * ((4 : Fin 8) : ℕ)])
    (e3 : o3 = ![a, 128 * ((3 : Fin 8) : ℕ)]) (e2 : o2 = ![a, 128 * ((2 : Fin 8) : ℕ)]) (e1 : o1 = ![a, 128 * ((1 : Fin 8) : ℕ)]) (e0 : o0 = ![a, 128 * ((0 : Fin 8) : ℕ)])
    (q : Fin 2176) (r : Fin N) (hq : (q : ℕ) = a + r) (d : Fin 128) (G : Fin 8 → EReal)
    (g7 : w7 (ix2 r d) = G 7) (g6 : w6 (ix2 r d) = G 6) (g5 : w5 (ix2 r d) = G 5) (g4 : w4 (ix2 r d) = G 4)
    (g3 : w3 (ix2 r d) = G 3) (g2 : w2 (ix2 r d) = G 2) (g1 : w1 (ix2 r d) = G 1) (g0 : w0 (ix2 r d) = G 0) (h : Fin 8) :
    m.view.read (Elt Ideal) (m.view.writes (Elt Ideal) f (headPiece o7 i7 w7 :: headPiece o6 i6 w6 :: headPiece o5 i5 w5 :: headPiece o4 i4 w4
      :: headPiece o3 i3 w3 :: headPiece o2 i2 w2 :: headPiece o1 i1 w1 :: headPiece o0 i0 w0 :: L)) (ix2 q (col h d)) = G h := by
  by_cases h7 : h = 7
  · rw [h7, ← g7]; exact head_hit m f o7 i7 w7 _ 7 e7 q r hq d
  rw [head_skip m f o7 i7 w7 _ h 7 e7 q d h7]
  by_cases h6 : h = 6
  · rw [h6, ← g6]; exact head_hit m f o6 i6 w6 _ 6 e6 q r hq d
  rw [head_skip m f o6 i6 w6 _ h 6 e6 q d h6]
  by_cases h5 : h = 5
  · rw [h5, ← g5]; exact head_hit m f o5 i5 w5 _ 5 e5 q r hq d
  rw [head_skip m f o5 i5 w5 _ h 5 e5 q d h5]
  by_cases h4 : h = 4
  · rw [h4, ← g4]; exact head_hit m f o4 i4 w4 _ 4 e4 q r hq d
  rw [head_skip m f o4 i4 w4 _ h 4 e4 q d h4]
  by_cases h3 : h = 3
  · rw [h3, ← g3]; exact head_hit m f o3 i3 w3 _ 3 e3 q r hq d
  rw [head_skip m f o3 i3 w3 _ h 3 e3 q d h3]
  by_cases h2 : h = 2
  · rw [h2, ← g2]; exact head_hit m f o2 i2 w2 _ 2 e2 q r hq d
  rw [head_skip m f o2 i2 w2 _ h 2 e2 q d h2]
  by_cases h1 : h = 1
  · rw [h1, ← g1]; exact head_hit m f o1 i1 w1 _ 1 e1 q r hq d
  rw [head_skip m f o1 i1 w1 _ h 1 e1 q d h1]
  have hv : ∀ j : Fin 8, h ≠ j → (h : ℕ) ≠ j := fun j hj x => hj (Fin.ext x)
  have h0 : h = 0 := Fin.ext (by
    have := hv 7 h7; have := hv 6 h6; have := hv 5 h5; have := hv 4 h4; have := hv 3 h3; have := hv 2 h2; have := hv 1 h1
    have := h.isLt
    show (h : ℕ) = 0
    simp only [Fin.isValue, Fin.val_one, Fin.coe_ofNat_eq_mod] at *
    omega)
  rw [h0, ← g0]; exact head_hit m f o0 i0 w0 _ 0 e0 q r hq d

/-- Eight heads stored one after the other, read at another row. -/
theorem heads_skip {N a : ℕ} {o7 o6 o5 o4 o3 o2 o1 o0 : Fin 2 → ℕ} (i7 i6 i5 i4 i3 i2 i1 i0) (w7 w6 w5 w4 w3 w2 w1 w0 : FVec Ideal ⟨2, ![N, 128]⟩ .bf16) (L)
    (e7 : o7 = ![a, 128 * ((7 : Fin 8) : ℕ)]) (e6 : o6 = ![a, 128 * ((6 : Fin 8) : ℕ)]) (e5 : o5 = ![a, 128 * ((5 : Fin 8) : ℕ)]) (e4 : o4 = ![a, 128 * ((4 : Fin 8) : ℕ)])
    (e3 : o3 = ![a, 128 * ((3 : Fin 8) : ℕ)]) (e2 : o2 = ![a, 128 * ((2 : Fin 8) : ℕ)]) (e1 : o1 = ![a, 128 * ((1 : Fin 8) : ℕ)]) (e0 : o0 = ![a, 128 * ((0 : Fin 8) : ℕ)])
    (q : Fin 2176) (c : Fin 1024) (hq : (q : ℕ) < a ∨ a + N ≤ q) :
    m.view.read (Elt Ideal) (m.view.writes (Elt Ideal) f (headPiece o7 i7 w7 :: headPiece o6 i6 w6 :: headPiece o5 i5 w5 :: headPiece o4 i4 w4
      :: headPiece o3 i3 w3 :: headPiece o2 i2 w2 :: headPiece o1 i1 w1 :: headPiece o0 i0 w0 :: L)) (ix2 q c) = m.view.read (Elt Ideal) (m.view.writes (Elt Ideal) f L) (ix2 q c) := by
  rw [rows_skip m f o7 i7 w7 _ e7 q c hq, rows_skip m f o6 i6 w6 _ e6 q c hq, rows_skip m f o5 i5 w5 _ e5 q c hq, rows_skip m f o4 i4 w4 _ e4 q c hq,
    rows_skip m f o3 i3 w3 _ e3 q c hq, rows_skip m f o2 i2 w2 _ e2 q c hq, rows_skip m f o1 i1 w1 _ e1 q c hq, rows_skip m f o0 i0 w0 _ e0 q c hq]
end

end Cert.AttnIdeal.Tile

end
-- ==== Proof.AttnReads.lean ====
/-
  THE ATTENTION'S STORED QUERIES, KEYS, VALUES AND OUTPUT: `stQ_at`, `stK_at`, `stV_at` read the stored rows; `outs_at` the
  output's rows.
-/
module

public import proofs.«01_k».proof.Proof.AttnRows

@[expose] public section

set_option maxRecDepth 16384

noncomputable section

open Idealize.ShloMosaic Idealize.ShloMosaic.TcCoe Idealize.SL.Sem

namespace Cert.AttnIdeal.Tile

open Cert.AttnIdeal.Gen Cert.AttnIdeal.Run Cert.Proof

/-! ## Loads -/

/-- A head of a block of queries or keys and its gains, loaded, as `rowQ` reads them. -/
theorem rowQ_load (m : Memref sig .tc .vmem S1x2064x1024 .bf16) (mg : Memref sig .tc .vmem S1x128 .f32) (X : m.view.ty.Contents (Elt Ideal)) (Y : mg.view.ty.Contents (Elt Ideal))
    (off : Fin 3 → ℕ) (inb : ∀ a, off a + S1x2064x128.size a ≤ S1x2064x1024.size a) (h : Fin 8) (e : off = ![0, 0, 128 * (h : ℕ)]) (r : Fin 2064) (d : Fin 128) :
    rowQ (View.readAt (Elt Ideal) m.view (Rect.unit (s := S1x2064x1024) off S1x2064x128.size inb).toLoadRect X)
        (View.readAt (Elt Ideal) mg.view (Rect.unit (s := S1x128) ![0, 0] S1x128.size inb_S1x128_S1x128_0_0).toLoadRect Y) r d
      = groupAt (fun k => m.view.read (Elt Ideal) X (ix3 0 r (col h k))) (m.view.read (Elt Ideal) X (ix3 0 r (col h d))) (mg.view.read (Elt Ideal) Y (ix2 0 d)) := by
  subst e
  have e1 : ∀ k : Fin 128, View.readAt (Elt Ideal) m.view (Rect.unit (s := S1x2064x1024) ![0, 0, 128 * (h : ℕ)] S1x2064x128.size inb).toLoadRect X (ix3 0 r k)
      = m.view.read (Elt Ideal) X (ix3 0 r (col h k)) := fun k => by
    show m.view.read (Elt Ideal) X _ = _
    congr 1
    funext a
    match a with
    | ⟨0, _⟩ => exact Fin.ext (by show 0 + 1 * 0 = 0; omega)
    | ⟨1, _⟩ => exact Fin.ext (by show 0 + 1 * (r : ℕ) = r; omega)
    | ⟨2, _⟩ => exact Fin.ext (by show 128 * (h : ℕ) + 1 * (k : ℕ) = 128 * (h : ℕ) + k; omega)
  have e2 : View.readAt (Elt Ideal) mg.view (Rect.unit (s := S1x128) ![0, 0] S1x128.size inb_S1x128_S1x128_0_0).toLoadRect Y (ix2 0 d) = mg.view.read (Elt Ideal) Y (ix2 0 d) := by
    show mg.view.read (Elt Ideal) Y _ = _
    congr 1
    funext a
    match a with
    | ⟨0, _⟩ => exact Fin.ext (by show 0 + 1 * 0 = 0; omega)
    | ⟨1, _⟩ => exact Fin.ext (by show 0 + 1 * (d : ℕ) = d; omega)
  exact groupAt_congr e1 (e1 d) e2

/-- A head's tile of the accumulator and its gains, loaded, as `rowOut` reads them. -/
theorem rowOut_load (m : Memref sig .tc .vmem S1024x128 .f32) (mg : Memref sig .tc .vmem S1x1024 .f32) (X : m.view.ty.Contents (Elt Ideal)) (Y : mg.view.ty.Contents (Elt Ideal))
    (off : Fin 2 → ℕ) (inb : ∀ a, off a + S128x128.size a ≤ S1024x128.size a) (offg : Fin 2 → ℕ) (inbg : ∀ a, offg a + S1x128.size a ≤ S1x1024.size a)
    (h : Fin 8) (e : off = ![128 * (h : ℕ), 0]) (eg : offg = ![0, 128 * (h : ℕ)]) (r d : Fin 128) :
    rowOut (View.readAt (Elt Ideal) m.view (Rect.unit (s := S1024x128) off S128x128.size inb).toLoadRect X)
        (View.readAt (Elt Ideal) mg.view (Rect.unit (s := S1x1024) offg S1x128.size inbg).toLoadRect Y) r d
      = groupAt (fun k => m.view.read (Elt Ideal) X (ix2 (hrow h r) k)) (m.view.read (Elt Ideal) X (ix2 (hrow h r) d)) (mg.view.read (Elt Ideal) Y (ix2 0 (col h d))) := by
  subst e; subst eg
  have e1 : ∀ k : Fin 128, View.readAt (Elt Ideal) m.view (Rect.unit (s := S1024x128) ![128 * (h : ℕ), 0] S128x128.size inb).toLoadRect X (ix2 r k)
      = m.view.read (Elt Ideal) X (ix2 (hrow h r) k) := fun k => by
    show m.view.read (Elt Ideal) X _ = _
    congr 1
    funext a
    match a with
    | ⟨0, _⟩ => exact Fin.ext (by show 128 * (h : ℕ) + 1 * (r : ℕ) = 128 * (h : ℕ) + r; omega)
    | ⟨1, _⟩ => exact Fin.ext (by show 0 + 1 * (k : ℕ) = k; omega)
  have e2 : View.readAt (Elt Ideal) mg.view (Rect.unit (s := S1x1024) ![0, 128 * (h : ℕ)] S1x128.size inbg).toLoadRect Y (ix2 0 d) = mg.view.read (Elt Ideal) Y (ix2 0 (col h d)) := by
    show mg.view.read (Elt Ideal) Y _ = _
    congr 1
    funext a
    match a with
    | ⟨0, _⟩ => exact Fin.ext (by show 0 + 1 * 0 = 0; omega)
    | ⟨1, _⟩ => exact Fin.ext (by show 128 * (h : ℕ) + 1 * (d : ℕ) = 128 * (h : ℕ) + d; omega)
  exact groupAt_congr e1 (e1 d) e2

/-! ## The stored queries, keys and values -/

section
variable (arg1 arg2 arg3 : Memref sig .tc .vmem S1x2064x1024 .bf16) (arg4 arg5 : Memref sig .tc .vmem S1x128 .f32) (arg8 arg9 arg10 : Memref sig .tc .vmem S2176x1024 .bf16)
  (f1 : arg1.view.ty.Contents (Elt Ideal)) (f2 : arg2.view.ty.Contents (Elt Ideal)) (f3 : arg3.view.ty.Contents (Elt Ideal))
  (f4 : arg4.view.ty.Contents (Elt Ideal)) (f5 : arg5.view.ty.Contents (Elt Ideal))

theorem stQ_at (q : Fin 2176) (r : Fin 2064) (hq : (q : ℕ) = r) (h : Fin 8) (d : Fin 128) :
    arg8.view.read (Elt Ideal) (stQ (F := Ideal) arg1 arg4 arg8 f1 f4) (ix2 q (col h d))
      = groupAt (fun k => arg1.view.read (Elt Ideal) f1 (ix3 0 r (col h k))) (arg1.view.read (Elt Ideal) f1 (ix3 0 r (col h d))) (arg4.view.read (Elt Ideal) f4 (ix2 0 d)) := by
  unfold stQ setQ
  refine (rows_skip arg8 _ (N := 112) (C := 1024) ![2064, 0] _ _ _ rfl q _ (Or.inl (by omega))).trans ?_
  exact heads_hit (N := 2064) (a := 0) arg8 _ _ _ _ _ _ _ _ _ _ _ _ _ _ _ _ _ _ rfl rfl rfl rfl rfl rfl rfl rfl q r (by omega) d
    (fun h => groupAt (fun k => arg1.view.read (Elt Ideal) f1 (ix3 0 r (col h k))) (arg1.view.read (Elt Ideal) f1 (ix3 0 r (col h d))) (arg4.view.read (Elt Ideal) f4 (ix2 0 d)))
    ((pay89_at _ _ r d).trans (rowQ_load arg1 arg4 f1 f4 _ _ 7 rfl r d)) ((pay87_at _ _ r d).trans (rowQ_load arg1 arg4 f1 f4 _ _ 6 rfl r d))
    ((pay84_at _ _ r d).trans (rowQ_load arg1 arg4 f1 f4 _ _ 5 rfl r d)) ((pay79_at _ _ r d).trans (rowQ_load arg1 arg4 f1 f4 _ _ 4 rfl r d))
    ((pay74_at _ _ r d).trans (rowQ_load arg1 arg4 f1 f4 _ _ 3 rfl r d)) ((pay68_at _ _ r d).trans (rowQ_load arg1 arg4 f1 f4 _ _ 2 rfl r d))
    ((pay64_at _ _ r d).trans (rowQ_load arg1 arg4 f1 f4 _ _ 1 rfl r d)) ((pay61_at _ _ r d).trans (rowQ_load arg1 arg4 f1 f4 _ _ 0 rfl r d)) h

theorem stK_at (q : Fin 2176) (r : Fin 2064) (hq : (q : ℕ) = r) (h : Fin 8) (d : Fin 128) :
    arg9.view.read (Elt Ideal) (stK (F := Ideal) arg2 arg5 arg9 f2 f5) (ix2 q (col h d))
      = groupAt (fun k => arg2.view.read (Elt Ideal) f2 (ix3 0 r (col h k))) (arg2.view.read (Elt Ideal) f2 (ix3 0 r (col h d))) (arg5.view.read (Elt Ideal) f5 (ix2 0 d)) := by
  unfold stK setK
  refine (rows_skip arg9 _ (N := 112) (C := 1024) ![2064, 0] _ _ _ rfl q _ (Or.inl (by omega))).trans ?_
  exact heads_hit (N := 2064) (a := 0) arg9 _ _ _ _ _ _ _ _ _ _ _ _ _ _ _ _ _ _ rfl rfl rfl rfl rfl rfl rfl rfl q r (by omega) d
    (fun h => groupAt (fun k => arg2.view.read (Elt Ideal) f2 (ix3 0 r (col h k))) (arg2.view.read (Elt Ideal) f2 (ix3 0 r (col h d))) (arg5.view.read (Elt Ideal) f5 (ix2 0 d)))
    ((pay90_at _ _ r d).trans (rowQ_load arg2 arg5 f2 f5 _ _ 7 rfl r d)) ((pay88_at _ _ r d).trans (rowQ_load arg2 arg5 f2 f5 _ _ 6 rfl r d))
    ((pay86_at _ _ r d).trans (rowQ_load arg2 arg5 f2 f5 _ _ 5 rfl r d)) ((pay83_at _ _ r d).trans (rowQ_load arg2 arg5 f2 f5 _ _ 4 rfl r d))
    ((pay78_at _ _ r d).trans (rowQ_load arg2 arg5 f2 f5 _ _ 3 rfl r d)) ((pay73_at _ _ r d).trans (rowQ_load arg2 arg5 f2 f5 _ _ 2 rfl r d))
    ((pay67_at _ _ r d).trans (rowQ_load arg2 arg5 f2 f5 _ _ 1 rfl r d)) ((pay63_at _ _ r d).trans (rowQ_load arg2 arg5 f2 f5 _ _ 0 rfl r d)) h

theorem stV_at (q : Fin 2176) (r : Fin 2064) (hq : (q : ℕ) = r) (c : Fin 1024) :
    arg10.view.read (Elt Ideal) (stV (F := Ideal) arg3 arg10 f3) (ix2 q c) = arg3.view.read (Elt Ideal) f3 (ix3 0 r c) := by
  unfold stV setV
  refine (rows_skip arg10 _ (N := 112) (C := 1024) ![2064, 0] _ _ _ rfl q _ (Or.inl (by omega))).trans ?_
  refine (rows_hit arg10 _ (N := 2064) (a := 0) ![0, 0] _ _ _ rfl q r (by omega) c).trans ((pay91_at _ r c).trans ?_)
  show arg3.view.read (Elt Ideal) f3 _ = _
  congr 1
  funext a
  match a with
  | ⟨0, _⟩ => exact Fin.ext (by show 0 + 1 * 0 = 0; omega)
  | ⟨1, _⟩ => exact Fin.ext (by show 0 + 1 * (r : ℕ) = r; omega)
  | ⟨2, _⟩ => exact Fin.ext (by show 0 + 1 * (c : ℕ) = c; omega)

theorem stQ_pad (q : Fin 2176) (hq : 2064 ≤ (q : ℕ)) (c : Fin 1024) : arg8.view.read (Elt Ideal) (stQ (F := Ideal) arg1 arg4 arg8 f1 f4) (ix2 q c) = (0 : EReal) := by
  unfold stQ setQ
  exact (rows_hit arg8 _ (N := 112) (a := 2064) ![2064, 0] _ _ _ rfl q ⟨(q : ℕ) - 2064, by omega⟩ (by show (q : ℕ) = 2064 + (q - 2064); omega) c).trans (pay93_at _ c)

theorem stK_pad (q : Fin 2176) (hq : 2064 ≤ (q : ℕ)) (c : Fin 1024) : arg9.view.read (Elt Ideal) (stK (F := Ideal) arg2 arg5 arg9 f2 f5) (ix2 q c) = (0 : EReal) := by
  unfold stK setK
  exact (rows_hit arg9 _ (N := 112) (a := 2064) ![2064, 0] _ _ _ rfl q ⟨(q : ℕ) - 2064, by omega⟩ (by show (q : ℕ) = 2064 + (q - 2064); omega) c).trans (pay94_at _ c)
end

/-! ## The output's rows -/

section
variable {arg6 : Memref sig .tc .vmem S1x1024 .f32} {arg8 arg9 arg10 arg11 : Memref sig .tc .vmem S2176x1024 .bf16} {arg12 arg13 : Memref sig .tc .vmem S1024x128 .f32}
  (X6 : arg6.view.ty.Contents (Elt Ideal)) (X8 : arg8.view.ty.Contents (Elt Ideal)) (X9 : arg9.view.ty.Contents (Elt Ideal)) (X10 : arg10.view.ty.Contents (Elt Ideal))
  (z : Fin 8 → ℕ → ℕ → ℝ) (hz : ∀ h q s, dotS (arg8.view.read (Elt Ideal) X8) (arg9.view.read (Elt Ideal) X9) h q s = (z h q s : EReal))

/-- The attention of query `q`, normalised over the head's features. -/
def rowS (G : S1x1024.Idx → EReal) (V : ℕ → ℕ → EReal) (z : Fin 8 → ℕ → ℕ → ℝ) (h : Fin 8) (q : ℕ) (d : Fin 128) : EReal :=
  groupAt (fun k => outS (z h q) (fun s => V s (128 * (h : ℕ) + k)) q 0) (outS (z h q) (fun s => V s (128 * (h : ℕ) + d)) q 0) (G (ix2 0 (col h d)))

include hz in
theorem rowOut_fin (t : Fin k0_t1_loop.trips) (off : Fin 2 → ℕ) (inb : ∀ a, off a + S128x128.size a ≤ S1024x128.size a) (offg : Fin 2 → ℕ) (inbg : ∀ a, offg a + S1x128.size a ≤ S1x1024.size a)
    (h : Fin 8) (e : off = ![128 * (h : ℕ), 0]) (eg : offg = ![0, 128 * (h : ℕ)]) (r d : Fin 128) :
    rowOut (View.readAt (Elt Ideal) arg12.view (Rect.unit (s := S1024x128) off S128x128.size inb).toLoadRect (fin12 (F := Ideal) arg8 arg9 arg10 arg12 arg13 X8 X9 X10 t))
        (View.readAt (Elt Ideal) arg6.view (Rect.unit (s := S1x1024) offg S1x128.size inbg).toLoadRect X6) r d
      = rowS (arg6.view.read (Elt Ideal) X6) (rowsAt (arg10.view.read (Elt Ideal) X10)) z h (128 * t + r) d :=
  (rowOut_load arg12 arg6 _ X6 off inb offg inbg h e eg r d).trans
    (groupAt_congr (fun k => fin12_at (arg12 := arg12) (arg13 := arg13) X8 X9 X10 t z hz h r k) (fin12_at (arg12 := arg12) (arg13 := arg13) X8 X9 X10 t z hz h r d) rfl)

include hz in
/-- The rows that the first `n` query tiles store. -/
theorem outs_at (f : arg11.view.ty.Contents (Elt Ideal)) (n : ℕ) (hn : n ≤ k0_t1_loop.trips) (q : Fin 2176) (hq : (q : ℕ) < 128 * n) (h : Fin 8) (d : Fin 128) :
    arg11.view.read (Elt Ideal) (arg11.view.writes (Elt Ideal) f (outs (F := Ideal) arg6 arg8 arg9 arg10 arg12 arg13 X6 X8 X9 X10 n)) (ix2 q (col h d))
      = rowS (arg6.view.read (Elt Ideal) X6) (rowsAt (arg10.view.read (Elt Ideal) X10)) z h q d := by
  induction n with
  | zero => omega
  | succ n ih =>
    have es := outs_succ (F := Ideal) (arg6 := arg6) (arg8 := arg8) (arg9 := arg9) (arg10 := arg10) (arg12 := arg12) (arg13 := arg13) X6 X8 X9 X10 ⟨n, hn⟩
    rw [show outs (F := Ideal) arg6 arg8 arg9 arg10 arg12 arg13 X6 X8 X9 X10 (n + 1) = _ from es]
    by_cases hlt : (q : ℕ) < 128 * n
    · refine Eq.trans ?_ (ih (Nat.le_of_succ_le hn) hlt)
      exact heads_skip (N := 128) (a := 128 * n) arg11 f _ _ _ _ _ _ _ _ _ _ _ _ _ _ _ _ _
        (doff7 ⟨n, hn⟩) (doff6 ⟨n, hn⟩) (doff5 ⟨n, hn⟩) (doff4 ⟨n, hn⟩) (doff3 ⟨n, hn⟩) (doff2 ⟨n, hn⟩) (doff1 ⟨n, hn⟩) (doff0 ⟨n, hn⟩) q (col h d) (Or.inl hlt)
    · have hr : (q : ℕ) = 128 * n + ((⟨(q : ℕ) - 128 * n, by omega⟩ : Fin 128) : ℕ) := by show (q : ℕ) = 128 * n + (q - 128 * n); omega
      generalize (⟨(q : ℕ) - 128 * n, by omega⟩ : Fin 128) = r at hr
      rw [hr]
      exact heads_hit (N := 128) (a := 128 * n) arg11 f _ _ _ _ _ _ _ _ _ _ _ _ _ _ _ _ _
        (doff7 ⟨n, hn⟩) (doff6 ⟨n, hn⟩) (doff5 ⟨n, hn⟩) (doff4 ⟨n, hn⟩) (doff3 ⟨n, hn⟩) (doff2 ⟨n, hn⟩) (doff1 ⟨n, hn⟩) (doff0 ⟨n, hn⟩) q r hr d
        (fun h => rowS (arg6.view.read (Elt Ideal) X6) (rowsAt (arg10.view.read (Elt Ideal) X10)) z h (128 * n + r) d)
        ((pay5_at _ _ r d).trans (rowOut_fin X6 X8 X9 X10 z hz ⟨n, hn⟩ _ _ _ _ 7 rfl rfl r d))
        ((pay4_at _ _ r d).trans (rowOut_fin X6 X8 X9 X10 z hz ⟨n, hn⟩ _ _ _ _ 6 rfl rfl r d))
        ((pay59_at _ _ r d).trans (rowOut_fin X6 X8 X9 X10 z hz ⟨n, hn⟩ _ _ _ _ 5 rfl rfl r d))
        ((pay58_at _ _ r d).trans (rowOut_fin X6 X8 X9 X10 z hz ⟨n, hn⟩ _ _ _ _ 4 rfl rfl r d))
        ((pay56_at _ _ r d).trans (rowOut_fin X6 X8 X9 X10 z hz ⟨n, hn⟩ _ _ _ _ 3 rfl rfl r d))
        ((pay55_at _ _ r d).trans (rowOut_fin X6 X8 X9 X10 z hz ⟨n, hn⟩ _ _ _ _ 2 rfl rfl r d))
        ((pay54_at _ _ r d).trans (rowOut_fin X6 X8 X9 X10 z hz ⟨n, hn⟩ _ _ _ _ 1 rfl rfl r d))
        ((pay53_at _ _ r d).trans (rowOut_fin X6 X8 X9 X10 z hz ⟨n, hn⟩ _ _ _ _ 0 rfl rfl r d)) h
end

end Cert.AttnIdeal.Tile

end
-- ==== Proof.AttnBlock.lean ====
/-
  A BLOCK OF THE ATTENTION. Where the gains of the queries' and of the keys' norm are numbers the stored queries and keys are
  numbers (`group_real`), whatever the projections are, so the scores are (`dot_real`); then the block that the body writes is
  `attnBlock` of its input blocks.
-/
module

public import proofs.«01_k».proof.Proof.AttnReads

@[expose] public section

set_option maxRecDepth 16384

noncomputable section

open Idealize.ShloMosaic Idealize.ShloMosaic.TcCoe Idealize.SL.Sem

namespace Cert.AttnIdeal.Tile

open Cert.AttnIdeal.Gen Cert.AttnIdeal.Run Cert.Proof

/-! ## Numbers -/

theorem ofBits_128 : Ideal.ofBits .f32 1124073472#32 = ((128 : ℝ) : EReal) := by
  simp [Ideal.ofBits, Ideal.ieee, -EReal.coe_mul]; norm_num

theorem ofBits_eps : ∃ e : ℝ, 0 < e ∧ Ideal.ofBits .f32 897988541#32 = (e : EReal) :=
  ⟨8796093 * 2 ^ (-43 : ℤ), by positivity, by simp [Ideal.ofBits, Ideal.ieee, -EReal.coe_mul]⟩

theorem scale_real : ∃ r : ℝ, scale = (r : EReal) := ⟨_, rfl⟩

theorem sq_nonneg' (x : EReal) : 0 ≤ x * x := by
  induction x with
  | bot => rw [EReal.bot_mul_bot]; exact le_top
  | coe r => rw [← EReal.coe_mul]; exact_mod_cast mul_self_nonneg r
  | top => rw [EReal.top_mul_top]; exact le_top

theorem div_coe (x : EReal) (c : ℝ) (hc : c ≠ 0) : Ideal.div x (c : EReal) = x * ((c⁻¹ : ℝ) : EReal) := by
  unfold Ideal.div
  rw [if_neg (by exact_mod_cast hc), EReal.coe_inv]

/-- A feature of a normalised group is a number where its gain is. -/
theorem group_real (y : Fin 128 → EReal) (k : Fin 128) (g : ℝ) : ∃ r : ℝ, groupAt y (y k) (g : EReal) = (r : EReal) := by
  obtain ⟨e, he, hee⟩ := ofBits_eps
  unfold groupAt
  rw [ofBits_128, hee, div_coe _ _ (by norm_num)]
  have hS : y k * y k ≤ ∑ k, y k * y k := Finset.single_le_sum (f := fun k => y k * y k) (fun k _ => sq_nonneg' (y k)) (Finset.mem_univ k)
  generalize (∑ k, y k * y k) = S at hS
  have h0 := (sq_nonneg' (y k)).trans hS
  have top : S = ⊤ → Ideal.rsqrt (S * (((128 : ℝ)⁻¹ : ℝ) : EReal) + (e : EReal)) = 0 := by
    rintro rfl
    rw [EReal.top_mul_coe_of_pos (by norm_num), EReal.top_add_coe]
    rfl
  have rs : ∃ r : ℝ, Ideal.rsqrt (S * (((128 : ℝ)⁻¹ : ℝ) : EReal) + (e : EReal)) = (r : EReal) := by
    induction S with
    | bot => exact absurd h0 (by decide)
    | top => exact ⟨0, top rfl⟩
    | coe s =>
      have hs : 0 ≤ s := by exact_mod_cast h0
      rw [← EReal.coe_mul, ← EReal.coe_add]
      have hp : 0 < s * (128 : ℝ)⁻¹ + e := by positivity
      refine ⟨(Real.sqrt (s * (128 : ℝ)⁻¹ + e))⁻¹, ?_⟩
      show (if _ < 0 then _ else if _ = 0 then _ else _) = _
      rw [if_neg (not_lt.2 hp.le), if_neg hp.ne']
  generalize y k = v at hS
  induction v with
  | bot =>
    rw [EReal.bot_mul_bot, top_le_iff] at hS
    exact ⟨0, by rw [top hS, mul_zero, zero_mul]; rfl⟩
  | top =>
    rw [EReal.top_mul_top, top_le_iff] at hS
    exact ⟨0, by rw [top hS, mul_zero, zero_mul]; rfl⟩
  | coe v =>
    obtain ⟨r, hr⟩ := rs
    exact ⟨v * r * g, by rw [hr, EReal.coe_mul, EReal.coe_mul]⟩

theorem dot_real (Q K : S2176x1024.Idx → EReal) (hQ : ∀ i, ∃ r : ℝ, Q i = (r : EReal)) (hK : ∀ i, ∃ r : ℝ, K i = (r : EReal)) (h : Fin 8) (q s : ℕ) :
    ∃ r : ℝ, dotS Q K h q s = (r : EReal) := by
  have hr : ∀ (A : S2176x1024.Idx → EReal), (∀ i, ∃ r : ℝ, A i = (r : EReal)) → ∀ a b, ∃ r : ℝ, rowsAt A a b = (r : EReal) := fun A hA a b => by
    unfold rowsAt
    split
    · exact hA _
    · exact ⟨0, rfl⟩
  choose x hx using hr Q hQ
  choose y hy using hr K hK
  obtain ⟨c, hc⟩ := scale_real
  refine ⟨(∑ d : Fin 128, x q (128 * (h : ℕ) + d) * y s (128 * (h : ℕ) + d)) * c, ?_⟩
  unfold dotS
  rw [hc, EReal.coe_mul, coe_sum']
  congr 1
  refine Finset.sum_congr rfl fun d _ => ?_
  rw [hx, hy, EReal.coe_mul]

/-! ## The block -/

/-- The stored queries or keys: each head normalised, zeros after the last token. -/
def storedQ (v : S1x2064x1024.Idx → EReal) (g : S1x128.Idx → EReal) : S2176x1024.Idx → EReal := fun i =>
  if h : (i 0 : ℕ) < 2064 then groupAt (fun k => v (ix3 0 ⟨i 0, h⟩ (col ⟨(i 1 : ℕ) / 128, by have h1 : (i 1 : ℕ) < 1024 := (i 1).isLt; omega⟩ k)))
    (v (ix3 0 ⟨i 0, h⟩ (col ⟨(i 1 : ℕ) / 128, by have h1 : (i 1 : ℕ) < 1024 := (i 1).isLt; omega⟩ ⟨(i 1 : ℕ) % 128, by omega⟩))) (g (ix2 0 ⟨(i 1 : ℕ) % 128, by omega⟩)) else 0

/-- The values by their numbers. -/
def valAt (v : S1x2064x1024.Idx → EReal) (s c : ℕ) : EReal := if h : s < 2064 ∧ c < 1024 then v (ix3 0 ⟨s, h.1⟩ ⟨c, h.2⟩) else 0

/-- The scores. -/
def scoreZ (v1 v2 : S1x2064x1024.Idx → EReal) (v4 v5 : S1x128.Idx → EReal) (h : Fin 8) (q s : ℕ) : ℝ := (dotS (storedQ v1 v4) (storedQ v2 v5) h q s).toReal

/-- The block that the body writes. -/
def attnBlock (v1 v2 v3 : S1x2064x1024.Idx → EReal) (v4 v5 : S1x128.Idx → EReal) (v6 : S1x1024.Idx → EReal) : S1x2064x1024.Idx → EReal := fun i =>
  rowS v6 (valAt v3) (scoreZ v1 v2 v4 v5) ⟨(i 2 : ℕ) / 128, by have h : (i 2 : ℕ) < 1024 := (i 2).isLt; omega⟩ (i 1 : ℕ) ⟨(i 2 : ℕ) % 128, by omega⟩

theorem storedQ_real (v : S1x2064x1024.Idx → EReal) (g : S1x128.Idx → EReal) (hg : ∀ d : Fin 128, ∃ r : ℝ, g (ix2 0 d) = (r : EReal)) (i : S2176x1024.Idx) :
    ∃ r : ℝ, storedQ v g i = (r : EReal) := by
  unfold storedQ
  split
  · obtain ⟨r, hr⟩ := hg ⟨(i 1 : ℕ) % 128, by omega⟩
    rw [hr]
    exact group_real (fun k => v (ix3 0 ⟨i 0, _⟩ (col ⟨(i 1 : ℕ) / 128, _⟩ k))) _ r
  · exact ⟨0, rfl⟩

theorem col_split (c : Fin 1024) : c = col ⟨(c : ℕ) / 128, by omega⟩ ⟨(c : ℕ) % 128, by omega⟩ := Fin.ext (by show (c : ℕ) = 128 * ((c : ℕ) / 128) + (c : ℕ) % 128; omega)

section
variable (arg1 arg2 arg3 : Memref sig .tc .vmem S1x2064x1024 .bf16) (arg4 arg5 : Memref sig .tc .vmem S1x128 .f32) (arg6 : Memref sig .tc .vmem S1x1024 .f32)
  (arg7 : Memref sig .tc .vmem S1x2064x1024 .bf16) (arg8 arg9 arg10 arg11 : Memref sig .tc .vmem S2176x1024 .bf16) (arg12 arg13 : Memref sig .tc .vmem S1024x128 .f32)
  (f1 : arg1.view.ty.Contents (Elt Ideal)) (f2 : arg2.view.ty.Contents (Elt Ideal)) (f3 : arg3.view.ty.Contents (Elt Ideal))
  (f4 : arg4.view.ty.Contents (Elt Ideal)) (f5 : arg5.view.ty.Contents (Elt Ideal)) (f6 : arg6.view.ty.Contents (Elt Ideal)) (f7 : arg7.view.ty.Contents (Elt Ideal))

theorem stQ_eq : arg8.view.read (Elt Ideal) (stQ (F := Ideal) arg1 arg4 arg8 f1 f4) = storedQ (arg1.view.read (Elt Ideal) f1) (arg4.view.read (Elt Ideal) f4) := by
  funext i
  obtain ⟨q, c, rfl⟩ : ∃ (q : Fin 2176) (c : Fin 1024), i = ix2 q c := ⟨i 0, i 1, eq_ix2 i⟩
  unfold storedQ
  by_cases hq : (q : ℕ) < 2064
  · rw [dif_pos (show ((ix2 q c : S2176x1024.Idx) 0 : ℕ) < 2064 from hq)]
    refine (congrArg (fun c => arg8.view.read (Elt Ideal) (stQ (F := Ideal) arg1 arg4 arg8 f1 f4) (ix2 q c)) (col_split c)).trans ?_
    exact stQ_at arg1 arg4 arg8 f1 f4 q ⟨q, hq⟩ rfl _ _
  · rw [dif_neg (show ¬((ix2 q c : S2176x1024.Idx) 0 : ℕ) < 2064 from hq)]
    exact stQ_pad arg1 arg4 arg8 f1 f4 q (by omega) c

theorem stK_eq : arg9.view.read (Elt Ideal) (stK (F := Ideal) arg2 arg5 arg9 f2 f5) = storedQ (arg2.view.read (Elt Ideal) f2) (arg5.view.read (Elt Ideal) f5) := by
  funext i
  obtain ⟨q, c, rfl⟩ : ∃ (q : Fin 2176) (c : Fin 1024), i = ix2 q c := ⟨i 0, i 1, eq_ix2 i⟩
  unfold storedQ
  by_cases hq : (q : ℕ) < 2064
  · rw [dif_pos (show ((ix2 q c : S2176x1024.Idx) 0 : ℕ) < 2064 from hq)]
    refine (congrArg (fun c => arg9.view.read (Elt Ideal) (stK (F := Ideal) arg2 arg5 arg9 f2 f5) (ix2 q c)) (col_split c)).trans ?_
    exact stK_at arg2 arg5 arg9 f2 f5 q ⟨q, hq⟩ rfl _ _
  · rw [dif_neg (show ¬((ix2 q c : S2176x1024.Idx) 0 : ℕ) < 2064 from hq)]
    exact stK_pad arg2 arg5 arg9 f2 f5 q (by omega) c

theorem scores_eq (h4 : ∀ d : Fin 128, ∃ r : ℝ, arg4.view.read (Elt Ideal) f4 (ix2 0 d) = (r : EReal)) (h5 : ∀ d : Fin 128, ∃ r : ℝ, arg5.view.read (Elt Ideal) f5 (ix2 0 d) = (r : EReal))
    (h : Fin 8) (q s : ℕ) :
    dotS (arg8.view.read (Elt Ideal) (stQ (F := Ideal) arg1 arg4 arg8 f1 f4)) (arg9.view.read (Elt Ideal) (stK (F := Ideal) arg2 arg5 arg9 f2 f5)) h q s
      = (scoreZ (arg1.view.read (Elt Ideal) f1) (arg2.view.read (Elt Ideal) f2) (arg4.view.read (Elt Ideal) f4) (arg5.view.read (Elt Ideal) f5) h q s : EReal) := by
  rw [stQ_eq, stK_eq]
  obtain ⟨r, hr⟩ := dot_real _ _ (storedQ_real (arg1.view.read (Elt Ideal) f1) _ h4) (storedQ_real (arg2.view.read (Elt Ideal) f2) _ h5) h q s
  unfold scoreZ
  rw [hr]
  rfl

theorem outS_congr (Z : ℕ → ℝ) {V V' : ℕ → EReal} (q a : ℕ) (hV : ∀ s, s < q → V s = V' s) : outS Z V q a = outS Z V' q a :=
  Finset.sum_congr rfl fun s hs => by rw [hV s (Finset.mem_Ico.1 hs).2]

/-- The block that the body writes, read. -/
theorem block_eq (h4 : ∀ d : Fin 128, ∃ r : ℝ, arg4.view.read (Elt Ideal) f4 (ix2 0 d) = (r : EReal)) (h5 : ∀ d : Fin 128, ∃ r : ℝ, arg5.view.read (Elt Ideal) f5 (ix2 0 d) = (r : EReal)) :
    arg7.view.read (Elt Ideal) (arg7.view.writes (Elt Ideal) f7 [outPiece (F := Ideal) arg1 arg2 arg3 arg4 arg5 arg6 arg8 arg9 arg10 arg11 arg12 arg13 f1 f2 f3 f4 f5 f6])
      = attnBlock (arg1.view.read (Elt Ideal) f1) (arg2.view.read (Elt Ideal) f2) (arg3.view.read (Elt Ideal) f3) (arg4.view.read (Elt Ideal) f4)
          (arg5.view.read (Elt Ideal) f5) (arg6.view.read (Elt Ideal) f6) := by
  funext i
  obtain ⟨a, r, c, rfl⟩ : ∃ (a : Fin 1) (r : Fin 2064) (c : Fin 1024), i = ix3 a r c := ⟨i 0, i 1, i 2, eq_ix3 i⟩
  obtain rfl : a = 0 := Fin.ext (by omega)
  unfold outPiece
  refine (View.read_writes_cons_unit_of_mem arg7.view f7 inb_S1x2064x1024_S1x2064x1024_0_0_0 _ [] (ix3 0 r c) (ix3 0 r c) rfl (fun k => match k with
    | ⟨0, _⟩ => (Nat.zero_add _).symm
    | ⟨1, _⟩ => (Nat.zero_add _).symm
    | ⟨2, _⟩ => (Nat.zero_add _).symm)).trans ((pay6_at _ r c).trans ?_)
  unfold rowsOut
  have key := outs_at (arg11 := arg11) (arg12 := arg12) (arg13 := arg13) f6 (stQ (F := Ideal) arg1 arg4 arg8 f1 f4) (stK (F := Ideal) arg2 arg5 arg9 f2 f5) (stV (F := Ideal) arg3 arg10 f3)
    _ (scores_eq arg1 arg2 arg4 arg5 arg8 arg9 f1 f2 f4 f5 h4 h5) arg11.view.junk k0_t1_loop.trips le_rfl ⟨r, by omega⟩
    (by have e : k0_t1_loop.trips = 17 := by decide +kernel
        rw [e]; show (r : ℕ) < 128 * 17; omega) ⟨(c : ℕ) / 128, by omega⟩ ⟨(c : ℕ) % 128, by omega⟩
  have e1 : ∀ L : List (View.Piece (Elt Ideal) S2176x1024 .bf16), arg11.view.readCov L (Rect.unit (s := S2176x1024) ![0, 0] S2064x1024.size inb_S2176x1024_S2064x1024_0_0).toLoadRect (ix2 r c)
      = arg11.view.read (Elt Ideal) (arg11.view.writes (Elt Ideal) arg11.view.junk L) (ix2 ⟨r, by omega⟩ (col ⟨(c : ℕ) / 128, by omega⟩ ⟨(c : ℕ) % 128, by omega⟩)) := fun L => by
    rw [← col_split c]
    show arg11.view.read (Elt Ideal) (arg11.view.writes (Elt Ideal) arg11.view.junk L) _ = _
    congr 1
    funext k
    match k with
    | ⟨0, _⟩ => exact Fin.ext (by show 0 + 1 * (r : ℕ) = r; omega)
    | ⟨1, _⟩ => exact Fin.ext (by show 0 + 1 * (c : ℕ) = c; omega)
  refine (e1 _).trans (key.trans ?_)
  have hv : ∀ (k : Fin 128) (s : ℕ), s < (r : ℕ) → rowsAt (arg10.view.read (Elt Ideal) (stV (F := Ideal) arg3 arg10 f3)) s (128 * ((c : ℕ) / 128) + k)
      = valAt (arg3.view.read (Elt Ideal) f3) s (128 * ((c : ℕ) / 128) + k) := fun k s hs => by
    unfold rowsAt valAt
    rw [dif_pos ⟨by omega, by omega⟩, dif_pos ⟨by omega, by omega⟩]
    exact stV_at arg3 arg10 f3 ⟨s, by omega⟩ ⟨s, by omega⟩ rfl _
  unfold attnBlock rowS
  exact groupAt_congr (fun k => outS_congr _ _ _ (hv k)) (outS_congr _ _ _ (hv ⟨(c : ℕ) % 128, by omega⟩)) rfl
end

end Cert.AttnIdeal.Tile

end
-- ==== Proof.AttnLaunch.lean ====
/-
  THE ATTENTION'S RUN, READ. Where the gains that its windows stage are numbers, a grid point writes `attnBlock` of its input
  blocks, so after the run the result is `attnBlock` of every sequence's blocks.
-/
module

public import proofs.«01_k».proof.Proof.AttnBlock
public import proofs.«01_k».proof.Proof.AttnFrame

@[expose] public section

set_option maxRecDepth 16384

noncomputable section

namespace Cert.AttnIdeal.Val

open Cert.AttnIdeal.Gen Cert.AttnIdeal.Run Cert.AttnIdeal.Tile Cert.Proof
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

local notation "𝕄" => MT nD τ sig Unit (Elt Ideal) ℕ (UR sig nD τ) ℕ

section
variable (c : Dev nD) (E : Set ℕ) (i : grid0.Coords)
  (arg1 : Memref sig .tc .vmem S1x2064x1024 .bf16) (harg1 : arg1.IsWhole)
  (arg2 : Memref sig .tc .vmem S1x2064x1024 .bf16) (harg2 : arg2.IsWhole)
  (arg3 : Memref sig .tc .vmem S1x2064x1024 .bf16) (harg3 : arg3.IsWhole)
  (arg4 : Memref sig .tc .vmem S1x128 .f32) (harg4 : arg4.IsWhole)
  (arg5 : Memref sig .tc .vmem S1x128 .f32) (harg5 : arg5.IsWhole)
  (arg6 : Memref sig .tc .vmem S1x1024 .f32) (harg6 : arg6.IsWhole)
  (arg7 : Memref sig .tc .vmem S1x2064x1024 .bf16) (harg7 : arg7.IsWhole)
  (arg8 : Memref sig .tc .vmem S2176x1024 .bf16) (harg8 : arg8.IsWhole)
  (arg9 : Memref sig .tc .vmem S2176x1024 .bf16) (harg9 : arg9.IsWhole)
  (arg10 : Memref sig .tc .vmem S2176x1024 .bf16) (harg10 : arg10.IsWhole)
  (arg11 : Memref sig .tc .vmem S2176x1024 .bf16) (harg11 : arg11.IsWhole)
  (arg12 : Memref sig .tc .vmem S1024x128 .f32) (harg12 : arg12.IsWhole)
  (arg13 : Memref sig .tc .vmem S1024x128 .f32) (harg13 : arg13.IsWhole)

set_option maxHeartbeats 1000000 in
/-- The body at a point, its inputs at their blocks: the output ends at `attnBlock` of them. -/
theorem body_block
    (x1 : Vec Ideal S1x2064x1024 .bf16)
    (x2 : Vec Ideal S1x2064x1024 .bf16)
    (x3 : Vec Ideal S1x2064x1024 .bf16)
    (x4 : Vec Ideal S1x128 .f32)
    (x5 : Vec Ideal S1x128 .f32)
    (x6 : Vec Ideal S1x1024 .f32)
    (h4 : ∀ d : Fin 128, ∃ r : ℝ, x4 (ix2 0 d) = (r : EReal)) (h5 : ∀ d : Fin 128, ∃ r : ℝ, x5 (ix2 0 d) = (r : EReal)) :
    (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) : sProp 𝕄)
      ⊢ wp frame (wpE (defs₀ (F := Ideal)) Variants.none (c : Thread nD τ) none) E (cc0_attn_group (F := Ideal) i arg1 harg1 arg2 harg2 arg3 harg3 arg4 harg4 arg5 harg5 arg6 harg6 arg7 harg7 arg8 harg8 arg9 harg9 arg10 harg10 arg11 harg11 arg12 harg12 arg13 harg13)
          (fun _ => iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (attnBlock x1 x2 x3 x4 x5 x6) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d))) := by
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩⟩
  subst e1 e2 e3 e4 e5 e6
  iapply (wp_wand_r frame (wpE (defs₀ (F := Ideal)) Variants.none (c : Thread nD τ) none) E)
  isplitl [H1 H2 H3 H4 H5 H6 H7 H8 H9 H10 H11 H12 H13]
  · iapply (Run.body_run c E i arg1 harg1 arg2 harg2 arg3 harg3 arg4 harg4 arg5 harg5 arg6 harg6 arg7 harg7 arg8 harg8 arg9 harg9 arg10 harg10 arg11 harg11 arg12 harg12 arg13 harg13 f1 f2 f3 f4 f5 f6 f7 f8 f9 f10 f11 f12 f13)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · iintro %_ ⟨H1, H2, H3, H4, H5, H6, H7, ⟨%g8, H8⟩, ⟨%g9, H9⟩, ⟨%g10, H10⟩, ⟨%g11, H11⟩, ⟨%g12, H12⟩, ⟨%g13, H13⟩⟩
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists _; isplitr; swap; · iexact H7
      ipureintro
      exact block_eq arg1 arg2 arg3 arg4 arg5 arg6 arg7 arg8 arg9 arg10 arg11 arg12 arg13 f1 f2 f3 f4 f5 f6 f7 h4 h5
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    iexists _, _; isplitr; swap; · iexact H13
    ipureintro; rfl
end

/-! ## The launch -/

variable (m : (ℓ : Loc nD τ sig) → Buf (Elt Ideal) ℓ) (ρ : Dev nD → PrngReg)

/-- The block that a point writes. -/
abbrev outBlock (c : Dev nD) (t : Fin cfg0.N) : S1x2064x1024.Idx → EReal :=
  attnBlock (iblk m c 0 t) (iblk m c 1 t) (iblk m c 2 t) (iblk m c 3 t) (iblk m c 4 t) (iblk m c 5 t)

/-- The staged gains of the queries and of the keys are numbers. -/
def Gains : Prop := ∀ (c : Dev nD) (t : Fin cfg0.N) (d : Fin 128), (∃ r : ℝ, (iblk m c 3 t : S1x128.Idx → EReal) (ix2 0 d) = (r : EReal)) ∧ ∃ r : ℝ, (iblk m c 4 t : S1x128.Idx → EReal) (ix2 0 d) = (r : EReal)

/-- Each input's buffer holds its block, the output's the block that the point writes. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlock m c t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outBlock m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body is called with at a grid point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

set_option maxHeartbeats 1600000 in
/-- The body at any grid point. -/
theorem sound_body (hg : Gains m) (c : Dev nD) (t : Fin cfg0.N) :
    bodyPre m c t ⊢ wp frame (wpE (defs₀ (F := Ideal)) Variants.none (c : Thread nD τ) none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6,
    show (dats m 0 c).Φ t.castSucc = Pipeline.ΦA spec0 c from rfl]
  rw [Hand.inv_eq]
  iintro ⟨⟨⟨⟨%f8, H8⟩, ⟨%f9, H9⟩, ⟨%f10, H10⟩, ⟨%f11, H11⟩, ⟨%f12, H12⟩, ⟨%f13, H13⟩⟩, Hg⟩, Ho, ⟨%d0, H1⟩, ⟨%d1, H2⟩, ⟨%d2, H3⟩, ⟨%d3, H4⟩, ⟨%d4, H5⟩, ⟨%d5, H6⟩, ⟨%d6, H7⟩⟩
  iapply (wp_wand_r frame (wpE (defs₀ (F := Ideal)) Variants.none (c : Thread nD τ) none) Set.univ)
  isplitl [H1 H2 H3 H4 H5 H6 H7 H8 H9 H10 H11 H12 H13]
  · iapply (body_block c Set.univ (grid0.coords t) _ _ _ _ _ _ _ _ _ _ _ _ _ _ _ _ _ _ _ _ _ _ _ _ _ _
      (iblk m c 0 t) (iblk m c 1 t) (iblk m c 2 t) (iblk m c 3 t) (iblk m c 4 t) (iblk m c 5 t) (fun d => (hg c t d).1) (fun d => (hg c t d).2))
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    iexists _; iexact H13
  · iintro %_ ⟨H1, H2, H3, H4, H5, H6, H7, ⟨%g8, H8⟩, ⟨%g9, H9⟩, ⟨%g10, H10⟩, ⟨%g11, H11⟩, ⟨%g12, H12⟩, ⟨%g13, H13⟩⟩
    isplitl [H8 H9 H10 H11 H12 H13 Hg]
    · isplitr [Hg]
      · isplitl [H8]; · iexists _; iexact H8
        isplitl [H9]; · iexists _; iexact H9
        isplitl [H10]; · iexists _; iexact H10
        isplitl [H11]; · iexists _; iexact H11
        isplitl [H12]; · iexists _; iexact H12
        iexists _; iexact H13
      iexact Hg
    isplitl [Ho]; · iexact Ho
    isplitl [H1]; · iexact H1
    isplitl [H2]; · iexact H2
    isplitl [H3]; · iexact H3
    isplitl [H4]; · iexact H4
    isplitl [H5]; · iexact H5
    isplitl [H6]; · iexact H6
    iexact H7

theorem body_obligation (hg : Gains m) (c : Dev nD) :
    BodyObligation (dats m 0 c) (defs₀ (F := Ideal)) Variants.none () Set.univ := fun t => by
  rw [bigSep_W0, bigSep_W0, Hand.defs₀_row]
  exact triple_restated (sound_body m hg c t) rfl .rfl fun _ => .rfl

set_option backward.isDefEq.respectTransparency.types false in
set_option maxHeartbeats 800000 in
/-- The run: the arrays end as the blocks leave them. -/
theorem run_main (hg : Gains m) : θ_run defs (onTc (τ := τ) (main (F := Ideal))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m hg c).loose) (hq := fun _ _ _ => rfl)
    (howed := fun _ _ => rfl) (V := V m) (hmain := hmain m Variants.none) (hA := A_eq m) (hΦ := fun _ _ => rfl)

/-! ## What the blocks are -/

theorem V_proj (c : Dev nD) : V m c main_arg0 = m ((c : Thread nD τ).loc main_arg0) := V_main_arg0 m c

theorem V_qgain (c : Dev nD) (d : Fin 128) : V m c main_v1 (ix2 0 d) = m ((c : Thread nD τ).loc main_arg1) (ix2 0 d) := by
  unfold V
  after_reads_at

theorem V_kgain (c : Dev nD) (d : Fin 128) : V m c main_v3 (ix2 0 d) = m ((c : Thread nD τ).loc main_arg2) (ix2 0 d) := by
  unfold V
  after_reads_at

theorem V_ogain (c : Dev nD) (k : Fin 2048) : V m c main_v5 (ix2 0 k) = m ((c : Thread nD τ).loc main_arg3) (ix2 0 k) := by
  unfold V
  after_reads_at

theorem index_facts (t : Fin cfg0.N) :
    (win0_0.index t 0 * win0_0.size 0 = t.val ∧ win0_0.index t 1 * win0_0.size 1 = 0 ∧ win0_0.index t 2 * win0_0.size 2 = 3072)
    ∧ (win0_1.index t 0 * win0_1.size 0 = t.val ∧ win0_1.index t 1 * win0_1.size 1 = 0 ∧ win0_1.index t 2 * win0_1.size 2 = 4096)
    ∧ (win0_2.index t 0 * win0_2.size 0 = t.val ∧ win0_2.index t 1 * win0_2.size 1 = 0 ∧ win0_2.index t 2 * win0_2.size 2 = 5120)
    ∧ (win0_6.index t 0 * win0_6.size 0 = t.val ∧ win0_6.index t 1 * win0_6.size 1 = 0 ∧ win0_6.index t 2 * win0_6.size 2 = 0)
    ∧ (win0_3.index t 0 * win0_3.size 0 = 0 ∧ win0_3.index t 1 * win0_3.size 1 = 0)
    ∧ (win0_4.index t 0 * win0_4.size 0 = 0 ∧ win0_4.index t 1 * win0_4.size 1 = 0)
    ∧ (win0_5.index t 0 * win0_5.size 0 = 0 ∧ win0_5.index t 1 * win0_5.size 1 = 1024) := by
  revert t; decide +kernel

theorem blk_q (c : Dev nD) (t : Fin cfg0.N) (b : Fin 8) (hb : (b : ℕ) = t.val) (s : Fin 2064) (k : Fin 1024) (C : Fin 6144) (hC : (C : ℕ) = 3072 + k) :
    iblk m c 0 t (ix3 0 s k) = m ((c : Thread nD τ).loc main_arg0) (ix3 b s C) := by
  obtain ⟨a0, a1, a2⟩ := (index_facts t).1
  refine Eq.trans ?_ (congrFun (V_proj m c) (ix3 b s C))
  show V m c main_arg0 ((win0_0.rect t).emb _) = _
  refine congrArg _ (idx3_ext ?_ ?_ ?_)
  · show win0_0.index t 0 * win0_0.size 0 + 1 * 0 = b; rw [a0]; omega
  · show win0_0.index t 1 * win0_0.size 1 + 1 * (s : ℕ) = s; rw [a1]; omega
  · show win0_0.index t 2 * win0_0.size 2 + 1 * (k : ℕ) = C; rw [a2]; omega

theorem blk_k (c : Dev nD) (t : Fin cfg0.N) (b : Fin 8) (hb : (b : ℕ) = t.val) (s : Fin 2064) (k : Fin 1024) (C : Fin 6144) (hC : (C : ℕ) = 4096 + k) :
    iblk m c 1 t (ix3 0 s k) = m ((c : Thread nD τ).loc main_arg0) (ix3 b s C) := by
  obtain ⟨a0, a1, a2⟩ := (index_facts t).2.1
  refine Eq.trans ?_ (congrFun (V_proj m c) (ix3 b s C))
  show V m c main_arg0 ((win0_1.rect t).emb _) = _
  refine congrArg _ (idx3_ext ?_ ?_ ?_)
  · show win0_1.index t 0 * win0_1.size 0 + 1 * 0 = b; rw [a0]; omega
  · show win0_1.index t 1 * win0_1.size 1 + 1 * (s : ℕ) = s; rw [a1]; omega
  · show win0_1.index t 2 * win0_1.size 2 + 1 * (k : ℕ) = C; rw [a2]; omega

theorem blk_v (c : Dev nD) (t : Fin cfg0.N) (b : Fin 8) (hb : (b : ℕ) = t.val) (s : Fin 2064) (k : Fin 1024) (C : Fin 6144) (hC : (C : ℕ) = 5120 + k) :
    iblk m c 2 t (ix3 0 s k) = m ((c : Thread nD τ).loc main_arg0) (ix3 b s C) := by
  obtain ⟨a0, a1, a2⟩ := (index_facts t).2.2.1
  refine Eq.trans ?_ (congrFun (V_proj m c) (ix3 b s C))
  show V m c main_arg0 ((win0_2.rect t).emb _) = _
  refine congrArg _ (idx3_ext ?_ ?_ ?_)
  · show win0_2.index t 0 * win0_2.size 0 + 1 * 0 = b; rw [a0]; omega
  · show win0_2.index t 1 * win0_2.size 1 + 1 * (s : ℕ) = s; rw [a1]; omega
  · show win0_2.index t 2 * win0_2.size 2 + 1 * (k : ℕ) = C; rw [a2]; omega

theorem blk_gq (c : Dev nD) (t : Fin cfg0.N) (k : Fin 128) (C : Fin 128) (hC : (C : ℕ) = 0 + k) :
    iblk m c 3 t (ix2 0 k) = m ((c : Thread nD τ).loc main_arg1) (ix2 0 C) := by
  obtain ⟨a0, a1⟩ := (index_facts t).2.2.2.2.1
  refine Eq.trans ?_ (V_qgain m c C)
  show V m c main_v1 ((win0_3.rect t).emb _) = _
  refine congrArg _ (idx2_ext ?_ ?_)
  · show win0_3.index t 0 * win0_3.size 0 + 1 * 0 = 0; rw [a0]
  · show win0_3.index t 1 * win0_3.size 1 + 1 * (k : ℕ) = C; rw [a1]; omega

theorem blk_gk (c : Dev nD) (t : Fin cfg0.N) (k : Fin 128) (C : Fin 128) (hC : (C : ℕ) = 0 + k) :
    iblk m c 4 t (ix2 0 k) = m ((c : Thread nD τ).loc main_arg2) (ix2 0 C) := by
  obtain ⟨a0, a1⟩ := (index_facts t).2.2.2.2.2.1
  refine Eq.trans ?_ (V_kgain m c C)
  show V m c main_v3 ((win0_4.rect t).emb _) = _
  refine congrArg _ (idx2_ext ?_ ?_)
  · show win0_4.index t 0 * win0_4.size 0 + 1 * 0 = 0; rw [a0]
  · show win0_4.index t 1 * win0_4.size 1 + 1 * (k : ℕ) = C; rw [a1]; omega

theorem blk_go (c : Dev nD) (t : Fin cfg0.N) (k : Fin 1024) (C : Fin 2048) (hC : (C : ℕ) = 1024 + k) :
    iblk m c 5 t (ix2 0 k) = m ((c : Thread nD τ).loc main_arg3) (ix2 0 C) := by
  obtain ⟨a0, a1⟩ := (index_facts t).2.2.2.2.2.2
  refine Eq.trans ?_ (V_ogain m c C)
  show V m c main_v5 ((win0_5.rect t).emb _) = _
  refine congrArg _ (idx2_ext ?_ ?_)
  · show win0_5.index t 0 * win0_5.size 0 + 1 * 0 = 0; rw [a0]
  · show win0_5.index t 1 * win0_5.size 1 + 1 * (k : ℕ) = C; rw [a1]; omega

/-- What the call computes: every sequence's block. -/
def result (c : Dev nD) : Buf (Elt Ideal) ((c : Thread nD τ).loc main_v6) := fun i : S8x2064x1024.Idx =>
  outBlock m c ⟨(i 0 : ℕ), (i 0).isLt⟩ (ix3 0 (i 1) (i 2))

theorem flushed6 (c : Dev nD) (t : Fin cfg0.N) : (dats m 0 c).flushed 6 t = (cfg0.win 6).cut (grid0.coords t) (outBlock m c t) := by
  show (cfg0.win 6).cut (grid0.coords t) ((dats m 0 c).after 6 t) = _
  rw [after0_6]

theorem flushed_eq (c : Dev nD) (t : Fin cfg0.N) :
    (dats m 0 c).flushed 6 t = (win0_6.blk t).view.read (Elt Ideal) (result m c) := by
  rw [flushed6]
  funext y
  obtain ⟨c0, c1, c2⟩ := (index_facts t).2.2.2.1
  have hy0 : (y 0 : ℕ) < 1 := (y 0).isLt
  have ht : t.val < 8 := t.isLt
  have e : (win0_6.rect t).emb y = ix3 (n0 := 8) (n1 := 2064) (n2 := 1024) ⟨t.val, ht⟩ (y 1) (y 2) := by
    refine idx3_ext ?_ ?_ ?_
    · show win0_6.index t 0 * win0_6.size 0 + 1 * (y 0 : ℕ) = t.val; rw [c0]; omega
    · show win0_6.index t 1 * win0_6.size 1 + 1 * (y 1 : ℕ) = y 1; rw [c1]; omega
    · show win0_6.index t 2 * win0_6.size 2 + 1 * (y 2 : ℕ) = y 2; rw [c2]; omega
  have ey : y = ix3 (n0 := 1) (n1 := 2064) (n2 := 1024) 0 (y 1) (y 2) := idx3_ext (by show (y 0 : ℕ) = 0; omega) rfl rfl
  show outBlock m c t y = result m c ((win0_6.rect t).emb y)
  rw [e]
  exact congrArg (outBlock m c t) ey

theorem cover (i : S8x2064x1024.Idx) : ∃ t : Fin cfg0.N, (cfg0.win 6).flush t = true ∧ i ∈ ((cfg0.win 6).blk t).view.set := by
  have h0 : (i 0 : ℕ) < 8 := (i 0).isLt
  have h1 : (i 1 : ℕ) < 2064 := (i 1).isLt
  have h2 : (i 2 : ℕ) < 1024 := (i 2).isLt
  refine ⟨⟨(i 0 : ℕ), h0⟩, flush0_6 _, ?_⟩
  obtain ⟨c0, c1, c2⟩ := (index_facts ⟨(i 0 : ℕ), h0⟩).2.2.2.1
  show i ∈ ((View.whole main_v6).slice (win0_6.rect (⟨(i 0 : ℕ), h0⟩ : Fin cfg0.N))).set
  rw [View.set_slice_whole, Rect.mem_set_unit]
  intro a
  match a with
  | ⟨0, _⟩ =>
    show win0_6.index _ 0 * win0_6.size 0 ≤ (i 0 : ℕ) ∧ (i 0 : ℕ) < win0_6.index _ 0 * win0_6.size 0 + 1
    rw [c0]; dsimp only; omega
  | ⟨1, _⟩ =>
    show win0_6.index _ 1 * win0_6.size 1 ≤ (i 1 : ℕ) ∧ (i 1 : ℕ) < win0_6.index _ 1 * win0_6.size 1 + 2064
    rw [c1]; omega
  | ⟨2, _⟩ =>
    show win0_6.index _ 2 * win0_6.size 2 ≤ (i 2 : ℕ) ∧ (i 2 : ℕ) < win0_6.index _ 2 * win0_6.size 2 + 1024
    rw [c2]; omega

theorem final (c : Dev nD) : (dats m 0 c).arrAt 6 cfg0.N = result m c :=
  (dats m 0 c).arrAt_eq_of_cover 6 (result m c) (fun t _ => flushed_eq m c t) cover

/-- The run, read. -/
theorem run (hg : Gains m) : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨((h.1 c).1 6).trans (final m c),
    ((h.1 c).1 2).trans (((dats m 0 c).arrAt_in 2 rfl _).trans ((A_eq m c 2).trans (V_main_arg0 m c))),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c)⟩) (run_main m ρ hg)

end Cert.AttnIdeal.Val

end
-- ==== Proof.AttnRefValue.lean ====
/-
  THE ATTENTION AS THE REFERENCE COMPUTES IT. Of every head the scores of a query and a key (`v41_at`), their weights from the
  key's score and the sum over the later keys before the query (`window_at`), and the weighed values (`v59_at`), normalised over
  the head's features (`out_at`).
-/
module

public import proofs.«01_k».proof.Proof.ConvValue
public import proofs.«01_k».proof.Proof.Gen.AttnRefIdeal.Run
public import proofs.«01_k».proof.Proof.AttnTile
public import proofs.«01_k».proof.Proof.AttnMath

@[expose] public section

set_option maxRecDepth 16384

noncomputable section

open Idealize.ShloMosaic Idealize.ShloMosaic.TcCoe Idealize.SL.Sem

namespace Cert.AttnRefIdeal.Val

open Cert.AttnRefIdeal Cert.AttnRefIdeal.Gen Cert.AttnRefIdeal.Value Cert.Proof
open Cert.AttnIdeal.Tile (spR coe_max' coe_sum' lateS weightS outS sp sp_coe)

/-- A window of one entry on three axes and of all `N` keys on the fourth, padded high: the sum of the entries from `x` on. -/
theorem window_at (x : FVec Ideal S8x8x2064x2064 .f32) (hr) (b h : Fin 8) (q s : Fin 2064) :
    Ideal.hostReduceWindowAdd (s := S8x8x2064x2064) ![1, 1, 1, 2064] ![1, 1, 1, 1] ![0, 0, 0, 0] ![0, 0, 0, 2063] (t := S8x8x2064x2064) hr x 0 (ix4 b h q s)
      = ∑ n : Fin 2064, if hn : (s : ℕ) + n < 2064 then x (ix4 b h q ⟨s + n, hn⟩) else 0 := by
  have key : ∀ (l : List (Fin (⟨4, ![1, 1, 1, 2064]⟩ : Shape).numel)) (f : Fin (⟨4, ![1, 1, 1, 2064]⟩ : Shape).numel → EReal) (a : EReal),
      l.foldl (fun r n => r + f n) a = a + (l.map f).sum := by
    intro l f
    induction l with
    | nil => intro a; simp
    | cons y l ih => intro a; simp [ih, add_assoc]
  unfold Ideal.hostReduceWindowAdd Host.reduceWindow
  refine (key _ _ _).trans ?_
  rw [zero_add, ← List.ofFn_eq_map, List.sum_ofFn]
  refine (Fintype.sum_equiv (Shape.rowMajor ⟨4, ![1, 1, 1, 2064]⟩).symm _
    (fun w : (⟨4, ![1, 1, 1, 2064]⟩ : Shape).Idx => if hin : ∀ a : Fin 4, (![0, 0, 0, 0] : Fin 4 → ℕ) a ≤ (ix4 b h q s a).val * (![1, 1, 1, 1] : Fin 4 → ℕ) a + (w a).val
        ∧ (ix4 b h q s a).val * (![1, 1, 1, 1] : Fin 4 → ℕ) a + (w a).val - (![0, 0, 0, 0] : Fin 4 → ℕ) a < S8x8x2064x2064.size a
      then x (fun a => ⟨(ix4 b h q s a).val * (![1, 1, 1, 1] : Fin 4 → ℕ) a + (w a).val - (![0, 0, 0, 0] : Fin 4 → ℕ) a, (hin a).2⟩) else (0 : EReal)) fun n => dite_congr rfl (fun _ => rfl) (fun _ => rfl)).trans ?_
  rw [sum_idx4]
  simp only [Fin.sum_univ_one]
  refine Finset.sum_congr rfl fun n _ => ?_
  by_cases hn : (s : ℕ) + n < 2064
  · rw [dif_pos hn, dif_pos (fun a => by
      match a with
      | ⟨0, _⟩ => exact ⟨Nat.zero_le _, by show (b : ℕ) * 1 + 0 - 0 < 8; omega⟩
      | ⟨1, _⟩ => exact ⟨Nat.zero_le _, by show (h : ℕ) * 1 + 0 - 0 < 8; omega⟩
      | ⟨2, _⟩ => exact ⟨Nat.zero_le _, by show (q : ℕ) * 1 + 0 - 0 < 2064; omega⟩
      | ⟨3, _⟩ => exact ⟨Nat.zero_le _, by show (s : ℕ) * 1 + n - 0 < 2064; omega⟩)]
    congr 1
    funext a
    match a with
    | ⟨0, _⟩ => exact Fin.ext (by show (b : ℕ) * 1 + 0 - 0 = b; omega)
    | ⟨1, _⟩ => exact Fin.ext (by show (h : ℕ) * 1 + 0 - 0 = h; omega)
    | ⟨2, _⟩ => exact Fin.ext (by show (q : ℕ) * 1 + 0 - 0 = q; omega)
    | ⟨3, _⟩ => exact Fin.ext (by show (s : ℕ) * 1 + n - 0 = s + n; omega)
  · rw [dif_neg hn, dif_neg (fun hin => hn (by
      have h3 : (s : ℕ) * 1 + n - 0 < 2064 := (hin 3).2
      omega))]

section

variable (V0 : Valuation τ sig (Elt Ideal)) (b h : Fin 8) (q s : Fin 2064) (d : Fin 128)

theorem sel_one {α : Type} (x y : α) : Scalar.select 1#1 x y = x := rfl
theorem sel_zero {α : Type} (x y : α) : Scalar.select 0#1 x y = y := rfl

/-- Minus the softplus of the scores of the keys before the query. -/
abbrev v51 : S8x8x2064x2064.Idx → EReal := res_main_v51 V0

/-- The host's softplus of a number. -/
theorem softplus_coe (z : ℝ) :
    (if ((z : ℝ) : EReal) ≠ (z : EReal) then (z : EReal) else max (z : EReal) 0 + Ideal.log1p (Ideal.exp (-FloatOps.absf (F := Ideal) (φ := .f32) (z : EReal))))
      = (spR z : EReal) := by
  rw [if_neg (fun e => e rfl), ← sp_coe, sp, zero_sub]
  rfl

theorem spR_neg (z : ℝ) : spR (-z) = spR z - z := by
  unfold spR
  rw [abs_neg]
  have : max (-z) 0 = max z 0 - z := by
    rcases le_total z 0 with h | h
    · rw [max_eq_left (by linarith), max_eq_right h]; ring
    · rw [max_eq_right (by linarith), max_eq_left h]; ring
  rw [this]; ring

theorem v48_at : res_main_v48 V0 (ix2 q s) = if (s : ℕ) < q then 1#1 else 0#1 := by
  pointwise [res_main_v48]
  have hq := q.isLt
  have hs := s.isLt
  have e : ∀ n : ℕ, n < 2064 → (BitVec.ofNat 32 n).toInt = n := fun n hn => by
    rw [BitVec.toInt_eq_toNat_of_lt (by rw [BitVec.toNat_ofNat]; omega), BitVec.toNat_ofNat]; omega
  have h : IntOp.cmpi .slt (BitVec.ofNat 32 (s : ℕ)) (BitVec.ofNat 32 (q : ℕ)) = BitVec.ofBool (decide ((BitVec.ofNat 32 (s : ℕ)).toInt < (BitVec.ofNat 32 (q : ℕ)).toInt)) := rfl
  rw [h, e _ hs, e _ hq]
  by_cases hsq : (s : ℕ) < q
  · rw [if_pos hsq, decide_eq_true (by omega)]; rfl
  · rw [if_neg hsq, decide_eq_false (by omega)]; rfl

theorem v51_at (z : ℝ) (hz : res_main_v41 V0 (ix4 b h q s) = (z : EReal)) :
    v51 V0 (ix4 b h q s) = if (s : ℕ) < q then ((-spR z : ℝ) : EReal) else 0 := by
  have e : ∀ y : EReal, res_main_v41 V0 (ix4 b h q s) = y → v51 V0 (ix4 b h q s) = Scalar.select (res_main_v48 V0 (ix2 q s))
      (-(if - -y ≠ - -y then - -y else max (- -y) 0 + Ideal.log1p (Ideal.exp (-FloatOps.absf (F := Ideal) (φ := .f32) (- -y))))) (0 : EReal) := by
    rintro y rfl
    pointwise [v51, res_main_v51, res_main_call0_call0_v3, res_main_call0_v0, res_main_call0_call0_cst]
    congr 1
    exact Ideal.ofBits_zero_f32
  rw [e _ hz, neg_neg, softplus_coe, v48_at, EReal.coe_neg]
  split
  · exact rfl
  · exact rfl

/-- The sum over the keys after `s` and before the query. -/
theorem late_at (Z : ℕ → ℝ) (hz : ∀ s : Fin 2064, res_main_v41 V0 (ix4 b h q s) = (Z s : EReal)) (hs : (s : ℕ) < q) :
    (∑ n : Fin 2064, if hn : (s : ℕ) + n < 2064 then v51 V0 (ix4 b h q ⟨s + n, hn⟩) else (0 : EReal)) - v51 V0 (ix4 b h q s)
      = ((lateS Z (s + 1) q : ℝ) : EReal) := by
  have hq := q.isLt
  have e1 : ∀ n : Fin 2064, (if hn : (s : ℕ) + n < 2064 then v51 V0 (ix4 b h q ⟨s + n, hn⟩) else (0 : EReal))
      = (((fun n => if (s : ℕ) + n < q then -spR (Z (s + n)) else 0) (n : ℕ) : ℝ) : EReal) := fun n => by
    show _ = ((if (s : ℕ) + n < q then -spR (Z (s + n)) else 0 : ℝ) : EReal)
    by_cases hn : (s : ℕ) + n < 2064
    · rw [dif_pos hn, v51_at V0 b h q ⟨s + n, hn⟩ _ (hz _)]
      show (if (s : ℕ) + n < q then _ else _) = _
      split <;> rfl
    · rw [dif_neg hn, if_neg (by omega)]; rfl
  rw [Finset.sum_congr rfl fun n _ => e1 n, ← coe_sum', v51_at V0 b h q s _ (hz s), if_pos hs, ← EReal.coe_sub]
  congr 1
  rw [Fin.sum_univ_eq_sum_range (fun n => if (s : ℕ) + n < q then -spR (Z (s + n)) else 0) 2064, ← Finset.sum_filter]
  have e2 : (Finset.range 2064).filter (fun n => (s : ℕ) + n < q) = Finset.range (q - s) := by
    ext n; rw [Finset.mem_filter, Finset.mem_range, Finset.mem_range]; omega
  rw [e2, ← Finset.sum_Ico_eq_sum_range (fun n => -spR (Z n)) s q, Finset.sum_eq_sum_Ico_succ_bot hs, lateS]
  ring

/-- The scores. -/
abbrev v41 : S8x8x2064x2064.Idx → EReal := res_main_v41 V0

/-- The attention of a head, before its norm. -/
abbrev v59 : S8x2064x8x128.Idx → EReal := res_main_v59 V0

theorem reduceWindowAdd_ideal {φ : FTy} {s t u : Shape} (window strides lo hi : Fin s.rank → Nat) (x : FVec Ideal s φ) (init : u.Idx → Ideal φ) (h : s.ReduceWindows window strides lo hi t)
    (hu : 0 < u.numel) : Host.reduceWindowAdd (F := Ideal) window strides lo hi x init h hu = Ideal.hostReduceWindowAdd window strides lo hi h x (init (Shape.Idx.first hu)) := rfl

theorem v59_raw : v59 V0 (ix4 b q h d) = ∑ x : Fin 2064,
      (Scalar.select (res_main_v48 V0 (ix2 q x))
          (Ideal.exp
            ((-(if -v41 V0 (ix4 b h q x) ≠ -v41 V0 (ix4 b h q x) then -v41 V0 (ix4 b h q x)
                else max (-v41 V0 (ix4 b h q x)) 0 + Ideal.log1p (Ideal.exp (-FloatOps.absf (F := Ideal) (φ := .f32) (-v41 V0 (ix4 b h q x)))))) +
              (Host.reduceWindowAdd ![1, 1, 1, 2064] ![1, 1, 1, 1] ![0, 0, 0, 0] ![0, 0, 0, 2063] (res_main_v51 V0)
                  (broadcastInDim S_ ![] bcast_S_S_ (constant (F := Ideal) S_ .f32 0#32))
                  reduceWindows_S8x8x2064x2064_S8x8x2064x2064_w1s1p0_0_w1s1p0_0_w1s1p0_0_w2064s1p0_2063 h_S_
                  (ix4 b h q x) - v51 V0 (ix4 b h q x))))
          (id (constant (F := Ideal) S_ .f32 0#32) ix0)) * (res_main_v1 V0 (ix3 b x ⟨2048 + ((h : ℕ) * 128 + (d : ℕ)), by omega⟩) : EReal) := by
  pointwise [v59, res_main_v59, res_main_call3_call0_v3, res_main_call3_v0, res_main_call3_call0_cst]

/-- The values weighed. -/
theorem v59_at (Z : ℕ → ℝ) (hz : ∀ s : Fin 2064, res_main_v41 V0 (ix4 b h q s) = (Z s : EReal)) (V : ℕ → EReal)
    (hV : ∀ x : Fin 2064, res_main_v1 V0 (ix3 b x ⟨2048 + ((h : ℕ) * 128 + (d : ℕ)), by omega⟩) = V x) :
    v59 V0 (ix4 b q h d) = outS Z V q 0 := by
  have e : ∀ y : Fin 2064 → EReal, (∀ x, v41 V0 (ix4 b h q x) = y x) → v59 V0 (ix4 b q h d) = ∑ x : Fin 2064,
      (Scalar.select (res_main_v48 V0 (ix2 q x))
          (Ideal.exp
            ((-(if -y x ≠ -y x then -y x else max (-y x) 0 + Ideal.log1p (Ideal.exp (-FloatOps.absf (F := Ideal) (φ := .f32) (-y x))))) +
              ((∑ n : Fin 2064, if hn : (x : ℕ) + n < 2064 then v51 V0 (ix4 b h q ⟨x + n, hn⟩) else (0 : EReal)) - v51 V0 (ix4 b h q x))))
          (0 : EReal)) * V x := by
    intro y hy
    rw [v59_raw]
    refine Finset.sum_congr rfl fun x _ => ?_
    have hw : (Host.reduceWindowAdd ![1, 1, 1, 2064] ![1, 1, 1, 1] ![0, 0, 0, 0] ![0, 0, 0, 2063] (res_main_v51 V0)
                  (broadcastInDim S_ ![] bcast_S_S_ (constant (F := Ideal) S_ .f32 0#32))
                  reduceWindows_S8x8x2064x2064_S8x8x2064x2064_w1s1p0_0_w1s1p0_0_w1s1p0_0_w2064s1p0_2063 h_S_
                  (ix4 b h q x) : EReal) = ∑ n : Fin 2064, if hn : (x : ℕ) + n < 2064 then v51 V0 (ix4 b h q ⟨x + n, hn⟩) else (0 : EReal) := by
      rw [reduceWindowAdd_ideal, show (broadcastInDim S_ ![] bcast_S_S_ (constant (F := Ideal) S_ .f32 0#32)) (Shape.Idx.first h_S_) = (0 : EReal) from Ideal.ofBits_zero_f32]
      exact window_at (res_main_v51 V0) reduceWindows_S8x8x2064x2064_S8x8x2064x2064_w1s1p0_0_w1s1p0_0_w1s1p0_0_w2064s1p0_2063 b h q x
    have h0 : (id (constant (F := Ideal) S_ .f32 0#32) ix0 : EReal) = 0 := Ideal.ofBits_zero_f32
    rw [hw, h0, hV, hy]
  rw [e (fun x => (Z x : EReal)) hz, outS, Nat.Ico_zero_eq_range]
  have hq := q.isLt
  have e2 : ∀ x : Fin 2064, (Scalar.select (res_main_v48 V0 (ix2 q x))
          (Ideal.exp
            ((-(if -(Z x : EReal) ≠ -(Z x : EReal) then -(Z x : EReal) else max (-(Z x : EReal)) 0 + Ideal.log1p (Ideal.exp (-FloatOps.absf (F := Ideal) (φ := .f32) (-(Z x : EReal)))))) +
              ((∑ n : Fin 2064, if hn : (x : ℕ) + n < 2064 then v51 V0 (ix4 b h q ⟨x + n, hn⟩) else (0 : EReal)) - v51 V0 (ix4 b h q x))))
          (0 : EReal)) * V x = (fun s : ℕ => if s < (q : ℕ) then (weightS Z q s : EReal) * V s else 0) x := fun x => by
    show _ = if (x : ℕ) < q then _ else _
    rw [v48_at]
    by_cases hx : (x : ℕ) < q
    · rw [if_pos hx, if_pos hx, sel_one, late_at V0 b h q x Z hz hx, ← EReal.coe_neg, softplus_coe, spR_neg, ← EReal.coe_neg, ← EReal.coe_add]
      congr 1
      show ((Real.exp _ : ℝ) : EReal) = _
      rw [weightS, neg_sub]
    · rw [if_neg hx, if_neg hx, sel_zero, zero_mul]
  rw [Finset.sum_congr rfl fun x _ => e2 x, Fin.sum_univ_eq_sum_range (fun s : ℕ => if s < (q : ℕ) then (weightS Z q s : EReal) * V s else 0) 2064, ← Finset.sum_filter]
  refine Finset.sum_congr (Finset.ext fun n => ?_) fun _ _ => rfl
  rw [Finset.mem_filter, Finset.mem_range, Finset.mem_range]; omega

/-- The reference's result. -/
def normed (y : FVec Ideal S8x2064x8x128 .f32) (g : FVec Ideal S1x2048 .f32) : FVec Ideal S8x2064x1024 .bf16 := truncf .bf16 (mulf (shapeCast _ (mulf (mulf y (broadcastInDim S8x2064x8x128 ![0, 1, 2, 3] bcast_S8x2064x8x1_S8x2064x8x128_0_1_2_3 (Host.rsqrt (addf (Host.divf (broadcastInDim S8x2064x8x1 ![0, 1, 2] bcast_S8x2064x8_S8x2064x8x1_0_1_2 (Host.reduceAdd (mulf y y) (constant S_ .f32 0x00000000#32) reducesTo_S8x2064x8x128_S8x2064x8_d3 h_S_)) (broadcastInDim S8x2064x8x1 ![] bcast_S_S8x2064x8x1 (constant S_ .f32 0x43000000#32))) (broadcastInDim S8x2064x8x1 ![] bcast_S_S8x2064x8x1 (constant S_ .f32 0x358637BD#32)))))) (broadcastInDim S8x2064x8x128 ![0, 1, 2, 3] bcast_S1x1x1x128_S8x2064x8x128_0_1_2_3 (broadcastInDim S1x1x1x128 ![3] bcast_S128_S1x1x1x128_3 (broadcastInDim S128 ![] bcast_S_S128 (constant S_ .f32 0x3F800000#32))))) shapeCasts_S8x2064x8x128_S8x2064x1024) (broadcastInDim S8x2064x1024 ![0, 1, 2] bcast_S1x1x1024_S8x2064x1024_0_1_2 (broadcastInDim S1x1x1024 ![2] bcast_S1024_S1x1x1024_2 (extractStridedSlice S1024 ![1024] (shapeCast _ g shapeCasts_S1x2048_S2048) slices_S2048_S1024_1024)))) bitsLt_bf16_f32

theorem normed_at (y : FVec Ideal S8x2064x8x128 .f32) (g : FVec Ideal S1x2048 .f32) (k : Fin 1024) : normed y g (ix3 b q k)
    = groupAt (fun x => y (ix4 b q ⟨(k : ℕ) / 128, by omega⟩ x)) (y (ix4 b q ⟨(k : ℕ) / 128, by omega⟩ ⟨(k : ℕ) % 128, by omega⟩)) (g (ix2 0 ⟨1024 + k, by omega⟩)) := by
  pointwise [normed]
  rfl

/-- A feature of a normalised query or key. -/
def headAt (p : S8x2064x6144.Idx → EReal) (g : S1x128.Idx → EReal) (o : ℕ) (ho : o ≤ 5120) (b h : Fin 8) (q : Fin 2064) (d : Fin 128) : EReal :=
  groupAt (fun k => p (ix3 b q ⟨o + (128 * (h : ℕ) + k), by omega⟩)) (p (ix3 b q ⟨o + (128 * (h : ℕ) + d), by omega⟩)) (g (ix2 0 d))

theorem v1_at (k : Fin 3072) : res_main_v1 V0 (ix3 b q k) = V0 (Proc.devRef .tc main_arg0) (ix3 b q ⟨3072 + k, by omega⟩) := by
  pointwise [res_main_v1]

theorem v5_at : res_main_v5 V0 (ix4 b q h d) = V0 (Proc.devRef .tc main_arg0) (ix3 b q ⟨3072 + (128 * (h : ℕ) + d), by omega⟩) := by
  pointwise [res_main_v5, res_main_v1]
  congr 3
  omega

theorem v21_at : res_main_v21 V0 (ix4 b q h d) = V0 (Proc.devRef .tc main_arg0) (ix3 b q ⟨4096 + (128 * (h : ℕ) + d), by omega⟩) := by
  pointwise [res_main_v21, res_main_v1]
  congr 3
  omega

theorem v41_at : res_main_v41 V0 (ix4 b h q s)
    = (∑ d : Fin 128, headAt (V0 (Proc.devRef .tc main_arg0)) (V0 (Proc.devRef .tc main_arg1)) 3072 (by omega) b h q d
        * headAt (V0 (Proc.devRef .tc main_arg0)) (V0 (Proc.devRef .tc main_arg2)) 4096 (by omega) b h s d) * Ideal.ofBits .f32 1035273459#32 := by
  have e : ∀ (y y' : Fin 2064 → Fin 128 → EReal), (∀ q d, res_main_v5 V0 (ix4 b q h d) = y q d) → (∀ q d, res_main_v21 V0 (ix4 b q h d) = y' q d) →
      res_main_v41 V0 (ix4 b h q s) = (∑ d : Fin 128, groupAt (y q) (y q d) (V0 (Proc.devRef .tc main_arg1) (ix2 0 d))
        * groupAt (y' s) (y' s d) (V0 (Proc.devRef .tc main_arg2) (ix2 0 d))) * Ideal.ofBits .f32 1035273459#32 := by
    intro y y' hy hy'
    simp only [← hy, ← hy', groupAt]
    have e1 : y q = fun d => res_main_v5 V0 (ix4 b q h d) := funext fun d => (hy q d).symm
    pointwise [res_main_v41]
  exact e _ _ (fun q d => v5_at V0 b h q d) (fun q d => v21_at V0 b h q d)

end

end Cert.AttnRefIdeal.Val
end
-- ==== Proof.AttnValue.lean ====
/-
  THE ATTENTION'S VALUE. Where the gains of the queries' and of the keys' norm are finite the call computes what the reference
  computes: the scores of the stored heads are the reference's, and both weigh the values of the earlier tokens by them.
-/
module

public import proofs.«01_k».proof.Defs
public import proofs.«01_k».proof.Proof.AttnLaunch
public import proofs.«01_k».proof.Proof.AttnRefValue

@[expose] public section

set_option maxRecDepth 16384

noncomputable section

open Idealize.ShloMosaic Idealize.ShloMosaic.TcCoe Idealize.SL.Sem

namespace Cert.AttnIdeal.Val

open Cert.AttnIdeal Cert.AttnIdeal.Gen Cert.AttnIdeal.Tile Cert.Proof

open Cert.AttnRefIdeal.Val (headAt)

variable (m : (ℓ : Loc nD τ sig) → Buf (Elt Ideal) ℓ)

/-- The projections and the gains, as launched. -/
abbrev proj (c : Dev nD) : S8x2064x6144.Idx → EReal := m ((c : Thread nD τ).loc main_arg0)
abbrev gainQ (c : Dev nD) : S1x128.Idx → EReal := m ((c : Thread nD τ).loc main_arg1)
abbrev gainK (c : Dev nD) : S1x128.Idx → EReal := m ((c : Thread nD τ).loc main_arg2)
abbrev gainO (c : Dev nD) : S1x2048.Idx → EReal := m ((c : Thread nD τ).loc main_arg3)

/-- Staged gains are those launched, so they are numbers where those are. -/
theorem gains_of (h : ∀ (c : Dev nD) (d : Fin 128), (∃ r : ℝ, gainQ m c (ix2 0 d) = (r : EReal)) ∧ ∃ r : ℝ, gainK m c (ix2 0 d) = (r : EReal)) : Gains m := fun c t d =>
  ⟨(h c d).1.imp fun _ hr => (blk_gq m c t d d (by omega)).trans hr, (h c d).2.imp fun _ hr => (blk_gk m c t d d (by omega)).trans hr⟩

/-- A row of the stored queries or keys, head by head. -/
theorem rows_storedQ (v : S1x2064x1024.Idx → EReal) (g : S1x128.Idx → EReal) (q : Fin 2064) (h : Fin 8) (d : Fin 128) :
    rowsAt (storedQ v g) q (128 * (h : ℕ) + d) = groupAt (fun k => v (ix3 0 q (col h k))) (v (ix3 0 q (col h d))) (g (ix2 0 d)) := by
  unfold rowsAt
  rw [dif_pos ⟨by omega, by omega⟩]
  unfold storedQ
  refine (dif_pos (show (q : ℕ) < 2064 from q.isLt)).trans ?_
  have e : ∀ k : Fin 128, 128 * ((128 * (h : ℕ) + d) / 128) + k = 128 * (h : ℕ) + k := fun k => by omega
  exact groupAt_congr (fun k => congrArg (fun c => v (ix3 0 q c)) (Fin.ext (e k)))
    (congrArg (fun c => v (ix3 0 q c)) (Fin.ext (show 128 * ((128 * (h : ℕ) + d) / 128) + (128 * (h : ℕ) + d) % 128 = 128 * (h : ℕ) + d by omega)))
    (congrArg (fun d => g (ix2 0 d)) (Fin.ext (show (128 * (h : ℕ) + d) % 128 = d by omega)))

/-- The scores of a sequence are the reference's. -/
theorem scores (hg : Gains m) (c : Dev nD) (t : Fin cfg0.N) (b : Fin 8) (hb : (b : ℕ) = t.val) (h : Fin 8) (q s : Fin 2064) :
    (∑ d : Fin 128, headAt (proj m c) (gainQ m c) 3072 (by omega) b h q d * headAt (proj m c) (gainK m c) 4096 (by omega) b h s d) * Ideal.ofBits .f32 1035273459#32
      = (scoreZ (iblk m c 0 t) (iblk m c 1 t) (iblk m c 3 t) (iblk m c 4 t) h q s : EReal) := by
  obtain ⟨r, hr⟩ := dot_real (storedQ (iblk m c 0 t) (iblk m c 3 t)) (storedQ (iblk m c 1 t) (iblk m c 4 t)) (storedQ_real _ _ fun d => (hg c t d).1)
    (storedQ_real _ _ fun d => (hg c t d).2) h q s
  have e : (scoreZ (iblk m c 0 t) (iblk m c 1 t) (iblk m c 3 t) (iblk m c 4 t) h q s : EReal)
      = dotS (storedQ (iblk m c 0 t) (iblk m c 3 t)) (storedQ (iblk m c 1 t) (iblk m c 4 t)) h q s := by
    unfold scoreZ
    rw [hr]
    rfl
  rw [e]
  unfold dotS
  refine congrArg (· * _) (Finset.sum_congr rfl fun d _ => congrArg₂ (· * ·) ?_ ?_)
  · refine Eq.trans ?_ (rows_storedQ _ _ q h d).symm
    exact groupAt_congr (fun k => (blk_q m c t b hb q (col h k) _ rfl).symm) (blk_q m c t b hb q (col h d) _ rfl).symm (blk_gq m c t d d (by omega)).symm
  · refine Eq.trans ?_ (rows_storedQ _ _ s h d).symm
    exact groupAt_congr (fun k => (blk_k m c t b hb s (col h k) _ rfl).symm) (blk_k m c t b hb s (col h d) _ rfl).symm (blk_gk m c t d d (by omega)).symm

/-- The reference's result is the call's. -/
theorem ref_eq (hg : Gains m) (c : Dev nD) (V0 : Valuation Cert.AttnRefIdeal.τ Cert.AttnRefIdeal.sig (Elt Ideal))
    (h0 : V0 (Proc.devRef .tc Cert.AttnRefIdeal.main_arg0) = proj m c) (h1 : V0 (Proc.devRef .tc Cert.AttnRefIdeal.main_arg1) = gainQ m c)
    (h2 : V0 (Proc.devRef .tc Cert.AttnRefIdeal.main_arg2) = gainK m c) (h3 : V0 (Proc.devRef .tc Cert.AttnRefIdeal.main_arg3) = gainO m c) :
    Cert.AttnRefIdeal.Val.normed (Cert.AttnRefIdeal.Value.res_main_v59 V0) (V0 (Proc.devRef .tc Cert.AttnRefIdeal.main_arg3)) = result m c := by
  funext i
  obtain ⟨b, q, k, rfl⟩ : ∃ (b : Fin 8) (q : Fin 2064) (k : Fin 1024), i = ix3 b q k := ⟨i 0, i 1, i 2, eq_ix3 i⟩
  rw [Cert.AttnRefIdeal.Val.normed_at]
  have hv : ∀ (h : Fin 8) (d : Fin 128), Cert.AttnRefIdeal.Value.res_main_v59 V0 (ix4 b q h d)
      = outS (scoreZ (iblk m c 0 ⟨b, b.isLt⟩) (iblk m c 1 ⟨b, b.isLt⟩) (iblk m c 3 ⟨b, b.isLt⟩) (iblk m c 4 ⟨b, b.isLt⟩) h q)
          (fun s => valAt (iblk m c 2 ⟨b, b.isLt⟩) s (128 * (h : ℕ) + d)) q 0 := fun h d =>
    Cert.AttnRefIdeal.Val.v59_at V0 b h q d _ (fun s => by
        rw [Cert.AttnRefIdeal.Val.v41_at, h0, h1, h2]
        exact scores m hg c ⟨b, b.isLt⟩ b rfl h q s) _ (fun x => by
        rw [Cert.AttnRefIdeal.Val.v1_at, h0]
        unfold valAt
        rw [dif_pos ⟨x.isLt, by omega⟩]
        exact (blk_v m c ⟨b, b.isLt⟩ b rfl x _ _ (by show 3072 + (2048 + ((h : ℕ) * 128 + (d : ℕ))) = 5120 + (128 * (h : ℕ) + d); omega)).symm)
  show _ = rowS (iblk m c 5 ⟨b, b.isLt⟩) (valAt (iblk m c 2 ⟨b, b.isLt⟩)) (scoreZ (iblk m c 0 ⟨b, b.isLt⟩) (iblk m c 1 ⟨b, b.isLt⟩) (iblk m c 3 ⟨b, b.isLt⟩) (iblk m c 4 ⟨b, b.isLt⟩))
    ⟨(k : ℕ) / 128, by omega⟩ q ⟨(k : ℕ) % 128, by omega⟩
  unfold rowS
  refine groupAt_congr (fun x => hv _ x) (hv _ _) ?_
  rw [h3]
  refine (blk_go m c ⟨b, b.isLt⟩ _ _ ?_).symm
  show 1024 + (k : ℕ) = 1024 + (128 * ((k : ℕ) / 128) + (k : ℕ) % 128)
  omega

end Cert.AttnIdeal.Val

/-! ## The claim -/

namespace Cert.Proof.Attn

open Cert.AttnIdeal.Val

/-- The precondition's shape relations. -/
theorem facts_pre : Cert.Pre_finite_gains.Facts where
  concatenates_S1x128_S1x128_S1x256_d1 := by decide
  bcast_S_S1x256 := by decide

/-- A number whose magnitude is below infinity is a real. -/
theorem real_of_bit (x : EReal) (h : BitVec.ofBool (decide (FloatOps.absf (F := Ideal) (φ := .f32) x < Ideal.ofBits .f32 2139095040#32)) = 1#1) : ∃ r : ℝ, x = (r : EReal) := by
  have e : Ideal.ofBits .f32 2139095040#32 = ⊤ := by simp [Ideal.ofBits, Ideal.ieee]
  have hl : FloatOps.absf (F := Ideal) (φ := .f32) x < ⊤ := by
    rw [e] at h
    by_contra hn
    rw [decide_eq_false hn] at h
    exact absurd h (by decide)
  induction x with
  | bot => exact absurd hl (by show ¬max (⊥ : EReal) (-⊥) < ⊤; simp)
  | top => exact absurd hl (by show ¬max (⊤ : EReal) (-⊤) < ⊤; simp)
  | coe r => exact ⟨r, rfl⟩

section
variable [Cert.Pre_finite_gains.Facts] (p : FVec Ideal Cert.Pre_finite_gains.S8x2064x6144 .bf16) (a b : FVec Ideal Cert.Pre_finite_gains.S1x128 .f32)
  (o : FVec Ideal Cert.Pre_finite_gains.S1x2048 .f32) (hp : Cert.Pre_finite_gains.fn (F := Ideal) p a b o = fun _ => 1#1) (d : Fin 128)

include hp

/-- Under the precondition the queries' gains are numbers, -/
theorem real_q : ∃ r : ℝ, a (ix2 0 d) = (r : EReal) := by
  have e : Cert.Pre_finite_gains.fn (F := Ideal) p a b o (ix2 0 ⟨d, by omega⟩)
      = BitVec.ofBool (decide (FloatOps.absf (F := Ideal) (φ := .f32) (a (ix2 0 d)) < Ideal.ofBits .f32 2139095040#32)) := by
    pointwise [Cert.Pre_finite_gains.fn]
  exact real_of_bit _ (e.symm.trans (congrFun hp _))

/-- and the keys'. -/
theorem real_k : ∃ r : ℝ, b (ix2 0 d) = (r : EReal) := by
  have e : Cert.Pre_finite_gains.fn (F := Ideal) p a b o (ix2 0 ⟨128 + d, by omega⟩)
      = BitVec.ofBool (decide (FloatOps.absf (F := Ideal) (φ := .f32) (b (ix2 0 d)) < Ideal.ofBits .f32 2139095040#32)) := by
    pointwise [Cert.Pre_finite_gains.fn]
  exact real_of_bit _ (e.symm.trans (congrFun hp _))
end

/-- The reference's run, read. -/
theorem ref_run (m : (ℓ : Loc Cert.AttnRefIdeal.nD Cert.AttnRefIdeal.τ Cert.AttnRefIdeal.sig) → Buf (Elt Ideal) ℓ) (ρ : Dev Cert.AttnRefIdeal.nD → PrngReg) :
    θ_run Cert.AttnRefIdeal.defs (onTc (τ := Cert.AttnRefIdeal.τ) (Cert.AttnRefIdeal.main (F := Ideal))) ⟨m, fun _ => 0, ρ⟩ fun r => ∀ c : Dev Cert.AttnRefIdeal.nD,
      r.2.mem ((c.tc : Thread Cert.AttnRefIdeal.nD Cert.AttnRefIdeal.τ).loc Cert.AttnRefIdeal.main_v80)
          = Cert.AttnRefIdeal.Val.normed (Cert.AttnRefIdeal.Value.res_main_v59 (StableHlo.launchContents m c)) ((StableHlo.launchContents m c) (Proc.devRef .tc Cert.AttnRefIdeal.main_arg3))
      ∧ r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3) :=
  (θ_run Cert.AttnRefIdeal.defs _ _).mono (fun _ h c => ⟨(h c).1.trans (by unfold Cert.AttnRefIdeal.Val.normed; rfl), (h c).2⟩)
    (Cert.AttnRefIdeal.Value.run (F := Ideal) m ρ)

theorem algebraic : Cert.algebraic_AttnIdeal_AttnRefIdeal_pre_finite_gains (hPre_finite_gains := facts_pre) := by
  intro m ρ m' ρ' hp hagree
  letI := facts_pre
  have hg : Gains m := gains_of m fun c d => ⟨real_q _ _ _ _ (hp c) d, real_k _ _ _ _ (hp c) d⟩
  refine ⟨fun c => result m c, run m ρ hg, ?_⟩
  exact (θ_run Cert.AttnRefIdeal.defs _ _).mono (fun _ h c => ⟨(h c).1.trans
    (ref_eq m hg c (StableHlo.launchContents m' c) (hagree c).1 (hagree c).2.1 (hagree c).2.2.1 (hagree c).2.2.2), (h c).2⟩) (ref_run m' ρ')

end Cert.Proof.Attn

end
-- ==== Proof.AttnClaims.lean ====
/-
  The claims about the attention call, its value apart. The kernel and its ideal program have the same
  text, so one run over any float values gives both frames.
-/
module

public import proofs.«01_k».proof.Defs
public import proofs.«01_k».proof.Proof.AttnFrame
public import proofs.«01_k».proof.Proof.AttnValue
public import proofs.«01_k».proof.Proof.Gen.Attn
public import proofs.«01_k».proof.Proof.Gen.AttnRefIdeal.Run

@[expose] public section

noncomputable section

namespace Cert.Proof.Attn

open Idealize.ShloMosaic Idealize.SL.Sem

set_option maxHeartbeats 1000000 in
/-- The two programs' bodies are one, -/
theorem body_eq : Cert.Attn.cc0_attn_group (F := Bits) = Cert.AttnIdeal.cc0_attn_group (F := Bits) := by rfl

/-- so are their tables of bodies, -/
theorem defs₀_eq : Cert.Attn.defs₀ (F := Bits) = Cert.AttnIdeal.defs₀ (F := Bits) := by
  refine congrArg Defs.onTc ?_
  funext l a
  match l, a with
  | ⟨0, _⟩, (t, s) => dsimp only; rfl

/-- and their definitions. -/
theorem defs_eq : Cert.Attn.defs (F := Bits) = Cert.AttnIdeal.defs (F := Bits) :=
  congrArg (Pipeline.defs Cert.AttnIdeal.pcfgs) defs₀_eq

theorem frame_kernel : Cert.quiescent_Attn := fun m ρ _ => by
  have h := Cert.AttnIdeal.Hand.run_frame (F := Bits) m ρ
  rw [← defs_eq] at h
  exact h

theorem frame_ideal : Cert.quiescent_AttnIdeal := fun m ρ _ => Cert.AttnIdeal.Hand.run_frame m ρ

theorem frame_ideal_pre : Cert.quiescent_AttnIdeal_pre_finite_gains (hPre_finite_gains := facts_pre) := fun m ρ _ => Cert.AttnIdeal.Hand.run_frame m ρ

theorem frame_reference : Cert.quiescent_AttnRefIdeal := fun m ρ _ =>
  (θ_run Cert.AttnRefIdeal.defs _ _).mono (fun r h => ⟨fun c => (h c).2, sem_eq_zero_of_no_sems (by decide) r.2⟩)
    (Cert.AttnRefIdeal.Value.run (F := Ideal) m ρ)

theorem frame_reference_pre : Cert.quiescent_AttnRefIdeal_pre_finite_gains (hPre_finite_gains := facts_pre) := fun m ρ _ => frame_reference m ρ trivial

end Cert.Proof.Attn

end
-- ==== Proof.CombineValue.lean ====
/-
  THE LAST CALL, which brings the experts' partial sums together: each block of 64 tokens adds to the residual the sums of the
  chunks that have any pair of its tokens (`gathered`). The kernel's result (`run`) and the reference's (`ref_eq`) are the
  tokens' rows of the same array (`combined`), the meta tokens dropped.
-/
module
public import proofs.«01_k».proof.Defs
public import proofs.«01_k».proof.Proof.Norm
public import proofs.«01_k».proof.Proof.Gen.CombineIdeal.Frame
public import proofs.«01_k».proof.Proof.Gen.Combine.Frame
public import proofs.«01_k».proof.Proof.Gen.CombineRefIdeal.Run
public import Idealize.ShloMosaic.Lib.StableHlo.ReadAt
public import Idealize.ShloMosaic.Lib.Quiescent
public import Idealize.ShloMosaic.Lib.Pointwise
public import Idealize.ShloMosaic.Lib.WritesUnit
@[expose] public section
set_option maxRecDepth 16384
noncomputable section
open Idealize.ShloMosaic Idealize.ShloMosaic.TcCoe Idealize.SL.Sem
open Idealize.ShloMosaic.Pipeline (Dat)

namespace Cert.CombineIdeal.Val
open Cert.CombineIdeal Cert.CombineIdeal.Gen Cert.Proof

/-- A row's entry of the residual and the four chunks' partial sums at it, each where its word is not zero. -/
def gathered (h : EReal) (p : Fin 4 → EReal) (w : Fin 4 → BitVec 32) : EReal :=
  h + ∑ q, Scalar.select (Scalar.cmpi CmpIPredicate.ne (w q) 0#32) (p q) (0 : EReal)

theorem off_val (i : grid0.Coords) (q : Fin 4) (s : Fin 3) :
    k0_off1 i (BitVec.ofNat 32 (258 * q)) (BitVec.ofNat 32 s) 0 = 258 * q + 3 * (i 0 : Nat) + s := by
  have hi : (i 0 : Nat) < 86 := (i 0).isLt
  show (BitVec.ofNat 32 (258 * q) + BitVec.ofNat 32 (i 0 : Nat) * 3#32 + BitVec.ofNat 32 s).toNat = _
  simp only [BitVec.toNat_add, BitVec.toNat_mul, BitVec.toNat_ofNat]
  omega

/-- The scalar the body reads at chunk `q` of its row group `s`. -/
theorem word_eq (c : Dev nD) (i : grid0.Coords) (f : TbBuf0 (F := Ideal) c tbM0_0) (a b : BitVec 32) (q : Fin 4) (s : Fin 3)
    (ha : a = BitVec.ofNat 32 (258 * q)) (hb : b = BitVec.ofNat 32 s) (h : ∀ x, k0_off1 i a b x + S1.size x ≤ S1032.size x) (z : S1.Idx)
    (n : Fin 1032) (hn : (n : Nat) = 258 * q + 3 * (i 0 : Nat) + s) :
    View.readAt (Elt Ideal) (View.whole main_v0) (Rect.unit (s := S1032) (k0_off1 i a b) S1.size h).toLoadRect f z = f (ix1 n) := by
  subst ha hb
  show f _ = f _
  refine congrArg f (funext fun x => Fin.ext ?_)
  obtain rfl : x = (0 : Fin 1) := Subsingleton.elim (α := Fin 1) _ _
  have hz : (z 0 : Nat) < 1 := (z 0).isLt
  show k0_off1 i _ _ 0 + 1 * (z 0 : Nat) = n
  rw [off_val]; omega

theorem gathered_four (h p0 p1 p2 p3 : EReal) (w0 w1 w2 w3 : BitVec 32) :
    h + Scalar.select (Scalar.cmpi CmpIPredicate.ne w0 0#32) p0 0 + Scalar.select (Scalar.cmpi CmpIPredicate.ne w1 0#32) p1 0
        + Scalar.select (Scalar.cmpi CmpIPredicate.ne w2 0#32) p2 0 + Scalar.select (Scalar.cmpi CmpIPredicate.ne w3 0#32) p3 0
      = gathered h ![p0, p1, p2, p3] ![w0, w1, w2, w3] := by
  unfold gathered
  rw [Fin.sum_univ_four]
  simp only [add_assoc]
  rfl

theorem first_apply (h : FVec Ideal S64x2048 .f32) (p0 p1 p2 p3 : FVec Ideal S1x64x2048 .f32) (w0 w1 w2 w3 : BitVec 32) (r : Fin 64) (k : Fin 2048) :
    k0_pay4 (F := Ideal) (k0_pay2 h w0 p0 w1 p1) (k0_pay3 w2 p2) w3 p3 (ix2 r k)
      = gathered (h (ix2 r k)) ![p0 (ix3 0 r k), p1 (ix3 0 r k), p2 (ix3 0 r k), p3 (ix3 0 r k)] ![w0, w1, w2, w3] := by
  pointwise [k0_pay4, k0_pay2, k0_pay3]
  exact gathered_four _ _ _ _ _ _ _ _ _

theorem second_apply (h : FVec Ideal S64x2048 .f32) (p0 p1 p2 p3 : FVec Ideal S1x64x2048 .f32) (w0 w1 w2 w3 : BitVec 32) (r : Fin 64) (k : Fin 2048) :
    k0_pay6 (F := Ideal) (k0_pay5 h w0 p0) (Scalar.cmpi .ne w1 0#32) p1 w2 p2 w3 p3 (ix2 r k)
      = gathered (h (ix2 r k)) ![p0 (ix3 0 r k), p1 (ix3 0 r k), p2 (ix3 0 r k), p3 (ix3 0 r k)] ![w0, w1, w2, w3] := by
  pointwise [k0_pay6, k0_pay5]
  exact gathered_four _ _ _ _ _ _ _ _ _

theorem third_apply (h : FVec Ideal S64x2048 .f32) (p0 p1 p2 p3 : FVec Ideal S1x64x2048 .f32) (w0 w1 w2 w3 : BitVec 32) (r : Fin 64) (k : Fin 2048) :
    k0_pay1 (F := Ideal) (k0_pay7 h (Scalar.cmpi .ne w0 0#32) p0 w1 p1 w2 p2) (Scalar.cmpi .ne w3 0#32) p3 (ix2 r k)
      = gathered (h (ix2 r k)) ![p0 (ix3 0 r k), p1 (ix3 0 r k), p2 (ix3 0 r k), p3 (ix3 0 r k)] ![w0, w1, w2, w3] := by
  pointwise [k0_pay1, k0_pay7]
  exact gathered_four _ _ _ _ _ _ _ _ _

/-- A load of a rank-2 buffer's rows from `o` on. -/
theorem rows2 {v : Memref sig .tc .vmem S192x2048 .f32} (hv : v.IsWhole) (x : Vec Ideal S192x2048 .f32) (o : ℕ)
    (h : ∀ a, (![o, 0] : Fin 2 → ℕ) a + S64x2048.size a ≤ S192x2048.size a) (r : Fin 64) (k : Fin 2048) (R : Fin 192) (hR : (R : Nat) = o + r) :
    View.readAt (Elt Ideal) v.view (Rect.unit (s := S192x2048) ![o, 0] S64x2048.size h).toLoadRect (hv.unread x) (ix2 r k) = x (ix2 R k) := by
  show View.ld (v.view.read (Elt Ideal) (hv.unread x)) (Rect.unit (s := S192x2048) ![o, 0] S64x2048.size h) (ix2 r k) = _
  rw [hv.read_unread]
  refine congrArg x (idx2_ext ?_ ?_)
  · show o + 1 * (r : Nat) = R; omega
  · show 0 + 1 * (k : Nat) = k; omega

/-- A load of a chunk's rows from `o` on. -/
theorem rows3 {v : Memref sig .tc .vmem S4x192x2048 .f32} (hv : v.IsWhole) (x : Vec Ideal S4x192x2048 .f32) (q : Fin 4) (o : ℕ)
    (h : ∀ a, (![(q : Nat), o, 0] : Fin 3 → ℕ) a + S1x64x2048.size a ≤ S4x192x2048.size a) (r : Fin 64) (k : Fin 2048) (R : Fin 192) (hR : (R : Nat) = o + r) :
    View.readAt (Elt Ideal) v.view (Rect.unit (s := S4x192x2048) ![(q : Nat), o, 0] S1x64x2048.size h).toLoadRect (hv.unread x) (ix3 0 r k) = x (ix3 q R k) := by
  show View.ld (v.view.read (Elt Ideal) (hv.unread x)) (Rect.unit (s := S4x192x2048) ![(q : Nat), o, 0] S1x64x2048.size h) (ix3 0 r k) = _
  rw [hv.read_unread]
  refine congrArg x (funext fun a => Fin.ext ?_)
  match a with
  | ⟨0, _⟩ => show (q : Nat) + 1 * 0 = q; omega
  | ⟨1, _⟩ => show o + 1 * (r : Nat) = R; omega
  | ⟨2, _⟩ => show 0 + 1 * (k : Nat) = k; omega

theorem gathered_congr {h h' p0 p1 p2 p3 : EReal} {p : Fin 4 → EReal} {w0 w1 w2 w3 : BitVec 32} {w : Fin 4 → BitVec 32} (e : h = h')
    (e0 : p0 = p 0) (e1 : p1 = p 1) (e2 : p2 = p 2) (e3 : p3 = p 3) (f0 : w0 = w 0) (f1 : w1 = w 1) (f2 : w2 = w 2) (f3 : w3 = w 3) :
    gathered h ![p0, p1, p2, p3] ![w0, w1, w2, w3] = gathered h' p w := by
  subst e e0 e1 e2 e3 f0 f1 f2 f3
  congr 1
  · funext q; fin_cases q <;> rfl
  · funext q; fin_cases q <;> rfl

section
variable (c : Dev nD) (i : grid0.Coords) (arg2 : Memref sig .tc .vmem S192x2048 .f32) (harg2 : arg2.IsWhole) (arg3 : Memref sig .tc .vmem S4x192x2048 .f32) (harg3 : arg3.IsWhole)
  (x0 : Vec Ideal S192x2048 .f32) (x1 : Vec Ideal S4x192x2048 .f32) (xt0 : TbBuf0 (F := Ideal) c tbM0_0)

/-- The residual's rows from `o` on. -/
abbrev res (o : ℕ) (h : ∀ a, (![o, 0] : Fin 2 → ℕ) a + S64x2048.size a ≤ S192x2048.size a) : FVec Ideal S64x2048 .f32 :=
  View.readAt (Elt Ideal) arg2.view (Rect.unit (s := S192x2048) ![o, 0] S64x2048.size h).toLoadRect (harg2.unread x0)
/-- Chunk `q`'s rows from `o` on. -/
abbrev part (q o : ℕ) (h : ∀ a, (![q, o, 0] : Fin 3 → ℕ) a + S1x64x2048.size a ≤ S4x192x2048.size a) : FVec Ideal S1x64x2048 .f32 :=
  View.readAt (Elt Ideal) arg3.view (Rect.unit (s := S4x192x2048) ![q, o, 0] S1x64x2048.size h).toLoadRect (harg3.unread x1)
theorem one_word : 0 < S1.numel := by decide
/-- A word of the table. -/
abbrev word (a b : BitVec 32) (h : ∀ x, k0_off1 i a b x + S1.size x ≤ S1032.size x) : BitVec 32 :=
  View.readAt (Elt Ideal) (View.whole main_v0) (Rect.unit (s := S1032) (k0_off1 i a b) S1.size h).toLoadRect xt0 (Shape.Idx.first one_word)

/-- The three stores of a step. -/
def first : FVec Ideal S64x2048 .f32 :=
  k0_pay4 (k0_pay2 (res arg2 harg2 x0 0 inb_S192x2048_S64x2048_0_0) (word c i xt0 0#32 0#32 (k0_off1_inb i 0 0)) (part arg3 harg3 x1 0 0 inb_S4x192x2048_S1x64x2048_0_0_0) (word c i xt0 258#32 0#32 (k0_off1_inb i 1 0)) (part arg3 harg3 x1 1 0 inb_S4x192x2048_S1x64x2048_1_0_0)) (k0_pay3 (word c i xt0 516#32 0#32 (k0_off1_inb i 2 0)) (part arg3 harg3 x1 2 0 inb_S4x192x2048_S1x64x2048_2_0_0)) (word c i xt0 774#32 0#32 (k0_off1_inb i 3 0)) (part arg3 harg3 x1 3 0 inb_S4x192x2048_S1x64x2048_3_0_0)
def second : FVec Ideal S64x2048 .f32 :=
  k0_pay6 (k0_pay5 (res arg2 harg2 x0 64 inb_S192x2048_S64x2048_64_0) (word c i xt0 0#32 1#32 (k0_off1_inb i 0 1)) (part arg3 harg3 x1 0 64 inb_S4x192x2048_S1x64x2048_0_64_0)) (Scalar.cmpi .ne (word c i xt0 258#32 1#32 (k0_off1_inb i 1 1)) 0#32) (part arg3 harg3 x1 1 64 inb_S4x192x2048_S1x64x2048_1_64_0) (word c i xt0 516#32 1#32 (k0_off1_inb i 2 1)) (part arg3 harg3 x1 2 64 inb_S4x192x2048_S1x64x2048_2_64_0) (word c i xt0 774#32 1#32 (k0_off1_inb i 3 1)) (part arg3 harg3 x1 3 64 inb_S4x192x2048_S1x64x2048_3_64_0)
def third : FVec Ideal S64x2048 .f32 :=
  k0_pay1 (k0_pay7 (res arg2 harg2 x0 128 inb_S192x2048_S64x2048_128_0) (Scalar.cmpi .ne (word c i xt0 0#32 2#32 (k0_off1_inb i 0 2)) 0#32) (part arg3 harg3 x1 0 128 inb_S4x192x2048_S1x64x2048_0_128_0) (word c i xt0 258#32 2#32 (k0_off1_inb i 1 2)) (part arg3 harg3 x1 1 128 inb_S4x192x2048_S1x64x2048_1_128_0) (word c i xt0 516#32 2#32 (k0_off1_inb i 2 2)) (part arg3 harg3 x1 2 128 inb_S4x192x2048_S1x64x2048_2_128_0)) (Scalar.cmpi .ne (word c i xt0 774#32 2#32 (k0_off1_inb i 3 2)) 0#32) (part arg3 harg3 x1 3 128 inb_S4x192x2048_S1x64x2048_3_128_0)

theorem pieces (arg4 : Memref sig .tc .vmem S192x2048 .f32) (harg4 : arg4.IsWhole) :
    (kernelRun0_A c i arg2 harg2 arg3 harg3 arg4 harg4 x0 x1 xt0).1
      = [⟨Rect.unit ![128, 0] S64x2048.size inb_S192x2048_S64x2048_128_0, third c i arg2 harg2 arg3 harg3 x0 x1 xt0⟩,
        ⟨Rect.unit ![64, 0] S64x2048.size inb_S192x2048_S64x2048_64_0, second c i arg2 harg2 arg3 harg3 x0 x1 xt0⟩,
        ⟨Rect.unit ![0, 0] S64x2048.size inb_S192x2048_S64x2048_0_0, first c i arg2 harg2 arg3 harg3 x0 x1 xt0⟩] := rfl

/-- The gathered entry of row `R`. -/
abbrev entry (R : Fin 192) (k : Fin 2048) : EReal :=
  gathered (x0 (ix2 R k)) (fun q => x1 (ix3 q R k)) (fun q => xt0 (ix1 (n0 := 1032) ⟨258 * q + 3 * (i 0 : Nat) + (R : Nat) / 64, by
    have h : (i 0 : Nat) < 86 := (i 0).isLt
    omega⟩))

theorem first_entry (r : Fin 64) (k : Fin 2048) (R : Fin 192) (hR : (R : Nat) = 0 + r) :
    first c i arg2 harg2 arg3 harg3 x0 x1 xt0 (ix2 r k) = entry c i x0 x1 xt0 R k := by
  unfold first
  refine (first_apply _ _ _ _ _ _ _ _ _ _ _).trans (gathered_congr (rows2 harg2 x0 0 _ _ _ _ hR) (rows3 harg3 x1 0 0 _ _ _ _ hR)
    (rows3 harg3 x1 1 0 _ _ _ _ hR) (rows3 harg3 x1 2 0 _ _ _ _ hR) (rows3 harg3 x1 3 0 _ _ _ _ hR) ?_ ?_ ?_ ?_)
  · exact word_eq c i xt0 _ _ 0 0 rfl rfl _ _ _ (by show 258 * 0 + 3 * (i 0 : Nat) + (R : Nat) / 64 = 258 * 0 + 3 * (i 0 : Nat) + 0; omega)
  · exact word_eq c i xt0 _ _ 1 0 rfl rfl _ _ _ (by show 258 * 1 + 3 * (i 0 : Nat) + (R : Nat) / 64 = 258 * 1 + 3 * (i 0 : Nat) + 0; omega)
  · exact word_eq c i xt0 _ _ 2 0 rfl rfl _ _ _ (by show 258 * 2 + 3 * (i 0 : Nat) + (R : Nat) / 64 = 258 * 2 + 3 * (i 0 : Nat) + 0; omega)
  · exact word_eq c i xt0 _ _ 3 0 rfl rfl _ _ _ (by show 258 * 3 + 3 * (i 0 : Nat) + (R : Nat) / 64 = 258 * 3 + 3 * (i 0 : Nat) + 0; omega)

theorem second_entry (r : Fin 64) (k : Fin 2048) (R : Fin 192) (hR : (R : Nat) = 64 + r) :
    second c i arg2 harg2 arg3 harg3 x0 x1 xt0 (ix2 r k) = entry c i x0 x1 xt0 R k := by
  unfold second
  refine (second_apply _ _ _ _ _ _ _ _ _ _ _).trans (gathered_congr (rows2 harg2 x0 64 _ _ _ _ hR) (rows3 harg3 x1 0 64 _ _ _ _ hR)
    (rows3 harg3 x1 1 64 _ _ _ _ hR) (rows3 harg3 x1 2 64 _ _ _ _ hR) (rows3 harg3 x1 3 64 _ _ _ _ hR) ?_ ?_ ?_ ?_)
  · exact word_eq c i xt0 _ _ 0 1 rfl rfl _ _ _ (by show 258 * 0 + 3 * (i 0 : Nat) + (R : Nat) / 64 = 258 * 0 + 3 * (i 0 : Nat) + 1; omega)
  · exact word_eq c i xt0 _ _ 1 1 rfl rfl _ _ _ (by show 258 * 1 + 3 * (i 0 : Nat) + (R : Nat) / 64 = 258 * 1 + 3 * (i 0 : Nat) + 1; omega)
  · exact word_eq c i xt0 _ _ 2 1 rfl rfl _ _ _ (by show 258 * 2 + 3 * (i 0 : Nat) + (R : Nat) / 64 = 258 * 2 + 3 * (i 0 : Nat) + 1; omega)
  · exact word_eq c i xt0 _ _ 3 1 rfl rfl _ _ _ (by show 258 * 3 + 3 * (i 0 : Nat) + (R : Nat) / 64 = 258 * 3 + 3 * (i 0 : Nat) + 1; omega)

theorem third_entry (r : Fin 64) (k : Fin 2048) (R : Fin 192) (hR : (R : Nat) = 128 + r) :
    third c i arg2 harg2 arg3 harg3 x0 x1 xt0 (ix2 r k) = entry c i x0 x1 xt0 R k := by
  unfold third
  refine (third_apply _ _ _ _ _ _ _ _ _ _ _).trans (gathered_congr (rows2 harg2 x0 128 _ _ _ _ hR) (rows3 harg3 x1 0 128 _ _ _ _ hR)
    (rows3 harg3 x1 1 128 _ _ _ _ hR) (rows3 harg3 x1 2 128 _ _ _ _ hR) (rows3 harg3 x1 3 128 _ _ _ _ hR) ?_ ?_ ?_ ?_)
  · exact word_eq c i xt0 _ _ 0 2 rfl rfl _ _ _ (by show 258 * 0 + 3 * (i 0 : Nat) + (R : Nat) / 64 = 258 * 0 + 3 * (i 0 : Nat) + 2; omega)
  · exact word_eq c i xt0 _ _ 1 2 rfl rfl _ _ _ (by show 258 * 1 + 3 * (i 0 : Nat) + (R : Nat) / 64 = 258 * 1 + 3 * (i 0 : Nat) + 2; omega)
  · exact word_eq c i xt0 _ _ 2 2 rfl rfl _ _ _ (by show 258 * 2 + 3 * (i 0 : Nat) + (R : Nat) / 64 = 258 * 2 + 3 * (i 0 : Nat) + 2; omega)
  · exact word_eq c i xt0 _ _ 3 2 rfl rfl _ _ _ (by show 258 * 3 + 3 * (i 0 : Nat) + (R : Nat) / 64 = 258 * 3 + 3 * (i 0 : Nat) + 2; omega)

/-- Reading an entry of the 64 rows stored last, and one outside of them. -/
theorem rows_hit (v : View sig .tc .vmem S192x2048 .f32) (f : v.ty.Contents (Elt Ideal)) (o : ℕ) (h : ∀ a, (![o, 0] : Fin 2 → ℕ) a + S64x2048.size a ≤ S192x2048.size a)
    (w : FVec Ideal S64x2048 .f32) (L : List (View.Piece (Elt Ideal) S192x2048 .f32)) (R : Fin 192) (k : Fin 2048) (r : Fin 64) (hr : (R : Nat) = o + r) :
    v.read (Elt Ideal) (v.writes (Elt Ideal) f ((⟨Rect.unit (s := S192x2048) ![o, 0] S64x2048.size h, w⟩ : View.Piece (Elt Ideal) S192x2048 .f32) :: L)) (ix2 R k) = w (ix2 r k) :=
  View.read_writes_cons_unit_of_mem v f h w L (ix2 R k) (ix2 r k) rfl fun a => match a with
    | ⟨0, _⟩ => hr
    | ⟨1, _⟩ => (Nat.zero_add _).symm

theorem rows_miss (v : View sig .tc .vmem S192x2048 .f32) (f : v.ty.Contents (Elt Ideal)) (o : ℕ) (h : ∀ a, (![o, 0] : Fin 2 → ℕ) a + S64x2048.size a ≤ S192x2048.size a)
    (w : FVec Ideal S64x2048 .f32) (L : List (View.Piece (Elt Ideal) S192x2048 .f32)) (R : Fin 192) (k : Fin 2048) (hr : (R : Nat) < o ∨ o + 64 ≤ (R : Nat)) :
    v.read (Elt Ideal) (v.writes (Elt Ideal) f ((⟨Rect.unit (s := S192x2048) ![o, 0] S64x2048.size h, w⟩ : View.Piece (Elt Ideal) S192x2048 .f32) :: L)) (ix2 R k)
      = v.read (Elt Ideal) (v.writes (Elt Ideal) f L) (ix2 R k) :=
  View.read_writes_cons_unit_of_not_mem v f h w L (ix2 R k) rfl (0 : Fin 2) hr

/-- What a step leaves of its output block, an entry at a time: the entry of the residual and the four chunks' entries where
    the words of the entry's 64 rows are not zero. -/
theorem out_apply (arg4 : Memref sig .tc .vmem S192x2048 .f32) (harg4 : arg4.IsWhole) (R : Fin 192) (k : Fin 2048) :
    out0_A_2 c i arg2 harg2 arg3 harg3 arg4 harg4 x0 x1 xt0 (ix2 R k) = entry c i x0 x1 xt0 R k := by
  unfold out0_A_2
  rw [pieces]
  have hR := R.isLt
  rcases Nat.lt_or_ge R.val 128 with h128 | h128
  · rw [rows_miss _ _ 128 _ _ _ _ _ (.inl h128)]
    rcases Nat.lt_or_ge R.val 64 with h64 | h64
    · rw [rows_miss _ _ 64 _ _ _ _ _ (.inl h64), rows_hit _ _ 0 _ _ _ _ _ ⟨R, h64⟩ (Nat.zero_add _).symm]
      exact first_entry c i arg2 harg2 arg3 harg3 x0 x1 xt0 _ _ _ (Nat.zero_add _).symm
    · rw [rows_hit _ _ 64 _ _ _ _ _ ⟨R - 64, by omega⟩ (Nat.add_sub_cancel' h64).symm]
      exact second_entry c i arg2 harg2 arg3 harg3 x0 x1 xt0 _ _ _ (Nat.add_sub_cancel' h64).symm
  · rw [rows_hit _ _ 128 _ _ _ _ _ ⟨R - 128, by omega⟩ (Nat.add_sub_cancel' h128).symm]
    exact third_entry c i arg2 harg2 arg3 harg3 x0 x1 xt0 _ _ _ (Nat.add_sub_cancel' h128).symm

end

/-! ## The run -/

/-- The residual with every chunk's partial sums, a chunk's where its word of the token's block is not zero. -/
def combined (h : FVec Ideal S16512x2048 .f32) (p : FVec Ideal S4x16512x2048 .f32) (w : IVec S4x258 32) : FVec Ideal S16512x2048 .f32 :=
  fun j => gathered (h j) (fun q => p (ix3 q (j 0) (j 1))) (fun q => w (ix2 q ⟨(j 0 : Nat) / 64, by
    have h : (j 0 : Nat) < 16512 := (j 0).isLt
    omega⟩))

variable (m : (ℓ : Loc nD τ sig) → Buf (Elt Ideal) ℓ) (ρ : Dev nD → PrngReg)

/-- No window reads the table, so any table will do. -/
theorem ok : Ok m := trivial

theorem table_apply (c : Dev nD) (n : Fin 1032) :
    tbl m 0 (ix1 n) = m ((c : Thread nD τ).loc main_arg2) (ix2 (n0 := 4) (n1 := 258) ⟨(n : Nat) / 258, by omega⟩ ⟨(n : Nat) % 258, Nat.mod_lt _ (by decide)⟩) := by
  obtain rfl : c = 0 := Subsingleton.elim _ _
  show V m 0 main_v0 (ix1 n) = _
  unfold V
  after_reads_at

abbrev win (w : Fin 3) := (cfgM m (ok m)).win w

theorem index_facts (t : Fin grid0.N) : (grid0.coords t 0 : Nat) = t.val
    ∧ (cc0_transform_0 (grid0.coords t) 0 * 192 = 192 * t.val ∧ cc0_transform_0 (grid0.coords t) 1 * 2048 = 0)
    ∧ (cc0_transform_1 (grid0.coords t) 0 * 4 = 0 ∧ cc0_transform_1 (grid0.coords t) 1 * 192 = 192 * t.val ∧ cc0_transform_1 (grid0.coords t) 2 * 2048 = 0)
    ∧ (cc0_transform_2 (grid0.coords t) 0 * 192 = 192 * t.val ∧ cc0_transform_2 (grid0.coords t) 1 * 2048 = 0) := by
  revert t; decide +kernel

theorem blk_h (c : Dev nD) (t : Fin grid0.N) (r : Fin 192) (k : Fin 2048) (R : Fin 16512) (hR : (R : Nat) = 192 * t.val + r) :
    iblk m (ok m) c 0 t (ix2 r k) = m ((c : Thread nD τ).loc main_arg0) (ix2 R k) := by
  obtain ⟨-, ⟨a0, a1⟩, -⟩ := index_facts t
  show V m c main_arg0 (((win m 0).rect t).emb _) = _
  rw [V_main_arg0]
  refine congrArg _ (idx2_ext ?_ ?_)
  · show cc0_transform_0 (grid0.coords t) 0 * 192 + 1 * (r : Nat) = R; rw [a0]; omega
  · show cc0_transform_0 (grid0.coords t) 1 * 2048 + 1 * (k : Nat) = k; rw [a1]; omega

theorem blk_p (c : Dev nD) (t : Fin grid0.N) (q : Fin 4) (r : Fin 192) (k : Fin 2048) (R : Fin 16512) (hR : (R : Nat) = 192 * t.val + r) :
    iblk m (ok m) c 1 t (ix3 q r k) = m ((c : Thread nD τ).loc main_arg1) (ix3 q R k) := by
  obtain ⟨-, -, ⟨a0, a1, a2⟩, -⟩ := index_facts t
  show V m c main_arg1 (((win m 1).rect t).emb _) = _
  rw [V_main_arg1]
  refine congrArg _ (funext fun a => Fin.ext ?_)
  match a with
  | ⟨0, _⟩ => show cc0_transform_1 (grid0.coords t) 0 * 4 + 1 * (q : Nat) = q; rw [a0]; omega
  | ⟨1, _⟩ => show cc0_transform_1 (grid0.coords t) 1 * 192 + 1 * (r : Nat) = R; rw [a1]; omega
  | ⟨2, _⟩ => show cc0_transform_1 (grid0.coords t) 2 * 2048 + 1 * (k : Nat) = k; rw [a2]; omega

abbrev combinedOf (c : Dev nD) : Buf (Elt Ideal) ((c : Thread nD τ).loc main_v1) :=
  combined (m ((c : Thread nD τ).loc main_arg0)) (m ((c : Thread nD τ).loc main_arg1)) (m ((c : Thread nD τ).loc main_arg2))

/-- What step `t` writes back is its block of the combined array. -/
theorem flushed_eq (c : Dev nD) (t : Fin grid0.N) :
    (dats m (ok m) 0 c).flushed 2 t = ((win m 2).blk t).view.read (Elt Ideal) (combinedOf m c) := by
  show (win m 2).cut (grid0.coords t) ((dats m (ok m) 0 c).after 2 t) = _
  rw [after0_2]
  funext y
  obtain ⟨e0, -, -, c0, c1⟩ := index_facts t
  have hy : (y 0 : Nat) < 192 := (y 0).isLt
  have ht : t.val < 86 := t.isLt
  have e : ((win m 2).rect t).emb y = ix2 (n0 := 16512) (n1 := 2048) ⟨192 * t.val + y 0, by omega⟩ (y 1) := by
    refine idx2_ext ?_ ?_
    · show cc0_transform_2 (grid0.coords t) 0 * 192 + 1 * (y 0 : Nat) = 192 * t.val + y 0; rw [c0]; omega
    · show cc0_transform_2 (grid0.coords t) 1 * 2048 + 1 * (y 1 : Nat) = y 1; rw [c1]; omega
  show outsAt0 m (ok m) c t y = combinedOf m c (((win m 2).rect t).emb y)
  rw [e]
  refine (congrArg _ (ix2_eta y)).symm.trans ?_
  unfold outsAt0
  refine (out_apply c _ _ _ _ _ _ _ _ _ _ (y 0) (y 1)).trans ?_
  show gathered _ _ _ = gathered _ _ _
  congr 1
  · exact blk_h m c t _ _ _ rfl
  · funext q; exact blk_p m c t q _ _ _ rfl
  · funext q
    refine (table_apply m c _).trans (congrArg _ (idx2_ext ?_ ?_))
    · show (258 * (q : Nat) + 3 * (grid0.coords t 0 : Nat) + (y 0 : Nat) / 64) / 258 = q
      rw [e0]; omega
    · show (258 * (q : Nat) + 3 * (grid0.coords t 0 : Nat) + (y 0 : Nat) / 64) % 258 = (192 * t.val + y 0) / 64
      rw [e0]; omega

/-- The blocks of the 86 steps fill the array. -/
theorem cover (i : S16512x2048.Idx) : ∃ t : Fin (cfgM m (ok m)).N, (win m 2).flush t = true ∧ i ∈ ((win m 2).blk t).view.set := by
  have h0 : (i 0 : Nat) < 16512 := (i 0).isLt
  have h1 : (i 1 : Nat) < 2048 := (i 1).isLt
  have ht : (i 0 : Nat) / 192 < grid0.N := by show (i 0 : Nat) / 192 < 86; omega
  refine ⟨⟨(i 0 : Nat) / 192, ht⟩, flush0_2 _ _, ?_⟩
  obtain ⟨-, -, -, c0, c1⟩ := index_facts ⟨(i 0 : Nat) / 192, ht⟩
  show i ∈ ((View.whole main_v1).slice ((win m 2).rect (⟨(i 0 : Nat) / 192, ht⟩ : Fin grid0.N))).set
  rw [View.set_slice_whole, Rect.mem_set_unit]
  intro a
  match a with
  | ⟨0, _⟩ =>
    show cc0_transform_2 (grid0.coords ⟨(i 0 : Nat) / 192, ht⟩) 0 * 192 ≤ (i 0 : Nat) ∧ (i 0 : Nat) < cc0_transform_2 (grid0.coords ⟨(i 0 : Nat) / 192, ht⟩) 0 * 192 + 192
    rw [c0]; dsimp only; omega
  | ⟨1, _⟩ =>
    show cc0_transform_2 (grid0.coords ⟨(i 0 : Nat) / 192, ht⟩) 1 * 2048 ≤ (i 1 : Nat) ∧ (i 1 : Nat) < cc0_transform_2 (grid0.coords ⟨(i 0 : Nat) / 192, ht⟩) 1 * 2048 + 2048
    rw [c1]; omega

theorem final (c : Dev nD) : (dats m (ok m) 0 c).arrAt 2 (cfgM m (ok m)).N = combinedOf m c :=
  (dats m (ok m) 0 c).arrAt_eq_of_cover 2 (combinedOf m c) (fun t _ => flushed_eq m c t) (cover m)

/-- The tokens' rows, sequence by sequence, without the 16 meta tokens. -/
def tokensOf (v : FVec Ideal S16512x2048 .f32) : FVec Ideal S8x2048x2048 .f32 :=
  extractStridedSlice S8x2048x2048 ![0, 16, 0] (shapeCast S8x2064x2048 v shapeCasts_S16512x2048_S8x2064x2048) slices_S8x2064x2048_S8x2048x2048_0_16_0

theorem tail_eq (c : Dev nD) :
    Pipeline.afterTail pcfgs (fun _ => adm m (ok m)) (dats m (ok m)) 0 (V0 m) [hostOps1] c main_v3 = tokensOf (combinedOf m c) := by
  have e : Pipeline.withArrays spec0 c (V0 m c) (fun w => (dats m (ok m) 0 c).arrAt w (cfgM m (ok m)).N) (Proc.devRef .tc main_v1) = combinedOf m c :=
    (Pipeline.withArrays_arr spec0 (by decide) c (V0 m c) (fun w => (dats m (ok m) 0 c).arrAt w (cfgM m (ok m)).N) 2).trans (final m c)
  show StableHlo.after hostOps1 (Pipeline.withArrays spec0 c (V0 m c) (fun w => (dats m (ok m) 0 c).arrAt w (cfgM m (ok m)).N)) (Proc.devRef .tc main_v3) = _
  rw [← e]
  generalize Pipeline.withArrays spec0 c (V0 m c) (fun w => (dats m (ok m) 0 c).arrAt w (cfgM m (ok m)).N) = W
  unfold hostOps1
  after_results
  all_goals rfl

/-- The run, read: the result is the combined array's token rows, the arguments unchanged. -/
theorem run : θ_run defs (onTc (τ := τ) (main (F := Ideal))) ⟨m, fun _ => 0, ρ⟩ fun r => ∀ c : Dev nD,
      r.2.mem ((c : Thread nD τ).loc main_v3) = tokensOf (combinedOf m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h.1 c).2 main_v3 (by decide : main_v3 ∈ Pipeline.restRefs sig spec0)).trans (tail_eq m c), h.2 c⟩)
    (θ_run_and (run_main m ρ (ok m)) (unchanged m ρ (ok m)))

end Cert.CombineIdeal.Val

/-! ## The reference -/

namespace Cert.CombineRefIdeal.Val

open Cert.CombineRefIdeal Cert.CombineRefIdeal.Gen Cert.Proof

theorem ref_eq (h : FVec Ideal S16512x2048 .f32) (p : FVec Ideal S4x16512x2048 .f32) (w : IVec S4x258 32) :
    addf h (Host.reduceAdd (select (broadcastInDim S4x16512x2048 ![0, 1, 2] bcast_S4x16512x1_S4x16512x2048_0_1_2 (broadcastInDim S4x16512x1 ![0, 1] bcast_S4x16512_S4x16512x1_0_1 (shapeCast _ (broadcastInDim S4x258x64 ![0, 1] bcast_S4x258_S4x258x64_0_1 (cmpi .ne w (broadcastInDim S4x258 ![] bcast_S_S4x258 (constantI S_ 32 0#32)))) shapeCasts_S4x258x64_S4x16512))) p (broadcastInDim S4x16512x2048 ![] bcast_S_S4x16512x2048 (id (constant S_ .f32 0x00000000#32)))) (constant S_ .f32 0x00000000#32) reducesTo_S4x16512x2048_S16512x2048_d0 h_S_)
      = Cert.CombineIdeal.Val.combined h p w := by
  funext i
  rw [eq_ix2 i]
  pointwise
  show _ = h i + ∑ q : Fin 4, Scalar.select (Scalar.cmpi CmpIPredicate.ne (w (ix2 q ⟨(i 0 : Nat) / 64, _⟩)) 0#32) (p (ix3 q (i 0) (i 1))) (0 : EReal)
  refine congrArg (h i + ·) (Finset.sum_congr rfl fun q _ => ?_)
  have hz : (id (constant (F := Ideal) S_ .f32 0x00000000#32) : FVec Ideal S_ .f32) ix0 = 0 := by
    show constant (F := Ideal) S_ .f32 0x00000000#32 ix0 = 0
    pointwise
  rw [hz]
  rfl

end Cert.CombineRefIdeal.Val

/-! ## The claims -/

namespace Cert.Proof.Combine

theorem frame_kernel : Cert.quiescent_Combine := fun m ρ _ => Cert.Combine.Gen.frame m ρ trivial

theorem frame_ideal : Cert.quiescent_CombineIdeal := fun m ρ _ => Cert.CombineIdeal.Gen.frame m ρ trivial

theorem frame_reference : Cert.quiescent_CombineRefIdeal := fun m ρ _ =>
  (θ_run Cert.CombineRefIdeal.defs _ _).mono (fun r h => ⟨fun c => (h c).2, sem_eq_zero_of_no_sems (by decide) r.2⟩)
    (Cert.CombineRefIdeal.Value.run (F := Ideal) m ρ)

/-- Both end at the combined array's token rows. -/
theorem algebraic : Cert.algebraic_CombineIdeal_CombineRefIdeal := by
  intro m ρ m' ρ' _ hagree
  refine ⟨fun c => Cert.CombineIdeal.Val.tokensOf (Cert.CombineIdeal.Val.combinedOf m c), Cert.CombineIdeal.Val.run m ρ, ?_⟩
  refine (θ_run Cert.CombineRefIdeal.defs _ _).mono (fun _ h c => ⟨(h c).1.trans ?_, (h c).2⟩)
    (Cert.CombineRefIdeal.Value.run (F := Ideal) m' ρ')
  rw [(hagree c).1, (hagree c).2.1, (hagree c).2.2, Cert.CombineRefIdeal.Val.ref_eq]
  rfl

end Cert.Proof.Combine

end
-- ==== Proof.lean ====
/-
  The proof of `Cert.Claim` (proofs.«01_k».proof.Defs): the claims about each call, assembled from the modules that
  prove them.
-/
module

public import proofs.«01_k».proof.Defs
public import proofs.«01_k».proof.Proof.PackClaims
public import proofs.«01_k».proof.Proof.InprojValue
public import proofs.«01_k».proof.Proof.OutprojValue
public import proofs.«01_k».proof.Proof.QueryValue
public import proofs.«01_k».proof.Proof.ConvValue
public import proofs.«01_k».proof.Proof.AttnClaims
public import proofs.«01_k».proof.Proof.CombineValue

@[expose] public section

noncomputable section

namespace Cert.Proof

open Idealize.ShloMosaic Idealize.SL.Sem

theorem claim : Cert.Claim := ⟨Cert.Kernel.Gen.facts, Cert.Reference.Gen.facts,
  Cert.Inproj.Gen.facts, Cert.InprojIdeal.Gen.facts, Cert.InprojRefIdeal.Gen.facts,
  Cert.Conv.Gen.facts, Cert.ConvIdeal.Gen.facts, Cert.ConvRefIdeal.Gen.facts,
  Cert.Attn.Gen.facts, Cert.AttnIdeal.Gen.facts, Cert.AttnRefIdeal.Gen.facts,
  Cert.Outproj.Gen.facts, Cert.OutprojIdeal.Gen.facts, Cert.OutprojRefIdeal.Gen.facts,
  Cert.Query.Gen.facts, Cert.QueryIdeal.Gen.facts, Cert.QueryRefIdeal.Gen.facts,
  Cert.Combine.Gen.facts, Cert.CombineIdeal.Gen.facts, Cert.CombineRefIdeal.Gen.facts, Attn.facts_pre,
  Pack.frame_kernel, Pack.frame_reference,
  Inproj.frame_kernel, Inproj.frame_ideal, Inproj.frame_reference,
  Conv.frame_kernel, Conv.frame_ideal, Conv.frame_reference,
  Attn.frame_kernel, Attn.frame_ideal, Attn.frame_ideal_pre, Attn.frame_reference, Attn.frame_reference_pre,
  Outproj.frame_kernel, Outproj.frame_ideal, Outproj.frame_reference,
  Query.frame_kernel, Query.frame_ideal, Query.frame_reference,
  Combine.frame_kernel, Combine.frame_ideal, Combine.frame_reference,
  Pack.bitexact, trivial, Inproj.algebraic, trivial, Conv.algebraic, trivial, Attn.algebraic, trivial, Outproj.algebraic, trivial, Query.algebraic, trivial, Combine.algebraic⟩

end Cert.Proof

end
